-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x100x80 : Shape := ⟨3, ![4, 100, 80]⟩
abbrev S4x100x4 : Shape := ⟨3, ![4, 100, 4]⟩
abbrev S4x20000x80 : Shape := ⟨3, ![4, 20000, 80]⟩
abbrev S4x20000x4 : Shape := ⟨3, ![4, 20000, 4]⟩
abbrev S20000x4 : Shape := ⟨2, ![20000, 4]⟩
abbrev S4x64x80 : Shape := ⟨3, ![4, 64, 80]⟩
abbrev S_ : Shape := ⟨0, ![]⟩
abbrev S4x64 : Shape := ⟨2, ![4, 64]⟩
abbrev S4x36x4 : Shape := ⟨3, ![4, 36, 4]⟩

class Facts : Prop where
  slices_S4x100x80_S4x64x80_0_0_0 : S4x100x80.Slices ![0, 0, 0] S4x64x80
  bcast_S_S4x64x80 : S_.BroadcastsInDim S4x64x80 (![] : Fin 0 → Fin S4x64x80.rank)
  reducesTo_S4x64x80_S_d0_1_2 : S4x64x80.ReducesTo [0, 1, 2] S_
  h_S_ : 0 < S_.numel
  reducesTo_S4x64x80_S4x64_d2 : S4x64x80.ReducesTo [2] S4x64
  bcast_S_S4x64 : S_.BroadcastsInDim S4x64 (![] : Fin 0 → Fin S4x64.rank)
  reducesTo_S4x64_S_d0_1 : S4x64.ReducesTo [0, 1] S_
  slices_S4x100x4_S4x36x4_0_64_0 : S4x100x4.Slices ![0, 64, 0] S4x36x4
  bcast_S_S4x36x4 : S_.BroadcastsInDim S4x36x4 (![] : Fin 0 → Fin S4x36x4.rank)
  reducesTo_S4x36x4_S_d0_1_2 : S4x36x4.ReducesTo [0, 1, 2] S_
  bcast_S_S4x20000x80 : S_.BroadcastsInDim S4x20000x80 (![] : Fin 0 → Fin S4x20000x80.rank)
  reducesTo_S4x20000x80_S_d0_1_2 : S4x20000x80.ReducesTo [0, 1, 2] S_

variable [Facts]

def fn_part1 {F : FTy → Type} [FloatOps F] (main_arg2 : FVec F S4x20000x80 .f32) (main_v11 : IVec S_ 1) (main_v15 : IVec S_ 1) : IVec S_ 1 :=
  let main_cst_6 : FVec F S_ .f32 := constant S_ .f32 0x7F800000#32
  let main_v16 : FVec F S4x20000x80 .f32 := broadcastInDim S4x20000x80 ![] bcast_S_S4x20000x80 main_cst_6
  let main_v17 : IVec S4x20000x80 1 := cmpf .olt main_arg2 main_v16
  let main_c_7 : IVec S_ 1 := constantI S_ 1 1#1
  let main_v18 : IVec S_ 1 := (fun x v => Host.reduce IntOp.andi x v reducesTo_S4x20000x80_S_d0_1_2 h_S_) main_v17 main_c_7
  let main_v19 : IVec S_ 1 := andi main_v11 main_v15
  let main_v20 : IVec S_ 1 := andi main_v19 main_v18
  main_v20

def fn {F : FTy → Type} [FloatOps F] (main_arg0 : FVec F S4x100x80 .f32) (main_arg1 : FVec F S4x100x4 .f32) (main_arg2 : FVec F S4x20000x80 .f32) (main_arg3 : FVec F S4x20000x4 .f32) (main_arg4 : FVec F S20000x4 .f32) : IVec S_ 1 :=
  let main_v0 : FVec F S4x64x80 .f32 := (extractStridedSlice S4x64x80 ![0, 0, 0] · slices_S4x100x80_S4x64x80_0_0_0) main_arg0
  let main_cst : FVec F S_ .f32 := constant S_ .f32 0x00000000#32
  let main_v1 : FVec F S4x64x80 .f32 := broadcastInDim S4x64x80 ![] bcast_S_S4x64x80 main_cst
  let main_v2 : IVec S4x64x80 1 := cmpf .oeq main_v0 main_v1
  let main_cst_0 : FVec F S_ .f32 := constant S_ .f32 0x3F800000#32
  let main_v3 : FVec F S4x64x80 .f32 := broadcastInDim S4x64x80 ![] bcast_S_S4x64x80 main_cst_0
  let main_v4 : IVec S4x64x80 1 := cmpf .oeq main_v0 main_v3
  let main_v5 : IVec S4x64x80 1 := ori main_v2 main_v4
  let main_c : IVec S_ 1 := constantI S_ 1 1#1
  let main_v6 : IVec S_ 1 := (fun x v => Host.reduce IntOp.andi x v reducesTo_S4x64x80_S_d0_1_2 h_S_) main_v5 main_c
  let main_cst_1 : FVec F S_ .f32 := constant S_ .f32 0x00000000#32
  let main_v7 : FVec F S4x64 .f32 := (fun x v => Host.reduceAdd x v reducesTo_S4x64x80_S4x64_d2 h_S_) main_v0 main_cst_1
  let main_cst_2 : FVec F S_ .f32 := constant S_ .f32 0x3F800000#32
  let main_v8 : FVec F S4x64 .f32 := broadcastInDim S4x64 ![] bcast_S_S4x64 main_cst_2
  let main_v9 : IVec S4x64 1 := cmpf .oeq main_v7 main_v8
  let main_c_3 : IVec S_ 1 := constantI S_ 1 1#1
  let main_v10 : IVec S_ 1 := (fun x v => Host.reduce IntOp.andi x v reducesTo_S4x64_S_d0_1 h_S_) main_v9 main_c_3
  let main_v11 : IVec S_ 1 := andi main_v6 main_v10
  let main_v12 : FVec F S4x36x4 .f32 := (extractStridedSlice S4x36x4 ![0, 64, 0] · slices_S4x100x4_S4x36x4_0_64_0) main_arg1
  let main_cst_4 : FVec F S_ .f32 := constant S_ .f32 0x00000000#32
  let main_v13 : FVec F S4x36x4 .f32 := broadcastInDim S4x36x4 ![] bcast_S_S4x36x4 main_cst_4
  let main_v14 : IVec S4x36x4 1 := cmpf .ole main_v12 main_v13
  let main_c_5 : IVec S_ 1 := constantI S_ 1 1#1
  let main_v15 : IVec S_ 1 := (fun x v => Host.reduce IntOp.andi x v reducesTo_S4x36x4_S_d0_1_2 h_S_) main_v14 main_c_5
  fn_part1 (F := F) main_arg2 main_v11 main_v15
-- ==== Kernel.lean ====
abbrev S4x100x80 : Shape := ⟨3, ![4, 100, 80]⟩
abbrev S4x100x4 : Shape := ⟨3, ![4, 100, 4]⟩
abbrev S4x20000x80 : Shape := ⟨3, ![4, 20000, 80]⟩
abbrev S4x20000x4 : Shape := ⟨3, ![4, 20000, 4]⟩
abbrev S20000x4 : Shape := ⟨2, ![20000, 4]⟩
abbrev S4x64x80 : Shape := ⟨3, ![4, 64, 80]⟩
abbrev S4x64x4 : Shape := ⟨3, ![4, 64, 4]⟩
abbrev S4x20000 : Shape := ⟨2, ![4, 20000]⟩
abbrev S_ : Shape := ⟨0, ![]⟩
abbrev S8x20000 : Shape := ⟨2, ![8, 20000]⟩
abbrev S8x10x2000 : Shape := ⟨3, ![8, 10, 2000]⟩
abbrev S10x8x2000 : Shape := ⟨3, ![10, 8, 2000]⟩
abbrev S4x4x20000 : Shape := ⟨3, ![4, 4, 20000]⟩
abbrev S4x8x20000 : Shape := ⟨3, ![4, 8, 20000]⟩
abbrev S4x8x10x2000 : Shape := ⟨4, ![4, 8, 10, 2000]⟩
abbrev S4x10x8x2000 : Shape := ⟨4, ![4, 10, 8, 2000]⟩
abbrev S8x128 : Shape := ⟨2, ![8, 128]⟩
abbrev S1x8x2000 : Shape := ⟨3, ![1, 8, 2000]⟩
abbrev S1x64x4 : Shape := ⟨3, ![1, 64, 4]⟩
abbrev S1x64x80 : Shape := ⟨3, ![1, 64, 80]⟩
abbrev S1x2000x80 : Shape := ⟨3, ![1, 2000, 80]⟩
abbrev S1x1x8x2000 : Shape := ⟨4, ![1, 1, 8, 2000]⟩
abbrev S1x1 : Shape := ⟨2, ![1, 1]⟩
abbrev S8x2000 : Shape := ⟨2, ![8, 2000]⟩
abbrev S1x2000 : Shape := ⟨2, ![1, 2000]⟩
abbrev S64x4 : Shape := ⟨2, ![64, 4]⟩
abbrev S64x1 : Shape := ⟨2, ![64, 1]⟩
abbrev S64x2000 : Shape := ⟨2, ![64, 2000]⟩
abbrev S64 : Shape := ⟨1, ![64]⟩
abbrev S2000 : Shape := ⟨1, ![2000]⟩
abbrev S64x80 : Shape := ⟨2, ![64, 80]⟩
abbrev S1x80 : Shape := ⟨2, ![1, 80]⟩
abbrev S1x1x2000 : Shape := ⟨3, ![1, 1, 2000]⟩
abbrev S1 : Shape := ⟨1, ![1]⟩
abbrev S1x1x1 : Shape := ⟨3, ![1, 1, 1]⟩
abbrev S2000x80 : Shape := ⟨2, ![2000, 80]⟩
abbrev S2000x1 : Shape := ⟨2, ![2000, 1]⟩
abbrev S80x1 : Shape := ⟨2, ![80, 1]⟩
abbrev S80x2000 : Shape := ⟨2, ![80, 2000]⟩
abbrev S80x80 : Shape := ⟨2, ![80, 80]⟩
abbrev S80 : Shape := ⟨1, ![80]⟩
abbrev S1x128 : Shape := ⟨2, ![1, 128]⟩
abbrev S1x1x128 : Shape := ⟨3, ![1, 1, 128]⟩
abbrev S1x2 : Shape := ⟨2, ![1, 2]⟩
abbrev S2 : Shape := ⟨1, ![2]⟩

abbrev nBuf : Space → Nat
  | .hbm => 22
  | .vmem => 12
  | .smem => 0
  | _ => 0

abbrev bufTy : (tb : Table) → Fin (tcTables nBuf tb) → BufTy
  | .hbm, ⟨0, _⟩ => ⟨S4x100x80, .f32⟩
  | .hbm, ⟨1, _⟩ => ⟨S4x100x4, .f32⟩
  | .hbm, ⟨2, _⟩ => ⟨S4x20000x80, .f32⟩
  | .hbm, ⟨3, _⟩ => ⟨S4x20000x4, .f32⟩
  | .hbm, ⟨4, _⟩ => ⟨S20000x4, .f32⟩
  | .hbm, ⟨5, _⟩ => ⟨S4x64x80, .f32⟩
  | .hbm, ⟨6, _⟩ => ⟨S4x64x4, .f32⟩
  | .hbm, ⟨7, _⟩ => ⟨S4x20000, .f32⟩
  | .hbm, ⟨8, _⟩ => ⟨S_, .i32⟩
  | .hbm, ⟨9, _⟩ => ⟨S_, .f32⟩
  | .hbm, ⟨10, _⟩ => ⟨S8x20000, .f32⟩
  | .hbm, ⟨11, _⟩ => ⟨S8x10x2000, .f32⟩
  | .hbm, ⟨12, _⟩ => ⟨S10x8x2000, .f32⟩
  | .hbm, ⟨13, _⟩ => ⟨S4x4x20000, .f32⟩
  | .hbm, ⟨14, _⟩ => ⟨S_, .i32⟩
  | .hbm, ⟨15, _⟩ => ⟨S_, .f32⟩
  | .hbm, ⟨16, _⟩ => ⟨S4x8x20000, .f32⟩
  | .hbm, ⟨17, _⟩ => ⟨S4x8x10x2000, .f32⟩
  | .hbm, ⟨18, _⟩ => ⟨S4x10x8x2000, .f32⟩
  | .hbm, ⟨19, _⟩ => ⟨S8x128, .f32⟩
  | .hbm, ⟨20, _⟩ => ⟨S1x2, .f32⟩
  | .hbm, ⟨21, _⟩ => ⟨S2, .f32⟩
  | .local _ .vmem, ⟨0, _⟩ => ⟨S1x8x2000, .f32⟩
  | .local _ .vmem, ⟨1, _⟩ => ⟨S1x8x2000, .f32⟩
  | .local _ .vmem, ⟨2, _⟩ => ⟨S1x64x4, .f32⟩
  | .local _ .vmem, ⟨3, _⟩ => ⟨S1x64x4, .f32⟩
  | .local _ .vmem, ⟨4, _⟩ => ⟨S1x64x80, .f32⟩
  | .local _ .vmem, ⟨5, _⟩ => ⟨S1x64x80, .f32⟩
  | .local _ .vmem, ⟨6, _⟩ => ⟨S1x2000x80, .f32⟩
  | .local _ .vmem, ⟨7, _⟩ => ⟨S1x2000x80, .f32⟩
  | .local _ .vmem, ⟨8, _⟩ => ⟨S1x1x8x2000, .f32⟩
  | .local _ .vmem, ⟨9, _⟩ => ⟨S1x1x8x2000, .f32⟩
  | .local _ .vmem, ⟨10, _⟩ => ⟨S8x128, .f32⟩
  | .local _ .vmem, ⟨11, _⟩ => ⟨S8x128, .f32⟩
  | _, _ => ⟨S4x100x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![4, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond4 (i : grid0.Coords) : BitVec 1 :=
  let arg0 : BitVec 32 := BitVec.ofNat 32 (i 0).val
  let c3_i32 : BitVec 32 := 3#32
  let v283 : BitVec 1 := Scalar.cmpi .eq arg0 c3_i32
  let arg1 : BitVec 32 := BitVec.ofNat 32 (i 1).val
  let c9_i32_85 : BitVec 32 := 9#32
  let v284 : BitVec 1 := Scalar.cmpi .eq arg1 c9_i32_85
  let v285 : BitVec 1 := Scalar.andi v283 v284
  let v286 : BitVec 32 := Scalar.extui v285
  let c0_i32_86 : BitVec 32 := 0#32
  let v287 : BitVec 1 := Scalar.cmpi .ne v286 c0_i32_86
  v287

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2000x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x100x80 : Shape := ⟨3, ![4, 100, 80]⟩
abbrev S4x100x4 : Shape := ⟨3, ![4, 100, 4]⟩
abbrev S4x20000x80 : Shape := ⟨3, ![4, 20000, 80]⟩
abbrev S4x20000x4 : Shape := ⟨3, ![4, 20000, 4]⟩
abbrev S20000x4 : Shape := ⟨2, ![20000, 4]⟩
abbrev S4 : Shape := ⟨1, ![4]⟩
abbrev S_ : Shape := ⟨0, ![]⟩
abbrev S4x100 : Shape := ⟨2, ![4, 100]⟩
abbrev S20000x2 : Shape := ⟨2, ![20000, 2]⟩
abbrev S20000x1x2 : Shape := ⟨3, ![20000, 1, 2]⟩
abbrev S4x100x2 : Shape := ⟨3, ![4, 100, 2]⟩
abbrev S4x1x100x2 : Shape := ⟨4, ![4, 1, 100, 2]⟩
abbrev S1x20000x1x2 : Shape := ⟨4, ![1, 20000, 1, 2]⟩
abbrev S4x20000x100x2 : Shape := ⟨4, ![4, 20000, 100, 2]⟩
abbrev S4x20000x100x1 : Shape := ⟨4, ![4, 20000, 100, 1]⟩
abbrev S4x20000x100 : Shape := ⟨3, ![4, 20000, 100]⟩
abbrev S20000x1 : Shape := ⟨2, ![20000, 1]⟩
abbrev S20000 : Shape := ⟨1, ![20000]⟩
abbrev S4x100x1 : Shape := ⟨3, ![4, 100, 1]⟩
abbrev S4x1x100 : Shape := ⟨3, ![4, 1, 100]⟩
abbrev S1x20000x1 : Shape := ⟨3, ![1, 20000, 1]⟩
abbrev S20000x100 : Shape := ⟨2, ![20000, 100]⟩
abbrev S4x20000 : Shape := ⟨2, ![4, 20000]⟩
abbrev S20000x80 : Shape := ⟨2, ![20000, 80]⟩
abbrev S1 : Shape := ⟨1, ![1]⟩
abbrev S4x20000x1 : Shape := ⟨3, ![4, 20000, 1]⟩
abbrev S1x1x1 : Shape := ⟨3, ![1, 1, 1]⟩
abbrev S1x20000 : Shape := ⟨2, ![1, 20000]⟩
abbrev S1x4 : Shape := ⟨2, ![1, 4]⟩
abbrev S1x1x4 : Shape := ⟨3, ![1, 1, 4]⟩
abbrev S2 : Shape := ⟨1, ![2]⟩

abbrev nBuf : Space → Nat
  | .hbm => 363
  | .vmem => 0
  | .smem => 0
  | _ => 0

abbrev hbmTy0_0 (i : Nat) : BufTy := match i % 128 with
  | 0 => ⟨S4x100x80, .f32⟩
  | 1 => ⟨S4x100x4, .f32⟩
  | 2 => ⟨S4x20000x80, .f32⟩
  | 3 => ⟨S4x20000x4, .f32⟩
  | 4 => ⟨S20000x4, .f32⟩
  | 5 => ⟨S4, .f32⟩
  | 6 => ⟨S4, .f32⟩
  | 7 => ⟨S_, .f32⟩
  | 8 => ⟨S4x100x4, .f32⟩
  | 9 => ⟨S4x100x4, .i1⟩
  | 10 => ⟨S_, .i1⟩
  | 11 => ⟨S4x100, .i1⟩
  | 12 => ⟨S20000x2, .f32⟩
  | 13 => ⟨S20000x1x2, .f32⟩
  | 14 => ⟨S4x100x2, .f32⟩
  | 15 => ⟨S4x1x100x2, .f32⟩
  | 16 => ⟨S1x20000x1x2, .f32⟩
  | 17 => ⟨S4x20000x100x2, .f32⟩
  | 18 => ⟨S4x20000x100x2, .f32⟩
  | 19 => ⟨S4x20000x100x2, .f32⟩
  | 20 => ⟨S20000x2, .f32⟩
  | 21 => ⟨S20000x1x2, .f32⟩
  | 22 => ⟨S4x100x2, .f32⟩
  | 23 => ⟨S4x1x100x2, .f32⟩
  | 24 => ⟨S1x20000x1x2, .f32⟩
  | 25 => ⟨S4x20000x100x2, .f32⟩
  | 26 => ⟨S4x20000x100x2, .f32⟩
  | 27 => ⟨S4x20000x100x2, .f32⟩
  | 28 => ⟨S4x20000x100x2, .f32⟩
  | 29 => ⟨S_, .f32⟩
  | 30 => ⟨S_, .f32⟩
  | 31 => ⟨S4x20000x100x2, .f32⟩
  | 32 => ⟨S4x20000x100x2, .f32⟩
  | 33 => ⟨S4x20000x100x1, .f32⟩
  | 34 => ⟨S4x20000x100, .f32⟩
  | 35 => ⟨S4x20000x100x1, .f32⟩
  | 36 => ⟨S4x20000x100, .f32⟩
  | 37 => ⟨S4x20000x100, .f32⟩
  | 38 => ⟨S20000x1, .f32⟩
  | 39 => ⟨S20000, .f32⟩
  | 40 => ⟨S20000x1, .f32⟩
  | 41 => ⟨S20000, .f32⟩
  | 42 => ⟨S20000, .f32⟩
  | 43 => ⟨S20000x1, .f32⟩
  | 44 => ⟨S20000, .f32⟩
  | 45 => ⟨S20000x1, .f32⟩
  | 46 => ⟨S20000, .f32⟩
  | 47 => ⟨S20000, .f32⟩
  | 48 => ⟨S20000, .f32⟩
  | 49 => ⟨S4x100x1, .f32⟩
  | 50 => ⟨S4x100, .f32⟩
  | 51 => ⟨S4x100x1, .f32⟩
  | 52 => ⟨S4x100, .f32⟩
  | 53 => ⟨S4x100, .f32⟩
  | 54 => ⟨S4x100x1, .f32⟩
  | 55 => ⟨S4x100, .f32⟩
  | 56 => ⟨S4x100x1, .f32⟩
  | 57 => ⟨S4x100, .f32⟩
  | 58 => ⟨S4x100, .f32⟩
  | 59 => ⟨S4x100, .f32⟩
  | 60 => ⟨S20000x1, .f32⟩
  | 61 => ⟨S4x1x100, .f32⟩
  | 62 => ⟨S1x20000x1, .f32⟩
  | 63 => ⟨S4x20000x100, .f32⟩
  | 64 => ⟨S4x20000x100, .f32⟩
  | 65 => ⟨S4x20000x100, .f32⟩
  | 66 => ⟨S4x20000x100, .f32⟩
  | 67 => ⟨S_, .f32⟩
  | 68 => ⟨S4x20000x100, .f32⟩
  | 69 => ⟨S4x20000x100, .f32⟩
  | 70 => ⟨S4x20000x100, .f32⟩
  | 71 => ⟨S4x1x100, .i1⟩
  | 72 => ⟨S_, .f32⟩
  | 73 => ⟨S_, .f32⟩
  | 74 => ⟨S4x20000x100, .i1⟩
  | 75 => ⟨S20000x100, .f32⟩
  | 76 => ⟨S4x20000x100, .f32⟩
  | 77 => ⟨S4x20000x100, .f32⟩
  | 78 => ⟨S_, .f32⟩
  | 79 => ⟨S4x20000, .f32⟩
  | 80 => ⟨S4x20000x100, .i32⟩
  | 81 => ⟨S_, .f32⟩
  | 82 => ⟨S_, .i32⟩
  | 83 => ⟨S4x20000, .f32⟩
  | 84 => ⟨S4x20000, .i32⟩
  | 85 => ⟨S_, .f32⟩
  | 86 => ⟨S4x20000, .f32⟩
  | 87 => ⟨S4x20000, .i1⟩
  | 88 => ⟨S_, .f32⟩
  | 89 => ⟨S4x20000, .f32⟩
  | 90 => ⟨S4x20000, .i1⟩
  | 91 => ⟨S_, .i32⟩
  | 92 => ⟨S_, .i32⟩
  | 93 => ⟨S20000, .i32⟩
  | 94 => ⟨S20000, .i32⟩
  | 95 => ⟨S4x20000, .i32⟩
  | 96 => ⟨S4x20000, .i32⟩
  | 97 => ⟨S4x20000, .i32⟩
  | 98 => ⟨S_, .i32⟩
  | 99 => ⟨S20000, .i32⟩
  | 100 => ⟨S4x20000, .i32⟩
  | 101 => ⟨S4x20000, .i32⟩
  | 102 => ⟨S4x20000, .i32⟩
  | 103 => ⟨S_, .f32⟩
  | 104 => ⟨S20000x80, .f32⟩
  | 105 => ⟨S_, .i32⟩
  | 106 => ⟨S1, .i32⟩
  | 107 => ⟨S_, .f32⟩
  | 108 => ⟨S20000, .f32⟩
  | 109 => ⟨S20000x80, .f32⟩
  | 110 => ⟨S4x20000x1, .i1⟩
  | 111 => ⟨S_, .i32⟩
  | 112 => ⟨S4x20000, .i32⟩
  | 113 => ⟨S4x20000, .i1⟩
  | 114 => ⟨S_, .i32⟩
  | 115 => ⟨S4x20000, .i32⟩
  | 116 => ⟨S4x20000, .i32⟩
  | 117 => ⟨S4x20000, .i32⟩
  | 118 => ⟨S4x20000x1, .i32⟩
  | 119 => ⟨S1, .i32⟩
  | 120 => ⟨S_, .i32⟩
  | 121 => ⟨S4x20000x1, .i32⟩
  | 122 => ⟨S4x20000x1, .i1⟩
  | 123 => ⟨S1x1x1, .i32⟩
  | 124 => ⟨S4x20000x1, .i32⟩
  | 125 => ⟨S4x20000x1, .i1⟩
  | 126 => ⟨S4x20000x1, .i1⟩
  | 127 => ⟨S_, .i1⟩
  | _ => ⟨S4x100x80, .f32⟩

abbrev hbmTy0_1 (i : Nat) : BufTy := match i % 128 with
  | 0 => ⟨S4x20000, .i1⟩
  | 1 => ⟨S4x20000x80, .f32⟩
  | 2 => ⟨S4x20000x80, .i1⟩
  | 3 => ⟨S_, .f32⟩
  | 4 => ⟨S4x20000x80, .f32⟩
  | 5 => ⟨S4x20000x80, .f32⟩
  | 6 => ⟨S4x20000x80, .i1⟩
  | 7 => ⟨S4x20000x80, .f32⟩
  | 8 => ⟨S4x20000x80, .f32⟩
  | 9 => ⟨S_, .i32⟩
  | 10 => ⟨S4x20000, .i32⟩
  | 11 => ⟨S4x20000, .i1⟩
  | 12 => ⟨S_, .i32⟩
  | 13 => ⟨S4x20000, .i32⟩
  | 14 => ⟨S4x20000, .i32⟩
  | 15 => ⟨S4x20000, .i32⟩
  | 16 => ⟨S4x20000x1, .i32⟩
  | 17 => ⟨S1, .i32⟩
  | 18 => ⟨S_, .i32⟩
  | 19 => ⟨S4x20000x1, .i32⟩
  | 20 => ⟨S4x20000x1, .i1⟩
  | 21 => ⟨S1x1x1, .i32⟩
  | 22 => ⟨S4x20000x1, .i32⟩
  | 23 => ⟨S4x20000x1, .i1⟩
  | 24 => ⟨S4x20000x1, .i1⟩
  | 25 => ⟨S_, .i1⟩
  | 26 => ⟨S4x20000, .i1⟩
  | 27 => ⟨S4x20000x4, .f32⟩
  | 28 => ⟨S4x20000x4, .i1⟩
  | 29 => ⟨S_, .f32⟩
  | 30 => ⟨S4x20000x4, .f32⟩
  | 31 => ⟨S4x20000x4, .f32⟩
  | 32 => ⟨S20000x1, .f32⟩
  | 33 => ⟨S20000, .f32⟩
  | 34 => ⟨S20000x1, .f32⟩
  | 35 => ⟨S20000, .f32⟩
  | 36 => ⟨S20000, .f32⟩
  | 37 => ⟨S_, .f32⟩
  | 38 => ⟨S20000, .f32⟩
  | 39 => ⟨S20000, .f32⟩
  | 40 => ⟨S20000x1, .f32⟩
  | 41 => ⟨S20000, .f32⟩
  | 42 => ⟨S20000x1, .f32⟩
  | 43 => ⟨S20000, .f32⟩
  | 44 => ⟨S20000, .f32⟩
  | 45 => ⟨S_, .f32⟩
  | 46 => ⟨S20000, .f32⟩
  | 47 => ⟨S20000, .f32⟩
  | 48 => ⟨S20000x1, .f32⟩
  | 49 => ⟨S20000, .f32⟩
  | 50 => ⟨S_, .f32⟩
  | 51 => ⟨S20000, .f32⟩
  | 52 => ⟨S20000, .f32⟩
  | 53 => ⟨S20000, .f32⟩
  | 54 => ⟨S20000x1, .f32⟩
  | 55 => ⟨S20000, .f32⟩
  | 56 => ⟨S_, .f32⟩
  | 57 => ⟨S20000, .f32⟩
  | 58 => ⟨S20000, .f32⟩
  | 59 => ⟨S20000, .f32⟩
  | 60 => ⟨S4x20000x1, .f32⟩
  | 61 => ⟨S4x20000, .f32⟩
  | 62 => ⟨S4x20000x1, .f32⟩
  | 63 => ⟨S4x20000, .f32⟩
  | 64 => ⟨S4x20000, .f32⟩
  | 65 => ⟨S_, .f32⟩
  | 66 => ⟨S4x20000, .f32⟩
  | 67 => ⟨S4x20000, .f32⟩
  | 68 => ⟨S4x20000x1, .f32⟩
  | 69 => ⟨S4x20000, .f32⟩
  | 70 => ⟨S4x20000x1, .f32⟩
  | 71 => ⟨S4x20000, .f32⟩
  | 72 => ⟨S4x20000, .f32⟩
  | 73 => ⟨S_, .f32⟩
  | 74 => ⟨S4x20000, .f32⟩
  | 75 => ⟨S4x20000, .f32⟩
  | 76 => ⟨S4x20000x1, .f32⟩
  | 77 => ⟨S4x20000, .f32⟩
  | 78 => ⟨S_, .f32⟩
  | 79 => ⟨S4x20000, .f32⟩
  | 80 => ⟨S4x20000, .f32⟩
  | 81 => ⟨S4x20000, .f32⟩
  | 82 => ⟨S4x20000x1, .f32⟩
  | 83 => ⟨S4x20000, .f32⟩
  | 84 => ⟨S_, .f32⟩
  | 85 => ⟨S4x20000, .f32⟩
  | 86 => ⟨S4x20000, .f32⟩
  | 87 => ⟨S4x20000, .f32⟩
  | 88 => ⟨S1x20000, .f32⟩
  | 89 => ⟨S4x20000, .f32⟩
  | 90 => ⟨S4x20000, .f32⟩
  | 91 => ⟨S1x20000, .f32⟩
  | 92 => ⟨S4x20000, .f32⟩
  | 93 => ⟨S4x20000, .f32⟩
  | 94 => ⟨S1x20000, .f32⟩
  | 95 => ⟨S4x20000, .f32⟩
  | 96 => ⟨S4x20000, .f32⟩
  | 97 => ⟨S1x20000, .f32⟩
  | 98 => ⟨S4x20000, .f32⟩
  | 99 => ⟨S4x20000, .f32⟩
  | 100 => ⟨S1x20000, .f32⟩
  | 101 => ⟨S4x20000, .f32⟩
  | 102 => ⟨S4x20000, .f32⟩
  | 103 => ⟨S4x20000, .f32⟩
  | 104 => ⟨S1x20000, .f32⟩
  | 105 => ⟨S4x20000, .f32⟩
  | 106 => ⟨S4x20000, .f32⟩
  | 107 => ⟨S4x20000, .f32⟩
  | 108 => ⟨S4x20000x1, .f32⟩
  | 109 => ⟨S4x20000x1, .f32⟩
  | 110 => ⟨S4x20000x1, .f32⟩
  | 111 => ⟨S4x20000x1, .f32⟩
  | 112 => ⟨S4x20000x4, .f32⟩
  | 113 => ⟨S1x4, .f32⟩
  | 114 => ⟨S1x1x4, .f32⟩
  | 115 => ⟨S4x20000x4, .f32⟩
  | 116 => ⟨S4x20000x4, .f32⟩
  | 117 => ⟨S1x4, .f32⟩
  | 118 => ⟨S1x1x4, .f32⟩
  | 119 => ⟨S4x20000x4, .f32⟩
  | 120 => ⟨S4x20000x4, .f32⟩
  | 121 => ⟨S4x20000x1, .i1⟩
  | 122 => ⟨S_, .f32⟩
  | 123 => ⟨S_, .f32⟩
  | 124 => ⟨S4x20000x4, .i1⟩
  | 125 => ⟨S20000x4, .f32⟩
  | 126 => ⟨S4x20000x4, .f32⟩
  | 127 => ⟨S4x20000x4, .f32⟩
  | _ => ⟨S4x100x80, .f32⟩

abbrev hbmTy0_2 (i : Nat) : BufTy := match i % 128 with
  | 0 => ⟨S_, .i32⟩
  | 1 => ⟨S4x20000, .i32⟩
  | 2 => ⟨S4x20000, .i1⟩
  | 3 => ⟨S4x20000, .f32⟩
  | 4 => ⟨S4x20000x1, .f32⟩
  | 5 => ⟨S_, .i32⟩
  | 6 => ⟨S4x20000, .i32⟩
  | 7 => ⟨S4x20000, .i1⟩
  | 8 => ⟨S4x20000, .f32⟩
  | 9 => ⟨S4x20000x1, .f32⟩
  | 10 => ⟨S4x20000, .f32⟩
  | 11 => ⟨S_, .f32⟩
  | 12 => ⟨S4, .f32⟩
  | 13 => ⟨S_, .f32⟩
  | 14 => ⟨S4, .f32⟩
  | 15 => ⟨S4, .f32⟩
  | 16 => ⟨S_, .f32⟩
  | 17 => ⟨S_, .f32⟩
  | 18 => ⟨S4x20000x80, .f32⟩
  | 19 => ⟨S4x20000x80, .f32⟩
  | 20 => ⟨S_, .f32⟩
  | 21 => ⟨S4x20000x80, .f32⟩
  | 22 => ⟨S4x20000x80, .f32⟩
  | 23 => ⟨S4x20000x80, .f32⟩
  | 24 => ⟨S4x20000x80, .f32⟩
  | 25 => ⟨S4x20000x80, .f32⟩
  | 26 => ⟨S4x20000x80, .f32⟩
  | 27 => ⟨S4x20000x80, .f32⟩
  | 28 => ⟨S4x20000x80, .f32⟩
  | 29 => ⟨S4x20000x80, .f32⟩
  | 30 => ⟨S4x20000x80, .f32⟩
  | 31 => ⟨S4x20000x80, .f32⟩
  | 32 => ⟨S_, .f32⟩
  | 33 => ⟨S4x20000x80, .f32⟩
  | 34 => ⟨S4x20000x80, .f32⟩
  | 35 => ⟨S_, .f32⟩
  | 36 => ⟨S4x20000x80, .f32⟩
  | 37 => ⟨S4x20000x80, .f32⟩
  | 38 => ⟨S4x20000x80, .f32⟩
  | 39 => ⟨S_, .f32⟩
  | 40 => ⟨S4x20000x80, .f32⟩
  | 41 => ⟨S4x20000x80, .f32⟩
  | 42 => ⟨S_, .f32⟩
  | 43 => ⟨S4x20000x80, .f32⟩
  | 44 => ⟨S4x20000x80, .f32⟩
  | 45 => ⟨S4x20000x80, .f32⟩
  | 46 => ⟨S4x20000x80, .f32⟩
  | 47 => ⟨S_, .f32⟩
  | 48 => ⟨S4x20000x80, .f32⟩
  | 49 => ⟨S4x20000x80, .f32⟩
  | 50 => ⟨S_, .f32⟩
  | 51 => ⟨S4x20000x80, .f32⟩
  | 52 => ⟨S4x20000x80, .f32⟩
  | 53 => ⟨S_, .f32⟩
  | 54 => ⟨S4x20000x80, .f32⟩
  | 55 => ⟨S4x20000x80, .f32⟩
  | 56 => ⟨S4x20000x80, .f32⟩
  | 57 => ⟨S_, .f32⟩
  | 58 => ⟨S4x20000x80, .f32⟩
  | 59 => ⟨S4x20000x80, .f32⟩
  | 60 => ⟨S_, .f32⟩
  | 61 => ⟨S4x20000x80, .f32⟩
  | 62 => ⟨S4x20000x80, .f32⟩
  | 63 => ⟨S4x20000x80, .f32⟩
  | 64 => ⟨S4x20000x80, .f32⟩
  | 65 => ⟨S4x20000x80, .f32⟩
  | 66 => ⟨S4x20000x80, .f32⟩
  | 67 => ⟨S_, .f32⟩
  | 68 => ⟨S_, .f32⟩
  | 69 => ⟨S_, .f32⟩
  | 70 => ⟨S4x20000x4, .f32⟩
  | 71 => ⟨S4x20000x4, .f32⟩
  | 72 => ⟨S_, .f32⟩
  | 73 => ⟨S4x20000x4, .f32⟩
  | 74 => ⟨S4x20000x4, .i1⟩
  | 75 => ⟨S_, .f32⟩
  | 76 => ⟨S4x20000x4, .f32⟩
  | 77 => ⟨S4x20000x4, .f32⟩
  | 78 => ⟨S4x20000x4, .f32⟩
  | 79 => ⟨S_, .f32⟩
  | 80 => ⟨S4x20000x4, .f32⟩
  | 81 => ⟨S4x20000x4, .f32⟩
  | 82 => ⟨S4x20000x4, .f32⟩
  | 83 => ⟨S4x20000x4, .f32⟩
  | 84 => ⟨S4x20000x4, .f32⟩
  | 85 => ⟨S_, .f32⟩
  | 86 => ⟨S_, .f32⟩
  | 87 => ⟨S_, .f32⟩
  | 88 => ⟨S_, .i1⟩
  | 89 => ⟨S_, .f32⟩
  | 90 => ⟨S_, .f32⟩
  | 91 => ⟨S_, .i1⟩
  | 92 => ⟨S_, .i1⟩
  | 93 => ⟨S_, .f32⟩
  | 94 => ⟨S_, .f32⟩
  | 95 => ⟨S_, .f32⟩
  | 96 => ⟨S_, .i1⟩
  | 97 => ⟨S_, .f32⟩
  | 98 => ⟨S_, .f32⟩
  | 99 => ⟨S_, .i1⟩
  | 100 => ⟨S_, .i1⟩
  | 101 => ⟨S_, .f32⟩
  | 102 => ⟨S_, .f32⟩
  | 103 => ⟨S_, .f32⟩
  | 104 => ⟨S1, .f32⟩
  | 105 => ⟨S1, .f32⟩
  | 106 => ⟨S2, .f32⟩
  | _ => ⟨S4x100x80, .f32⟩

abbrev hbmTy (i : Nat) : BufTy := match i / 128 with
  | 0 => hbmTy0_0 i
  | 1 => hbmTy0_1 i
  | 2 => hbmTy0_2 i
  | _ => ⟨S4x100x80, .f32⟩

abbrev bufTy : (tb : Table) → Fin (tcTables nBuf tb) → BufTy
  | .hbm, ⟨i, _⟩ => hbmTy i
  | _, _ => ⟨S4x100x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_call2_v0 : Ref sig .tc := ⟨.hbm, 80, rfl⟩
abbrev main_call2_cst : Ref sig .tc := ⟨.hbm, 81, rfl⟩
abbrev main_call2_c : Ref sig .tc := ⟨.hbm, 82, rfl⟩
abbrev main_call2_v1_0 : Ref sig .tc := ⟨.hbm, 83, rfl⟩
abbrev main_v61 : Ref sig .tc := ⟨.hbm, 84, rfl⟩
abbrev main_cst_6 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_c_8 : Ref sig .tc := ⟨.hbm, 91, rfl⟩
abbrev main_c_9 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_v66 : Ref sig .tc := ⟨.hbm, 97, rfl⟩
abbrev main_c_10 : Ref sig .tc := ⟨.hbm, 98, rfl⟩
abbrev main_call4_v0 : Ref sig .tc := ⟨.hbm, 99, rfl⟩
abbrev main_call4_v1 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_c_12 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call5_c : Ref sig .tc := ⟨.hbm, 111, rfl⟩
abbrev main_call5_v0 : Ref sig .tc := ⟨.hbm, 112, rfl⟩
abbrev main_call5_v1 : Ref sig .tc := ⟨.hbm, 113, rfl⟩
abbrev main_call5_c_0 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_v5 : Ref sig .tc := ⟨.hbm, 118, rfl⟩
abbrev main_call5_c_1 : Ref sig .tc := ⟨.hbm, 119, rfl⟩
abbrev main_call5_c_2 : Ref sig .tc := ⟨.hbm, 120, rfl⟩
abbrev main_call5_v6 : Ref sig .tc := ⟨.hbm, 121, rfl⟩
abbrev main_call5_v7 : Ref sig .tc := ⟨.hbm, 122, rfl⟩
abbrev main_call5_v8 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_c_3 : Ref sig .tc := ⟨.hbm, 127, rfl⟩
abbrev main_call5_v12 : Ref sig .tc := ⟨.hbm, 128, rfl⟩
abbrev main_call5_v13 : Ref sig .tc := ⟨.hbm, 129, rfl⟩
abbrev main_call5_v14 : Ref sig .tc := ⟨.hbm, 130, rfl⟩
abbrev main_call5_cst : Ref sig .tc := ⟨.hbm, 131, rfl⟩
abbrev main_call5_v15 : Ref sig .tc := ⟨.hbm, 132, rfl⟩
abbrev main_v74 : Ref sig .tc := ⟨.hbm, 133, rfl⟩
abbrev main_call6_v0 : Ref sig .tc := ⟨.hbm, 134, rfl⟩
abbrev main_call6_v1 : Ref sig .tc := ⟨.hbm, 135, rfl⟩
abbrev main_v75 : Ref sig .tc := ⟨.hbm, 136, rfl⟩
abbrev main_call7_c : Ref sig .tc := ⟨.hbm, 137, rfl⟩
abbrev main_call7_v0 : Ref sig .tc := ⟨.hbm, 138, rfl⟩
abbrev main_call7_v1 : Ref sig .tc := ⟨.hbm, 139, rfl⟩
abbrev main_call7_c_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_v5 : Ref sig .tc := ⟨.hbm, 144, rfl⟩
abbrev main_call7_c_1 : Ref sig .tc := ⟨.hbm, 145, rfl⟩
abbrev main_call7_c_2 : Ref sig .tc := ⟨.hbm, 146, rfl⟩
abbrev main_call7_v6 : Ref sig .tc := ⟨.hbm, 147, rfl⟩
abbrev main_call7_v7 : Ref sig .tc := ⟨.hbm, 148, rfl⟩
abbrev main_call7_v8 : Ref sig .tc := ⟨.hbm, 149, rfl⟩
abbrev main_call7_v9 : Ref sig .tc := ⟨.hbm, 150, rfl⟩
abbrev main_call7_v10 : Ref sig .tc := ⟨.hbm, 151, rfl⟩
abbrev main_call7_v11 : Ref sig .tc := ⟨.hbm, 152, rfl⟩
abbrev main_call7_c_3 : Ref sig .tc := ⟨.hbm, 153, rfl⟩
abbrev main_call7_v12 : Ref sig .tc := ⟨.hbm, 154, rfl⟩
abbrev main_call7_v13 : Ref sig .tc := ⟨.hbm, 155, rfl⟩
abbrev main_call7_v14 : Ref sig .tc := ⟨.hbm, 156, rfl⟩
abbrev main_call7_cst : Ref sig .tc := ⟨.hbm, 157, rfl⟩
abbrev main_call7_v15 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_cst_14 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_cst_15 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_cst_16 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_cst_17 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_cst_18 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_cst_19 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_cst_20 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_cst_21 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_cst_22 : Ref sig .tc := ⟨.hbm, 250, rfl⟩
abbrev main_call8_v0 : Ref sig .tc := ⟨.hbm, 251, rfl⟩
abbrev main_call8_v1 : Ref sig .tc := ⟨.hbm, 252, rfl⟩
abbrev main_call8_v2 : Ref sig .tc := ⟨.hbm, 253, rfl⟩
abbrev main_call8_v3 : Ref sig .tc := ⟨.hbm, 254, rfl⟩
abbrev main_v159 : Ref sig .tc := ⟨.hbm, 255, rfl⟩
abbrev main_c_23 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_c_24 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_cst_25 : Ref sig .tc := ⟨.hbm, 267, rfl⟩
abbrev main_v169 : Ref sig .tc := ⟨.hbm, 268, rfl⟩
abbrev main_cst_26 : Ref sig .tc := ⟨.hbm, 269, rfl⟩
abbrev main_v170 : Ref sig .tc := ⟨.hbm, 270, rfl⟩
abbrev main_v171 : Ref sig .tc := ⟨.hbm, 271, rfl⟩
abbrev main_cst_27 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_cst_28 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_cst_29 : Ref sig .tc := ⟨.hbm, 288, rfl⟩
abbrev main_v186 : Ref sig .tc := ⟨.hbm, 289, rfl⟩
abbrev main_v187 : Ref sig .tc := ⟨.hbm, 290, rfl⟩
abbrev main_cst_30 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_cst_31 : Ref sig .tc := ⟨.hbm, 295, rfl⟩
abbrev main_v191 : Ref sig .tc := ⟨.hbm, 296, rfl⟩
abbrev main_v192 : Ref sig .tc := ⟨.hbm, 297, rfl⟩
abbrev main_cst_32 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_cst_33 : Ref sig .tc := ⟨.hbm, 303, rfl⟩
abbrev main_v197 : Ref sig .tc := ⟨.hbm, 304, rfl⟩
abbrev main_v198 : Ref sig .tc := ⟨.hbm, 305, rfl⟩
abbrev main_cst_34 : Ref sig .tc := ⟨.hbm, 306, rfl⟩
abbrev main_v199 : Ref sig .tc := ⟨.hbm, 307, rfl⟩
abbrev main_v200 : Ref sig .tc := ⟨.hbm, 308, rfl⟩
abbrev main_cst_35 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_cst_36 : Ref sig .tc := ⟨.hbm, 313, rfl⟩
abbrev main_v204 : Ref sig .tc := ⟨.hbm, 314, rfl⟩
abbrev main_v205 : Ref sig .tc := ⟨.hbm, 315, rfl⟩
abbrev main_cst_37 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_cst_38 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_cst_39 : Ref sig .tc := ⟨.hbm, 328, rfl⟩
abbrev main_v216 : Ref sig .tc := ⟨.hbm, 329, rfl⟩
abbrev main_v217 : Ref sig .tc := ⟨.hbm, 330, rfl⟩
abbrev main_cst_40 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_cst_41 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_cst_42 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_call10_v0 : Ref sig .tc := ⟨.hbm, 345, rfl⟩
abbrev main_call10_cst : Ref sig .tc := ⟨.hbm, 346, rfl⟩
abbrev main_v229 : Ref sig .tc := ⟨.hbm, 347, rfl⟩
abbrev main_v230 : Ref sig .tc := ⟨.hbm, 348, rfl⟩
abbrev main_cst_43 : Ref sig .tc := ⟨.hbm, 349, rfl⟩
abbrev main_call11_v0 : Ref sig .tc := ⟨.hbm, 350, rfl⟩
abbrev main_v231 : Ref sig .tc := ⟨.hbm, 351, rfl⟩
abbrev main_v232 : Ref sig .tc := ⟨.hbm, 352, rfl⟩
abbrev main_call12_v0 : Ref sig .tc := ⟨.hbm, 353, rfl⟩
abbrev main_call12_cst : Ref sig .tc := ⟨.hbm, 354, rfl⟩
abbrev main_v233 : Ref sig .tc := ⟨.hbm, 355, rfl⟩
abbrev main_v234 : Ref sig .tc := ⟨.hbm, 356, rfl⟩
abbrev main_cst_44 : Ref sig .tc := ⟨.hbm, 357, rfl⟩
abbrev main_call13_v0 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩

abbrev nD : Nat := 1
abbrev τ : Topo := Topo.v7x

variable {F : FTy → Type} [FloatOps F]
-- ==== Proof.Ref.Ops.lean ====
/- The reference as a list of host operations: the list in windows, the program equals running the list in order,
   and which buffers each operation touches. -/
module

public import proofs.«01_k».proof.Proof.Gen.ReferenceIdeal
public import Idealize.ShloMosaic.Lib.StableHlo.Run
public import Idealize.ShloMosaic.Lib.Pipeline.Frame

@[expose] public section

set_option Elab.async false
set_option maxRecDepth 8192
set_option maxHeartbeats 4000000

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A device's buffer contents. -/
abbrev Vals (F : FTy → Type) := Valuation τ sig (Elt F)

/-- The function of the operation that writes `main_v149`: its operands laid end to end. -/
def fn_main_v149 : (main_v145 : Ref sig .tc).ty.Contents (Elt F) → (main_v146 : Ref sig .tc).ty.Contents (Elt F) → (main_v147 : Ref sig .tc).ty.Contents (Elt F) → (main_v148 : Ref sig .tc).ty.Contents (Elt F) → (main_v149 : Ref sig .tc).ty.Contents (Elt F) :=
  (fun u0 u1 u2 u3 => (concatenate S4x20000x4 2 [⟨S4x20000x1, (u0 : (⟨S4x20000x1, .f32⟩ : BufTy).Contents (Elt F))⟩, ⟨S4x20000x1, (u1 : (⟨S4x20000x1, .f32⟩ : BufTy).Contents (Elt F))⟩, ⟨S4x20000x1, (u2 : (⟨S4x20000x1, .f32⟩ : BufTy).Contents (Elt F))⟩, ⟨S4x20000x1, (u3 : (⟨S4x20000x1, .f32⟩ : BufTy).Contents (Elt F))⟩] concatenates_S4x20000x1_S4x20000x1_S4x20000x1_S4x20000x1_S4x20000x4_d2 : (⟨S4x20000x4, .f32⟩ : BufTy).Contents (Elt F)))

/-- The function of the operation that writes `main_v238`: its operands laid end to end. -/
def fn_main_v238 : (⟨S1, .f32⟩ : BufTy).Contents (Elt F) → (⟨S1, .f32⟩ : BufTy).Contents (Elt F) → (⟨S2, .f32⟩ : BufTy).Contents (Elt F) :=
  (fun a b => concatenate S2 0 [⟨S1, a⟩, ⟨S1, b⟩] concatenates_S1_S1_S2_d0)

/-- @main's operations 1 … 30 of 358 (window `main_part0`). -/
abbrev ops_part0_0 : List (HloOp τ sig (Elt F)) :=
  [ nullary main_cst (constant S4 .f32 0x00000000#32),
    nullary main_cst_0 (constant S4 .f32 0x3F800000#32),
    nullary main_cst_1 (constant S_ .f32 0x00000000#32),
    unary main_cst_1 main_v0 (broadcastInDim S4x100x4 ![] bcast_S_S4x100x4 : (⟨S_, .f32⟩ : BufTy).Contents (Elt F) → (⟨S4x100x4, .f32⟩ : BufTy).Contents (Elt F)),
    binary main_arg1 main_v0 main_v1 (cmpf .ogt : (⟨S4x100x4, .f32⟩ : BufTy).Contents (Elt F) → (⟨S4x100x4, .f32⟩ : BufTy).Contents (Elt F) → (⟨S4x100x4, .i1⟩ : BufTy).Contents (Elt F)),
    nullary main_c (constantI S_ 1 0#1),
    binary main_v1 main_c main_v2 ((fun x v => Host.reduce IntOp.ori x v reducesTo_S4x100x4_S4x100_d2 h_S_) : (⟨S4x100x4, .i1⟩ : BufTy).Contents (Elt F) → (⟨S_, .i1⟩ : BufTy).Contents (Elt F) → (⟨S4x100, .i1⟩ : BufTy).Contents (Elt F)),
    unary main_arg4 main_v3 ((extractStridedSlice S20000x2 ![0, 0] · slices_S20000x4_S20000x2_0_0) : (⟨S20000x4, .f32⟩ : BufTy).Contents (Elt F) → (⟨S20000x2, .f32⟩ : BufTy).Contents (Elt F)),
    unary main_v3 main_v4 (broadcastInDim S20000x1x2 ![0, 2] bcast_S20000x2_S20000x1x2_0_2 : (⟨S20000x2, .f32⟩ : BufTy).Contents (Elt F) → (⟨S20000x1x2, .f32⟩ : BufTy).Contents (Elt F)),
    unary main_arg1 main_v5 ((extractStridedSlice S4x100x2 ![0, 0, 0] · slices_S4x100x4_S4x100x2_0_0_0) : (⟨S4x100x4, .f32⟩ : BufTy).Contents (Elt F) → (⟨S4x100x2, .f32⟩ : BufTy).Contents (Elt F)),
    unary main_v5 main_v6 (broadcastInDim S4x1x100x2 ![0, 2, 3] bcast_S4x100x2_S4x1x100x2_0_2_3 : (⟨S4x100x2, .f32⟩ : BufTy).Contents (Elt F) → (⟨S4x1x100x2, .f32⟩ : BufTy).Contents (Elt F)),
    unary main_v4 main_v7 (broadcastInDim S1x20000x1x2 ![1, 2, 3] bcast_S20000x1x2_S1x20000x1x2_1_2_3 : (⟨S20000x1x2, .f32⟩ : BufTy).Contents (Elt F) → (⟨S1x20000x1x2, .f32⟩ : BufTy).Contents (Elt F)),
    unary main_v7 main_v8 (broadcastInDim S4x20000x100x2 ![0, 1, 2, 3] bcast_S1x20000x1x2_S4x20000x100x2_0_1_2_3 : (⟨S1x20000x1x2, .f32⟩ : BufTy).Contents (Elt F) → (⟨S4x20000x100x2, .f32⟩ : BufTy).Contents (Elt F)),
    unary main_v6 main_v9 (broadcastInDim S4x20000x100x2 ![0, 1, 2, 3] bcast_S4x1x100x2_S4x20000x100x2_0_1_2_3 : (⟨S4x1x100x2, .f32⟩ : BufTy).Contents (Elt F) → (⟨S4x20000x100x2, .f32⟩ : BufTy).Contents (Elt F)),
    binary main_v8 main_v9 main_v10 (maximumf : (⟨S4x20000x100x2, .f32⟩ : BufTy).Contents (Elt F) → (⟨S4x20000x100x2, .f32⟩ : BufTy).Contents (Elt F) → (⟨S4x20000x100x2, .f32⟩ : BufTy).Contents (Elt F)),
    unary main_arg4 main_v11 ((extractStridedSlice S20000x2 ![0, 2] · slices_S20000x4_S20000x2_0_2) : (⟨S20000x4, .f32⟩ : BufTy).Contents (Elt F) → (⟨S20000x2, .f32⟩ : BufTy).Contents (Elt F)),
    unary main_v11 main_v12 (broadcastInDim S20000x1x2 ![0, 2] bcast_S20000x2_S20000x1x2_0_2 : (⟨S20000x2, .f32⟩ : BufTy).Contents (Elt F) → (⟨S20000x1x2, .f32⟩ : BufTy).Contents (Elt F)),
    unary main_arg1 main_v13 ((extractStridedSlice S4x100x2 ![0, 0, 2] · slices_S4x100x4_S4x100x2_0_0_2) : (⟨S4x100x4, .f32⟩ : BufTy).Contents (Elt F) → (⟨S4x100x2, .f32⟩ : BufTy).Contents (Elt F)),
    unary main_v13 main_v14 (broadcastInDim S4x1x100x2 ![0, 2, 3] bcast_S4x100x2_S4x1x100x2_0_2_3 : (⟨S4x100x2, .f32⟩ : BufTy).Contents (Elt F) → (⟨S4x1x100x2, .f32⟩ : BufTy).Contents (Elt F)),
    unary main_v12 main_v15 (broadcastInDim S1x20000x1x2 ![1, 2, 3] bcast_S20000x1x2_S1x20000x1x2_1_2_3 : (⟨S20000x1x2, .f32⟩ : BufTy).Contents (Elt F) → (⟨S1x20000x1x2, .f32⟩ : BufTy).Contents (Elt F)),
    unary main_v15 main_v16 (broadcastInDim S4x20000x100x2 ![0, 1, 2, 3] bcast_S1x20000x1x2_S4x20000x100x2_0_1_2_3 : (⟨S1x20000x1x2, .f32⟩ : BufTy).Contents (Elt F) → (⟨S4x20000x100x2, .f32⟩ : BufTy).Contents (Elt F)),
    unary main_v14 main_v17 (broadcastInDim S4x20000x100x2 ![0, 1, 2, 3] bcast_S4x1x100x2_S4x20000x100x2_0_1_2_3 : (⟨S4x1x100x2, .f32⟩ : BufTy).Contents (Elt F) → (⟨S4x20000x100x2, .f32⟩ : BufTy).Contents (Elt F)),
    binary main_v16 main_v17 main_v18 (minimumf : (⟨S4x20000x100x2, .f32⟩ : BufTy).Contents (Elt F) → (⟨S4x20000x100x2, .f32⟩ : BufTy).Contents (Elt F) → (⟨S4x20000x100x2, .f32⟩ : BufTy).Contents (Elt F)),
    binary main_v18 main_v10 main_v19 (subf : (⟨S4x20000x100x2, .f32⟩ : BufTy).Contents (Elt F) → (⟨S4x20000x100x2, .f32⟩ : BufTy).Contents (Elt F) → (⟨S4x20000x100x2, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S4x20000x100x2, .f32⟩) main_call0_v1) (broadcastInDim S4x20000x100x2 ![] bcast_S_S4x20000x100x2),
    TRef.binary (TRef.of (T := ⟨S4x20000x100x2, .f32⟩) main_call0_v1) (TRef.of (T := ⟨S4x20000x100x2, .f32⟩) main_v19) (TRef.of (T := ⟨S4x20000x100x2, .f32⟩) main_v20) maximumf,
    unary main_v20 main_v21 ((extractStridedSlice S4x20000x100x1 ![0, 0, 0, 0] · slices_S4x20000x100x2_S4x20000x100x1_0_0_0_0) : (⟨S4x20000x100x2, .f32⟩ : BufTy).Contents (Elt F) → (⟨S4x20000x100x1, .f32⟩ : BufTy).Contents (Elt F)),
    reshape main_v21 main_v22 (rfl : (.f32 : EltTy) = .f32) shapeCasts_S4x20000x100x1_S4x20000x100 ]

/-- @main's operations 31 … 60 of 358 (window `main_part0`). -/
abbrev ops_part0_1 : List (HloOp τ sig (Elt F)) :=
  [ unary main_v20 main_v23 ((extractStridedSlice S4x20000x100x1 ![0, 0, 0, 1] · slices_S4x20000x100x2_S4x20000x100x1_0_0_0_1) : (⟨S4x20000x100x2, .f32⟩ : BufTy).Contents (Elt F) → (⟨S4x20000x100x1, .f32⟩ : BufTy).Contents (Elt F)),
    reshape main_v23 main_v24 (rfl : (.f32 : EltTy) = .f32) shapeCasts_S4x20000x100x1_S4x20000x100,
    binary main_v22 main_v24 main_v25 (mulf : (⟨S4x20000x100, .f32⟩ : BufTy).Contents (Elt F) → (⟨S4x20000x100, .f32⟩ : BufTy).Contents (Elt F) → (⟨S4x20000x100, .f32⟩ : BufTy).Contents (Elt F)),
    unary main_arg4 main_v26 ((extractStridedSlice S20000x1 ![0, 2] · slices_S20000x4_S20000x1_0_2) : (⟨S20000x4, .f32⟩ : BufTy).Contents (Elt F) → (⟨S20000x1, .f32⟩ : BufTy).Contents (Elt F)),
    reshape main_v26 main_v27 (rfl : (.f32 : EltTy) = .f32) shapeCasts_S20000x1_S20000,
    unary main_arg4 main_v28 ((extractStridedSlice S20000x1 ![0, 0] · slices_S20000x4_S20000x1_0_0) : (⟨S20000x4, .f32⟩ : BufTy).Contents (Elt F) → (⟨S20000x1, .f32⟩ : BufTy).Contents (Elt F)),
    reshape main_v28 main_v29 (rfl : (.f32 : EltTy) = .f32) shapeCasts_S20000x1_S20000,
    binary main_v27 main_v29 main_v30 (subf : (⟨S20000, .f32⟩ : BufTy).Contents (Elt F) → (⟨S20000, .f32⟩ : BufTy).Contents (Elt F) → (⟨S20000, .f32⟩ : BufTy).Contents (Elt F)),
    unary main_arg4 main_v31 ((extractStridedSlice S20000x1 ![0, 3] · slices_S20000x4_S20000x1_0_3) : (⟨S20000x4, .f32⟩ : BufTy).Contents (Elt F) → (⟨S20000x1, .f32⟩ : BufTy).Contents (Elt F)),
    reshape main_v31 main_v32 (rfl : (.f32 : EltTy) = .f32) shapeCasts_S20000x1_S20000,
    unary main_arg4 main_v33 ((extractStridedSlice S20000x1 ![0, 1] · slices_S20000x4_S20000x1_0_1) : (⟨S20000x4, .f32⟩ : BufTy).Contents (Elt F) → (⟨S20000x1, .f32⟩ : BufTy).Contents (Elt F)),
    reshape main_v33 main_v34 (rfl : (.f32 : EltTy) = .f32) shapeCasts_S20000x1_S20000,
    binary main_v32 main_v34 main_v35 (subf : (⟨S20000, .f32⟩ : BufTy).Contents (Elt F) → (⟨S20000, .f32⟩ : BufTy).Contents (Elt F) → (⟨S20000, .f32⟩ : BufTy).Contents (Elt F)),
    binary main_v30 main_v35 main_v36 (mulf : (⟨S20000, .f32⟩ : BufTy).Contents (Elt F) → (⟨S20000, .f32⟩ : BufTy).Contents (Elt F) → (⟨S20000, .f32⟩ : BufTy).Contents (Elt F)),
    unary main_arg1 main_v37 ((extractStridedSlice S4x100x1 ![0, 0, 2] · slices_S4x100x4_S4x100x1_0_0_2) : (⟨S4x100x4, .f32⟩ : BufTy).Contents (Elt F) → (⟨S4x100x1, .f32⟩ : BufTy).Contents (Elt F)),
    reshape main_v37 main_v38 (rfl : (.f32 : EltTy) = .f32) shapeCasts_S4x100x1_S4x100,
    unary main_arg1 main_v39 ((extractStridedSlice S4x100x1 ![0, 0, 0] · slices_S4x100x4_S4x100x1_0_0_0) : (⟨S4x100x4, .f32⟩ : BufTy).Contents (Elt F) → (⟨S4x100x1, .f32⟩ : BufTy).Contents (Elt F)),
    reshape main_v39 main_v40 (rfl : (.f32 : EltTy) = .f32) shapeCasts_S4x100x1_S4x100,
    binary main_v38 main_v40 main_v41 (subf : (⟨S4x100, .f32⟩ : BufTy).Contents (Elt F) → (⟨S4x100, .f32⟩ : BufTy).Contents (Elt F) → (⟨S4x100, .f32⟩ : BufTy).Contents (Elt F)),
    unary main_arg1 main_v42 ((extractStridedSlice S4x100x1 ![0, 0, 3] · slices_S4x100x4_S4x100x1_0_0_3) : (⟨S4x100x4, .f32⟩ : BufTy).Contents (Elt F) → (⟨S4x100x1, .f32⟩ : BufTy).Contents (Elt F)),
    reshape main_v42 main_v43 (rfl : (.f32 : EltTy) = .f32) shapeCasts_S4x100x1_S4x100,
    unary main_arg1 main_v44 ((extractStridedSlice S4x100x1 ![0, 0, 1] · slices_S4x100x4_S4x100x1_0_0_1) : (⟨S4x100x4, .f32⟩ : BufTy).Contents (Elt F) → (⟨S4x100x1, .f32⟩ : BufTy).Contents (Elt F)),
    reshape main_v44 main_v45 (rfl : (.f32 : EltTy) = .f32) shapeCasts_S4x100x1_S4x100,
    binary main_v43 main_v45 main_v46 (subf : (⟨S4x100, .f32⟩ : BufTy).Contents (Elt F) → (⟨S4x100, .f32⟩ : BufTy).Contents (Elt F) → (⟨S4x100, .f32⟩ : BufTy).Contents (Elt F)),
    binary main_v41 main_v46 main_v47 (mulf : (⟨S4x100, .f32⟩ : BufTy).Contents (Elt F) → (⟨S4x100, .f32⟩ : BufTy).Contents (Elt F) → (⟨S4x100, .f32⟩ : BufTy).Contents (Elt F)),
    unary main_v36 main_v48 (broadcastInDim S20000x1 ![0] bcast_S20000_S20000x1_0 : (⟨S20000, .f32⟩ : BufTy).Contents (Elt F) → (⟨S20000x1, .f32⟩ : BufTy).Contents (Elt F)),
    unary main_v47 main_v49 (broadcastInDim S4x1x100 ![0, 2] bcast_S4x100_S4x1x100_0_2 : (⟨S4x100, .f32⟩ : BufTy).Contents (Elt F) → (⟨S4x1x100, .f32⟩ : BufTy).Contents (Elt F)),
    unary main_v48 main_v50 (broadcastInDim S1x20000x1 ![1, 2] bcast_S20000x1_S1x20000x1_1_2 : (⟨S20000x1, .f32⟩ : BufTy).Contents (Elt F) → (⟨S1x20000x1, .f32⟩ : BufTy).Contents (Elt F)),
    unary main_v50 main_v51 (broadcastInDim S4x20000x100 ![0, 1, 2] bcast_S1x20000x1_S4x20000x100_0_1_2 : (⟨S1x20000x1, .f32⟩ : BufTy).Contents (Elt F) → (⟨S4x20000x100, .f32⟩ : BufTy).Contents (Elt F)),
    unary main_v49 main_v52 (broadcastInDim S4x20000x100 ![0, 1, 2] bcast_S4x1x100_S4x20000x100_0_1_2 : (⟨S4x1x100, .f32⟩ : BufTy).Contents (Elt F) → (⟨S4x20000x100, .f32⟩ : BufTy).Contents (Elt F)) ]

/-- @main's operations 61 … 62 of 358 (window `main_part0`). -/
abbrev ops_part0_2 : List (HloOp τ sig (Elt F)) :=
  [ binary main_v51 main_v52 main_v53 (addf : (⟨S4x20000x100, .f32⟩ : BufTy).Contents (Elt F) → (⟨S4x20000x100, .f32⟩ : BufTy).Contents (Elt F) → (⟨S4x20000x100, .f32⟩ : BufTy).Contents (Elt F)),
    binary main_v53 main_v25 main_v54 (subf : (⟨S4x20000x100, .f32⟩ : BufTy).Contents (Elt F) → (⟨S4x20000x100, .f32⟩ : BufTy).Contents (Elt F) → (⟨S4x20000x100, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 358 (window `main_part1`). -/
abbrev ops_part1_0 : List (HloOp τ sig (Elt F)) :=
  [ nullary main_cst_3 (constant S_ .f32 0x358637BD#32),
    unary main_cst_3 main_v55 (broadcastInDim S4x20000x100 ![] bcast_S_S4x20000x100 : (⟨S_, .f32⟩ : BufTy).Contents (Elt F) → (⟨S4x20000x100, .f32⟩ : BufTy).Contents (Elt F)),
    binary main_v54 main_v55 main_v56 (maximumf : (⟨S4x20000x100, .f32⟩ : BufTy).Contents (Elt F) → (⟨S4x20000x100, .f32⟩ : BufTy).Contents (Elt F) → (⟨S4x20000x100, .f32⟩ : BufTy).Contents (Elt F)),
    binary main_v25 main_v56 main_v57 (Host.divf : (⟨S4x20000x100, .f32⟩ : BufTy).Contents (Elt F) → (⟨S4x20000x100, .f32⟩ : BufTy).Contents (Elt F) → (⟨S4x20000x100, .f32⟩ : BufTy).Contents (Elt F)),
    unary main_v2 main_v58 (broadcastInDim S4x1x100 ![0, 2] bcast_S4x100_S4x1x100_0_2 : (⟨S4x100, .i1⟩ : BufTy).Contents (Elt F) → (⟨S4x1x100, .i1⟩ : BufTy).Contents (Elt F)),
    nullary main_cst_4 (constant S_ .f32 0xBF800000#32),
    TRef.unary (TRef.of (T := ⟨S_, .f32⟩) main_cst_4) (TRef.of (T := ⟨S_, .f32⟩) main_call1_v0) id,
    TRef.unary (TRef.of (T := ⟨S4x1x100, .i1⟩) main_v58) (TRef.of (T := ⟨S4x20000x100, .i1⟩) main_call1_v1) (broadcastInDim S4x20000x100 ![0, 1, 2] bcast_S4x1x100_S4x20000x100_0_1_2),
    TRef.unary (TRef.of (T := ⟨S_, .f32⟩) main_call1_v0) (TRef.of (T := ⟨S20000x100, .f32⟩) main_call1_v2) (broadcastInDim S20000x100 ![] bcast_S_S20000x100),
    TRef.unary (TRef.of (T := ⟨S20000x100, .f32⟩) main_call1_v2) (TRef.of (T := ⟨S4x20000x100, .f32⟩) main_call1_v3) (broadcastInDim S4x20000x100 ![1, 2] bcast_S20000x100_S4x20000x100_1_2),
    TRef.ternary (TRef.of (T := ⟨S4x20000x100, .i1⟩) main_call1_v1) (TRef.of (T := ⟨S4x20000x100, .f32⟩) main_v57) (TRef.of (T := ⟨S4x20000x100, .f32⟩) main_call1_v3) (TRef.of (T := ⟨S4x20000x100, .f32⟩) main_v59) select,
    nullary main_cst_5 (constant S_ .f32 0xFF800000#32),
    binary main_v59 main_cst_5 main_v60 ((fun x v => Host.reduce FloatOps.maximumf x v reducesTo_S4x20000x100_S4x20000_d2 h_S_) : (⟨S4x20000x100, .f32⟩ : BufTy).Contents (Elt F) → (⟨S_, .f32⟩ : BufTy).Contents (Elt F) → (⟨S4x20000, .f32⟩ : BufTy).Contents (Elt F)),
    TRef.nullary (TRef.of (T := ⟨S4x20000x100, .i32⟩) main_call2_v0) (iotaInDim S4x20000x100 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S4x20000x100, .f32⟩) main_v59) (TRef.of (T := ⟨S4x20000x100, .i32⟩) main_call2_v0) (TRef.of (T := ⟨S_, .f32⟩) main_call2_cst) (TRef.of (T := ⟨S_, .i32⟩) main_call2_c) (TRef.of (T := ⟨S4x20000, .f32⟩) main_call2_v1_0) (fun x y u v j => (Host.argReduce reducer_argmax_f32_i32 x y u v reducesTo_S4x20000x100_S4x20000_d2 h_S_ j).1),
    TRef.quaternary (TRef.of (T := ⟨S4x20000x100, .f32⟩) main_v59) (TRef.of (T := ⟨S4x20000x100, .i32⟩) main_call2_v0) (TRef.of (T := ⟨S_, .f32⟩) main_call2_cst) (TRef.of (T := ⟨S_, .i32⟩) main_call2_c) (TRef.of (T := ⟨S4x20000, .i32⟩) main_v61) (fun x y u v j => (Host.argReduce reducer_argmax_f32_i32 x y u v reducesTo_S4x20000x100_S4x20000_d2 h_S_ j).2),
    nullary main_cst_6 (constant S_ .f32 0x3F000000#32),
    unary main_cst_6 main_v62 (broadcastInDim S4x20000 ![] bcast_S_S4x20000 : (⟨S_, .f32⟩ : BufTy).Contents (Elt F) → (⟨S4x20000, .f32⟩ : BufTy).Contents (Elt F)),
    binary main_v60 main_v62 main_v63 (cmpf .oge : (⟨S4x20000, .f32⟩ : BufTy).Contents (Elt F) → (⟨S4x20000, .f32⟩ : BufTy).Contents (Elt F) → (⟨S4x20000, .i1⟩ : BufTy).Contents (Elt F)),
    nullary main_cst_7 (constant S_ .f32 0x3ECCCCCD#32),
    unary main_cst_7 main_v64 (broadcastInDim S4x20000 ![] bcast_S_S4x20000 : (⟨S_, .f32⟩ : BufTy).Contents (Elt F) → (⟨S4x20000, .f32⟩ : BufTy).Contents (Elt F)),
    binary main_v60 main_v64 main_v65 (cmpf .olt : (⟨S4x20000, .f32⟩ : BufTy).Contents (Elt F) → (⟨S4x20000, .f32⟩ : BufTy).Contents (Elt F) → (⟨S4x20000, .i1⟩ : BufTy).Contents (Elt F)),
    nullary main_c_8 (constantI S_ 32 4294967295#32),
    nullary main_c_9 (constantI S_ 32 0#32),
    TRef.unary (TRef.of (T := ⟨S_, .i32⟩) main_c_8) (TRef.of (T := ⟨S20000, .i32⟩) main_call3_v0) (broadcastInDim S20000 ![] bcast_S_S20000),
    TRef.unary (TRef.of (T := ⟨S_, .i32⟩) main_c_9) (TRef.of (T := ⟨S20000, .i32⟩) main_call3_v1) (broadcastInDim S20000 ![] bcast_S_S20000),
    TRef.unary (TRef.of (T := ⟨S20000, .i32⟩) main_call3_v1) (TRef.of (T := ⟨S4x20000, .i32⟩) main_call3_v2) (broadcastInDim S4x20000 ![1] bcast_S20000_S4x20000_1),
    TRef.unary (TRef.of (T := ⟨S20000, .i32⟩) main_call3_v0) (TRef.of (T := ⟨S4x20000, .i32⟩) main_call3_v3) (broadcastInDim S4x20000 ![1] bcast_S20000_S4x20000_1) ]

/-- @main's operations 93 … 122 of 358 (window `main_part1`). -/
abbrev ops_part1_1 : List (HloOp τ sig (Elt F)) :=
  [ TRef.ternary (TRef.of (T := ⟨S4x20000, .i1⟩) main_v65) (TRef.of (T := ⟨S4x20000, .i32⟩) main_call3_v3) (TRef.of (T := ⟨S4x20000, .i32⟩) main_call3_v2) (TRef.of (T := ⟨S4x20000, .i32⟩) main_v66) select,
    nullary main_c_10 (constantI S_ 32 1#32),
    TRef.unary (TRef.of (T := ⟨S_, .i32⟩) main_c_10) (TRef.of (T := ⟨S20000, .i32⟩) main_call4_v0) (broadcastInDim S20000 ![] bcast_S_S20000),
    TRef.unary (TRef.of (T := ⟨S20000, .i32⟩) main_call4_v0) (TRef.of (T := ⟨S4x20000, .i32⟩) main_call4_v1) (broadcastInDim S4x20000 ![1] bcast_S20000_S4x20000_1),
    TRef.ternary (TRef.of (T := ⟨S4x20000, .i1⟩) main_v63) (TRef.of (T := ⟨S4x20000, .i32⟩) main_call4_v1) (TRef.of (T := ⟨S4x20000, .i32⟩) main_v66) (TRef.of (T := ⟨S4x20000, .i32⟩) main_v67) select,
    unary main_v67 main_v68 (id : (⟨S4x20000, .i32⟩ : BufTy).Contents (Elt F) → (⟨S4x20000, .i32⟩ : BufTy).Contents (Elt F)),
    nullary main_cst_11 (constant S_ .f32 0x00000000#32),
    unary main_cst_11 main_v69 (broadcastInDim S20000x80 ![] bcast_S_S20000x80 : (⟨S_, .f32⟩ : BufTy).Contents (Elt F) → (⟨S20000x80, .f32⟩ : BufTy).Contents (Elt F)),
    nullary main_c_12 (constantI S_ 32 0#32),
    unary main_c_12 main_v70 (broadcastInDim S1 ![] bcast_S_S1 : (⟨S_, .i32⟩ : BufTy).Contents (Elt F) → (⟨S1, .i32⟩ : BufTy).Contents (Elt F)),
    nullary main_cst_13 (constant S_ .f32 0x3F800000#32),
    unary main_cst_13 main_v71 (broadcastInDim S20000 ![] bcast_S_S20000 : (⟨S_, .f32⟩ : BufTy).Contents (Elt F) → (⟨S20000, .f32⟩ : BufTy).Contents (Elt F)),
    ternary main_v69 main_v70 main_v71 main_v72 ((fun x i u => Host.scatter scatter_S20000x80_S1_S20000_0_1_1_0 (fun _ b => b) x i u) : (⟨S20000x80, .f32⟩ : BufTy).Contents (Elt F) → (⟨S1, .i32⟩ : BufTy).Contents (Elt F) → (⟨S20000, .f32⟩ : BufTy).Contents (Elt F) → (⟨S20000x80, .f32⟩ : BufTy).Contents (Elt F)),
    unary main_v63 main_v73 (broadcastInDim S4x20000x1 ![0, 1] bcast_S4x20000_S4x20000x1_0_1 : (⟨S4x20000, .i1⟩ : BufTy).Contents (Elt F) → (⟨S4x20000x1, .i1⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S4x20000, .i32⟩) main_call5_v0) (broadcastInDim S4x20000 ![] bcast_S_S4x20000),
    TRef.binary (TRef.of (T := ⟨S4x20000, .i32⟩) main_v61) (TRef.of (T := ⟨S4x20000, .i32⟩) main_call5_v0) (TRef.of (T := ⟨S4x20000, .i1⟩) main_call5_v1) (cmpi .slt),
    TRef.nullary (TRef.of (T := ⟨S_, .i32⟩) main_call5_c_0) (constantI S_ 32 100#32),
    TRef.unary (TRef.of (T := ⟨S_, .i32⟩) main_call5_c_0) (TRef.of (T := ⟨S4x20000, .i32⟩) main_call5_v2) (broadcastInDim S4x20000 ![] bcast_S_S4x20000),
    TRef.binary (TRef.of (T := ⟨S4x20000, .i32⟩) main_v61) (TRef.of (T := ⟨S4x20000, .i32⟩) main_call5_v2) (TRef.of (T := ⟨S4x20000, .i32⟩) main_call5_v3) addi,
    TRef.ternary (TRef.of (T := ⟨S4x20000, .i1⟩) main_call5_v1) (TRef.of (T := ⟨S4x20000, .i32⟩) main_call5_v3) (TRef.of (T := ⟨S4x20000, .i32⟩) main_v61) (TRef.of (T := ⟨S4x20000, .i32⟩) main_call5_v4) select,
    TRef.unary (TRef.of (T := ⟨S4x20000, .i32⟩) main_call5_v4) (TRef.of (T := ⟨S4x20000x1, .i32⟩) main_call5_v5) (broadcastInDim S4x20000x1 ![0, 1] bcast_S4x20000_S4x20000x1_0_1),
    TRef.nullary (TRef.of (T := ⟨S1, .i32⟩) main_call5_c_1) (constantI S1 32 99#32),
    TRef.nullary (TRef.of (T := ⟨S_, .i32⟩) main_call5_c_2) (constantI S_ 32 0#32),
    TRef.unary (TRef.of (T := ⟨S_, .i32⟩) main_call5_c_2) (TRef.of (T := ⟨S4x20000x1, .i32⟩) main_call5_v6) (broadcastInDim S4x20000x1 ![] bcast_S_S4x20000x1),
    TRef.binary (TRef.of (T := ⟨S4x20000x1, .i32⟩) main_call5_v5) (TRef.of (T := ⟨S4x20000x1, .i32⟩) main_call5_v6) (TRef.of (T := ⟨S4x20000x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S4x20000x1, .i32⟩) main_call5_v9) (broadcastInDim S4x20000x1 ![0, 1, 2] bcast_S1x1x1_S4x20000x1_0_1_2),
    TRef.binary (TRef.of (T := ⟨S4x20000x1, .i32⟩) main_call5_v5) (TRef.of (T := ⟨S4x20000x1, .i32⟩) main_call5_v9) (TRef.of (T := ⟨S4x20000x1, .i1⟩) main_call5_v10) (cmpi .sle),
    TRef.binary (TRef.of (T := ⟨S4x20000x1, .i1⟩) main_call5_v7) (TRef.of (T := ⟨S4x20000x1, .i1⟩) main_call5_v10) (TRef.of (T := ⟨S4x20000x1, .i1⟩) main_call5_v11) andi ]

/-- @main's operations 123 … 152 of 358 (window `main_part1`). -/
abbrev ops_part1_2 : List (HloOp τ sig (Elt F)) :=
  [ TRef.nullary (TRef.of (T := ⟨S_, .i1⟩) main_call5_c_3) (constantI S_ 1 1#1),
    TRef.binary (TRef.of (T := ⟨S4x20000x1, .i1⟩) main_call5_v11) (TRef.of (T := ⟨S_, .i1⟩) main_call5_c_3) (TRef.of (T := ⟨S4x20000, .i1⟩) main_call5_v12) (fun x v => Host.reduce IntOp.andi x v reducesTo_S4x20000x1_S4x20000_d2 h_S_),
    TRef.binary (TRef.of (T := ⟨S4x100x80, .f32⟩) main_arg0) (TRef.of (T := ⟨S4x20000x1, .i32⟩) main_call5_v5) (TRef.of (T := ⟨S4x20000x80, .f32⟩) main_call5_v13) (fun x i => Host.gather gather_S4x100x80_S4x20000x1_S4x20000x80_2_1_0_0_1_2_1180 x i),
    TRef.unary (TRef.of (T := ⟨S4x20000, .i1⟩) main_call5_v12) (TRef.of (T := ⟨S4x20000x80, .i1⟩) main_call5_v14) (broadcastInDim S4x20000x80 ![0, 1] bcast_S4x20000_S4x20000x80_0_1),
    TRef.nullary (TRef.of (T := ⟨S_, .f32⟩) main_call5_cst) (constant S_ .f32 0x7FC00000#32),
    TRef.unary (TRef.of (T := ⟨S_, .f32⟩) main_call5_cst) (TRef.of (T := ⟨S4x20000x80, .f32⟩) main_call5_v15) (broadcastInDim S4x20000x80 ![] bcast_S_S4x20000x80),
    TRef.ternary (TRef.of (T := ⟨S4x20000x80, .i1⟩) main_call5_v14) (TRef.of (T := ⟨S4x20000x80, .f32⟩) main_call5_v13) (TRef.of (T := ⟨S4x20000x80, .f32⟩) main_call5_v15) (TRef.of (T := ⟨S4x20000x80, .f32⟩) main_v74) select,
    TRef.unary (TRef.of (T := ⟨S4x20000x1, .i1⟩) main_v73) (TRef.of (T := ⟨S4x20000x80, .i1⟩) main_call6_v0) (broadcastInDim S4x20000x80 ![0, 1, 2] bcast_S4x20000x1_S4x20000x80_0_1_2),
    TRef.unary (TRef.of (T := ⟨S20000x80, .f32⟩) main_v72) (TRef.of (T := ⟨S4x20000x80, .f32⟩) main_call6_v1) (broadcastInDim S4x20000x80 ![1, 2] bcast_S20000x80_S4x20000x80_1_2),
    TRef.ternary (TRef.of (T := ⟨S4x20000x80, .i1⟩) main_call6_v0) (TRef.of (T := ⟨S4x20000x80, .f32⟩) main_v74) (TRef.of (T := ⟨S4x20000x80, .f32⟩) main_call6_v1) (TRef.of (T := ⟨S4x20000x80, .f32⟩) main_v75) select,
    TRef.nullary (TRef.of (T := ⟨S_, .i32⟩) main_call7_c) (constantI S_ 32 0#32),
    TRef.unary (TRef.of (T := ⟨S_, .i32⟩) main_call7_c) (TRef.of (T := ⟨S4x20000, .i32⟩) main_call7_v0) (broadcastInDim S4x20000 ![] bcast_S_S4x20000),
    TRef.binary (TRef.of (T := ⟨S4x20000, .i32⟩) main_v61) (TRef.of (T := ⟨S4x20000, .i32⟩) main_call7_v0) (TRef.of (T := ⟨S4x20000, .i1⟩) main_call7_v1) (cmpi .slt),
    TRef.nullary (TRef.of (T := ⟨S_, .i32⟩) main_call7_c_0) (constantI S_ 32 100#32),
    TRef.unary (TRef.of (T := ⟨S_, .i32⟩) main_call7_c_0) (TRef.of (T := ⟨S4x20000, .i32⟩) main_call7_v2) (broadcastInDim S4x20000 ![] bcast_S_S4x20000),
    TRef.binary (TRef.of (T := ⟨S4x20000, .i32⟩) main_v61) (TRef.of (T := ⟨S4x20000, .i32⟩) main_call7_v2) (TRef.of (T := ⟨S4x20000, .i32⟩) main_call7_v3) addi,
    TRef.ternary (TRef.of (T := ⟨S4x20000, .i1⟩) main_call7_v1) (TRef.of (T := ⟨S4x20000, .i32⟩) main_call7_v3) (TRef.of (T := ⟨S4x20000, .i32⟩) main_v61) (TRef.of (T := ⟨S4x20000, .i32⟩) main_call7_v4) select,
    TRef.unary (TRef.of (T := ⟨S4x20000, .i32⟩) main_call7_v4) (TRef.of (T := ⟨S4x20000x1, .i32⟩) main_call7_v5) (broadcastInDim S4x20000x1 ![0, 1] bcast_S4x20000_S4x20000x1_0_1),
    TRef.nullary (TRef.of (T := ⟨S1, .i32⟩) main_call7_c_1) (constantI S1 32 99#32),
    TRef.nullary (TRef.of (T := ⟨S_, .i32⟩) main_call7_c_2) (constantI S_ 32 0#32),
    TRef.unary (TRef.of (T := ⟨S_, .i32⟩) main_call7_c_2) (TRef.of (T := ⟨S4x20000x1, .i32⟩) main_call7_v6) (broadcastInDim S4x20000x1 ![] bcast_S_S4x20000x1),
    TRef.binary (TRef.of (T := ⟨S4x20000x1, .i32⟩) main_call7_v5) (TRef.of (T := ⟨S4x20000x1, .i32⟩) main_call7_v6) (TRef.of (T := ⟨S4x20000x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S4x20000x1, .i32⟩) main_call7_v9) (broadcastInDim S4x20000x1 ![0, 1, 2] bcast_S1x1x1_S4x20000x1_0_1_2),
    TRef.binary (TRef.of (T := ⟨S4x20000x1, .i32⟩) main_call7_v5) (TRef.of (T := ⟨S4x20000x1, .i32⟩) main_call7_v9) (TRef.of (T := ⟨S4x20000x1, .i1⟩) main_call7_v10) (cmpi .sle),
    TRef.binary (TRef.of (T := ⟨S4x20000x1, .i1⟩) main_call7_v7) (TRef.of (T := ⟨S4x20000x1, .i1⟩) main_call7_v10) (TRef.of (T := ⟨S4x20000x1, .i1⟩) main_call7_v11) andi,
    TRef.nullary (TRef.of (T := ⟨S_, .i1⟩) main_call7_c_3) (constantI S_ 1 1#1),
    TRef.binary (TRef.of (T := ⟨S4x20000x1, .i1⟩) main_call7_v11) (TRef.of (T := ⟨S_, .i1⟩) main_call7_c_3) (TRef.of (T := ⟨S4x20000, .i1⟩) main_call7_v12) (fun x v => Host.reduce IntOp.andi x v reducesTo_S4x20000x1_S4x20000_d2 h_S_),
    TRef.binary (TRef.of (T := ⟨S4x100x4, .f32⟩) main_arg1) (TRef.of (T := ⟨S4x20000x1, .i32⟩) main_call7_v5) (TRef.of (T := ⟨S4x20000x4, .f32⟩) main_call7_v13) (fun x i => Host.gather gather_S4x100x4_S4x20000x1_S4x20000x4_2_1_0_0_1_2_114 x i),
    TRef.unary (TRef.of (T := ⟨S4x20000, .i1⟩) main_call7_v12) (TRef.of (T := ⟨S4x20000x4, .i1⟩) main_call7_v14) (broadcastInDim S4x20000x4 ![0, 1] bcast_S4x20000_S4x20000x4_0_1) ]

/-- @main's operations 153 … 182 of 358 (window `main_part1`). -/
abbrev ops_part1_3 : List (HloOp τ sig (Elt F)) :=
  [ TRef.nullary (TRef.of (T := ⟨S_, .f32⟩) main_call7_cst) (constant S_ .f32 0x7FC00000#32),
    TRef.unary (TRef.of (T := ⟨S_, .f32⟩) main_call7_cst) (TRef.of (T := ⟨S4x20000x4, .f32⟩) main_call7_v15) (broadcastInDim S4x20000x4 ![] bcast_S_S4x20000x4),
    TRef.ternary (TRef.of (T := ⟨S4x20000x4, .i1⟩) main_call7_v14) (TRef.of (T := ⟨S4x20000x4, .f32⟩) main_call7_v13) (TRef.of (T := ⟨S4x20000x4, .f32⟩) main_call7_v15) (TRef.of (T := ⟨S4x20000x4, .f32⟩) main_v76) select,
    unary main_arg4 main_v77 ((extractStridedSlice S20000x1 ![0, 2] · slices_S20000x4_S20000x1_0_2) : (⟨S20000x4, .f32⟩ : BufTy).Contents (Elt F) → (⟨S20000x1, .f32⟩ : BufTy).Contents (Elt F)),
    reshape main_v77 main_v78 (rfl : (.f32 : EltTy) = .f32) shapeCasts_S20000x1_S20000,
    unary main_arg4 main_v79 ((extractStridedSlice S20000x1 ![0, 0] · slices_S20000x4_S20000x1_0_0) : (⟨S20000x4, .f32⟩ : BufTy).Contents (Elt F) → (⟨S20000x1, .f32⟩ : BufTy).Contents (Elt F)),
    reshape main_v79 main_v80 (rfl : (.f32 : EltTy) = .f32) shapeCasts_S20000x1_S20000,
    binary main_v78 main_v80 main_v81 (subf : (⟨S20000, .f32⟩ : BufTy).Contents (Elt F) → (⟨S20000, .f32⟩ : BufTy).Contents (Elt F) → (⟨S20000, .f32⟩ : BufTy).Contents (Elt F)),
    nullary main_cst_14 (constant S_ .f32 0x358637BD#32),
    unary main_cst_14 main_v82 (broadcastInDim S20000 ![] bcast_S_S20000 : (⟨S_, .f32⟩ : BufTy).Contents (Elt F) → (⟨S20000, .f32⟩ : BufTy).Contents (Elt F)),
    binary main_v81 main_v82 main_v83 (maximumf : (⟨S20000, .f32⟩ : BufTy).Contents (Elt F) → (⟨S20000, .f32⟩ : BufTy).Contents (Elt F) → (⟨S20000, .f32⟩ : BufTy).Contents (Elt F)),
    unary main_arg4 main_v84 ((extractStridedSlice S20000x1 ![0, 3] · slices_S20000x4_S20000x1_0_3) : (⟨S20000x4, .f32⟩ : BufTy).Contents (Elt F) → (⟨S20000x1, .f32⟩ : BufTy).Contents (Elt F)),
    reshape main_v84 main_v85 (rfl : (.f32 : EltTy) = .f32) shapeCasts_S20000x1_S20000,
    unary main_arg4 main_v86 ((extractStridedSlice S20000x1 ![0, 1] · slices_S20000x4_S20000x1_0_1) : (⟨S20000x4, .f32⟩ : BufTy).Contents (Elt F) → (⟨S20000x1, .f32⟩ : BufTy).Contents (Elt F)),
    reshape main_v86 main_v87 (rfl : (.f32 : EltTy) = .f32) shapeCasts_S20000x1_S20000,
    binary main_v85 main_v87 main_v88 (subf : (⟨S20000, .f32⟩ : BufTy).Contents (Elt F) → (⟨S20000, .f32⟩ : BufTy).Contents (Elt F) → (⟨S20000, .f32⟩ : BufTy).Contents (Elt F)),
    nullary main_cst_15 (constant S_ .f32 0x358637BD#32),
    unary main_cst_15 main_v89 (broadcastInDim S20000 ![] bcast_S_S20000 : (⟨S_, .f32⟩ : BufTy).Contents (Elt F) → (⟨S20000, .f32⟩ : BufTy).Contents (Elt F)),
    binary main_v88 main_v89 main_v90 (maximumf : (⟨S20000, .f32⟩ : BufTy).Contents (Elt F) → (⟨S20000, .f32⟩ : BufTy).Contents (Elt F) → (⟨S20000, .f32⟩ : BufTy).Contents (Elt F)),
    unary main_arg4 main_v91 ((extractStridedSlice S20000x1 ![0, 0] · slices_S20000x4_S20000x1_0_0) : (⟨S20000x4, .f32⟩ : BufTy).Contents (Elt F) → (⟨S20000x1, .f32⟩ : BufTy).Contents (Elt F)),
    reshape main_v91 main_v92 (rfl : (.f32 : EltTy) = .f32) shapeCasts_S20000x1_S20000,
    nullary main_cst_16 (constant S_ .f32 0x3F000000#32),
    unary main_cst_16 main_v93 (broadcastInDim S20000 ![] bcast_S_S20000 : (⟨S_, .f32⟩ : BufTy).Contents (Elt F) → (⟨S20000, .f32⟩ : BufTy).Contents (Elt F)),
    binary main_v93 main_v83 main_v94 (mulf : (⟨S20000, .f32⟩ : BufTy).Contents (Elt F) → (⟨S20000, .f32⟩ : BufTy).Contents (Elt F) → (⟨S20000, .f32⟩ : BufTy).Contents (Elt F)),
    binary main_v92 main_v94 main_v95 (addf : (⟨S20000, .f32⟩ : BufTy).Contents (Elt F) → (⟨S20000, .f32⟩ : BufTy).Contents (Elt F) → (⟨S20000, .f32⟩ : BufTy).Contents (Elt F)),
    unary main_arg4 main_v96 ((extractStridedSlice S20000x1 ![0, 1] · slices_S20000x4_S20000x1_0_1) : (⟨S20000x4, .f32⟩ : BufTy).Contents (Elt F) → (⟨S20000x1, .f32⟩ : BufTy).Contents (Elt F)),
    reshape main_v96 main_v97 (rfl : (.f32 : EltTy) = .f32) shapeCasts_S20000x1_S20000,
    nullary main_cst_17 (constant S_ .f32 0x3F000000#32),
    unary main_cst_17 main_v98 (broadcastInDim S20000 ![] bcast_S_S20000 : (⟨S_, .f32⟩ : BufTy).Contents (Elt F) → (⟨S20000, .f32⟩ : BufTy).Contents (Elt F)),
    binary main_v98 main_v90 main_v99 (mulf : (⟨S20000, .f32⟩ : BufTy).Contents (Elt F) → (⟨S20000, .f32⟩ : BufTy).Contents (Elt F) → (⟨S20000, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's operations 183 … 242 of 358 (window `main_part2`). -/
abbrev ops_part2 : List (HloOp τ sig (Elt F)) :=
  [ binary main_v97 main_v99 main_v100 (addf : (⟨S20000, .f32⟩ : BufTy).Contents (Elt F) → (⟨S20000, .f32⟩ : BufTy).Contents (Elt F) → (⟨S20000, .f32⟩ : BufTy).Contents (Elt F)),
    unary main_v76 main_v101 ((extractStridedSlice S4x20000x1 ![0, 0, 2] · slices_S4x20000x4_S4x20000x1_0_0_2) : (⟨S4x20000x4, .f32⟩ : BufTy).Contents (Elt F) → (⟨S4x20000x1, .f32⟩ : BufTy).Contents (Elt F)),
    reshape main_v101 main_v102 (rfl : (.f32 : EltTy) = .f32) shapeCasts_S4x20000x1_S4x20000,
    unary main_v76 main_v103 ((extractStridedSlice S4x20000x1 ![0, 0, 0] · slices_S4x20000x4_S4x20000x1_0_0_0) : (⟨S4x20000x4, .f32⟩ : BufTy).Contents (Elt F) → (⟨S4x20000x1, .f32⟩ : BufTy).Contents (Elt F)),
    reshape main_v103 main_v104 (rfl : (.f32 : EltTy) = .f32) shapeCasts_S4x20000x1_S4x20000,
    binary main_v102 main_v104 main_v105 (subf : (⟨S4x20000, .f32⟩ : BufTy).Contents (Elt F) → (⟨S4x20000, .f32⟩ : BufTy).Contents (Elt F) → (⟨S4x20000, .f32⟩ : BufTy).Contents (Elt F)),
    nullary main_cst_18 (constant S_ .f32 0x358637BD#32),
    unary main_cst_18 main_v106 (broadcastInDim S4x20000 ![] bcast_S_S4x20000 : (⟨S_, .f32⟩ : BufTy).Contents (Elt F) → (⟨S4x20000, .f32⟩ : BufTy).Contents (Elt F)),
    binary main_v105 main_v106 main_v107 (maximumf : (⟨S4x20000, .f32⟩ : BufTy).Contents (Elt F) → (⟨S4x20000, .f32⟩ : BufTy).Contents (Elt F) → (⟨S4x20000, .f32⟩ : BufTy).Contents (Elt F)),
    unary main_v76 main_v108 ((extractStridedSlice S4x20000x1 ![0, 0, 3] · slices_S4x20000x4_S4x20000x1_0_0_3) : (⟨S4x20000x4, .f32⟩ : BufTy).Contents (Elt F) → (⟨S4x20000x1, .f32⟩ : BufTy).Contents (Elt F)),
    reshape main_v108 main_v109 (rfl : (.f32 : EltTy) = .f32) shapeCasts_S4x20000x1_S4x20000,
    unary main_v76 main_v110 ((extractStridedSlice S4x20000x1 ![0, 0, 1] · slices_S4x20000x4_S4x20000x1_0_0_1) : (⟨S4x20000x4, .f32⟩ : BufTy).Contents (Elt F) → (⟨S4x20000x1, .f32⟩ : BufTy).Contents (Elt F)),
    reshape main_v110 main_v111 (rfl : (.f32 : EltTy) = .f32) shapeCasts_S4x20000x1_S4x20000,
    binary main_v109 main_v111 main_v112 (subf : (⟨S4x20000, .f32⟩ : BufTy).Contents (Elt F) → (⟨S4x20000, .f32⟩ : BufTy).Contents (Elt F) → (⟨S4x20000, .f32⟩ : BufTy).Contents (Elt F)),
    nullary main_cst_19 (constant S_ .f32 0x358637BD#32),
    unary main_cst_19 main_v113 (broadcastInDim S4x20000 ![] bcast_S_S4x20000 : (⟨S_, .f32⟩ : BufTy).Contents (Elt F) → (⟨S4x20000, .f32⟩ : BufTy).Contents (Elt F)),
    binary main_v112 main_v113 main_v114 (maximumf : (⟨S4x20000, .f32⟩ : BufTy).Contents (Elt F) → (⟨S4x20000, .f32⟩ : BufTy).Contents (Elt F) → (⟨S4x20000, .f32⟩ : BufTy).Contents (Elt F)),
    unary main_v76 main_v115 ((extractStridedSlice S4x20000x1 ![0, 0, 0] · slices_S4x20000x4_S4x20000x1_0_0_0) : (⟨S4x20000x4, .f32⟩ : BufTy).Contents (Elt F) → (⟨S4x20000x1, .f32⟩ : BufTy).Contents (Elt F)),
    reshape main_v115 main_v116 (rfl : (.f32 : EltTy) = .f32) shapeCasts_S4x20000x1_S4x20000,
    nullary main_cst_20 (constant S_ .f32 0x3F000000#32),
    unary main_cst_20 main_v117 (broadcastInDim S4x20000 ![] bcast_S_S4x20000 : (⟨S_, .f32⟩ : BufTy).Contents (Elt F) → (⟨S4x20000, .f32⟩ : BufTy).Contents (Elt F)),
    binary main_v117 main_v107 main_v118 (mulf : (⟨S4x20000, .f32⟩ : BufTy).Contents (Elt F) → (⟨S4x20000, .f32⟩ : BufTy).Contents (Elt F) → (⟨S4x20000, .f32⟩ : BufTy).Contents (Elt F)),
    binary main_v116 main_v118 main_v119 (addf : (⟨S4x20000, .f32⟩ : BufTy).Contents (Elt F) → (⟨S4x20000, .f32⟩ : BufTy).Contents (Elt F) → (⟨S4x20000, .f32⟩ : BufTy).Contents (Elt F)),
    unary main_v76 main_v120 ((extractStridedSlice S4x20000x1 ![0, 0, 1] · slices_S4x20000x4_S4x20000x1_0_0_1) : (⟨S4x20000x4, .f32⟩ : BufTy).Contents (Elt F) → (⟨S4x20000x1, .f32⟩ : BufTy).Contents (Elt F)),
    reshape main_v120 main_v121 (rfl : (.f32 : EltTy) = .f32) shapeCasts_S4x20000x1_S4x20000,
    nullary main_cst_21 (constant S_ .f32 0x3F000000#32),
    unary main_cst_21 main_v122 (broadcastInDim S4x20000 ![] bcast_S_S4x20000 : (⟨S_, .f32⟩ : BufTy).Contents (Elt F) → (⟨S4x20000, .f32⟩ : BufTy).Contents (Elt F)),
    binary main_v122 main_v114 main_v123 (mulf : (⟨S4x20000, .f32⟩ : BufTy).Contents (Elt F) → (⟨S4x20000, .f32⟩ : BufTy).Contents (Elt F) → (⟨S4x20000, .f32⟩ : BufTy).Contents (Elt F)),
    binary main_v121 main_v123 main_v124 (addf : (⟨S4x20000, .f32⟩ : BufTy).Contents (Elt F) → (⟨S4x20000, .f32⟩ : BufTy).Contents (Elt F) → (⟨S4x20000, .f32⟩ : BufTy).Contents (Elt F)),
    unary main_v95 main_v125 (broadcastInDim S1x20000 ![1] bcast_S20000_S1x20000_1 : (⟨S20000, .f32⟩ : BufTy).Contents (Elt F) → (⟨S1x20000, .f32⟩ : BufTy).Contents (Elt F)),
    unary main_v125 main_v126 (broadcastInDim S4x20000 ![0, 1] bcast_S1x20000_S4x20000_0_1 : (⟨S1x20000, .f32⟩ : BufTy).Contents (Elt F) → (⟨S4x20000, .f32⟩ : BufTy).Contents (Elt F)),
    binary main_v119 main_v126 main_v127 (subf : (⟨S4x20000, .f32⟩ : BufTy).Contents (Elt F) → (⟨S4x20000, .f32⟩ : BufTy).Contents (Elt F) → (⟨S4x20000, .f32⟩ : BufTy).Contents (Elt F)),
    unary main_v83 main_v128 (broadcastInDim S1x20000 ![1] bcast_S20000_S1x20000_1 : (⟨S20000, .f32⟩ : BufTy).Contents (Elt F) → (⟨S1x20000, .f32⟩ : BufTy).Contents (Elt F)),
    unary main_v128 main_v129 (broadcastInDim S4x20000 ![0, 1] bcast_S1x20000_S4x20000_0_1 : (⟨S1x20000, .f32⟩ : BufTy).Contents (Elt F) → (⟨S4x20000, .f32⟩ : BufTy).Contents (Elt F)),
    binary main_v127 main_v129 main_v130 (Host.divf : (⟨S4x20000, .f32⟩ : BufTy).Contents (Elt F) → (⟨S4x20000, .f32⟩ : BufTy).Contents (Elt F) → (⟨S4x20000, .f32⟩ : BufTy).Contents (Elt F)),
    unary main_v100 main_v131 (broadcastInDim S1x20000 ![1] bcast_S20000_S1x20000_1 : (⟨S20000, .f32⟩ : BufTy).Contents (Elt F) → (⟨S1x20000, .f32⟩ : BufTy).Contents (Elt F)),
    unary main_v131 main_v132 (broadcastInDim S4x20000 ![0, 1] bcast_S1x20000_S4x20000_0_1 : (⟨S1x20000, .f32⟩ : BufTy).Contents (Elt F) → (⟨S4x20000, .f32⟩ : BufTy).Contents (Elt F)),
    binary main_v124 main_v132 main_v133 (subf : (⟨S4x20000, .f32⟩ : BufTy).Contents (Elt F) → (⟨S4x20000, .f32⟩ : BufTy).Contents (Elt F) → (⟨S4x20000, .f32⟩ : BufTy).Contents (Elt F)),
    unary main_v90 main_v134 (broadcastInDim S1x20000 ![1] bcast_S20000_S1x20000_1 : (⟨S20000, .f32⟩ : BufTy).Contents (Elt F) → (⟨S1x20000, .f32⟩ : BufTy).Contents (Elt F)),
    unary main_v134 main_v135 (broadcastInDim S4x20000 ![0, 1] bcast_S1x20000_S4x20000_0_1 : (⟨S1x20000, .f32⟩ : BufTy).Contents (Elt F) → (⟨S4x20000, .f32⟩ : BufTy).Contents (Elt F)),
    binary main_v133 main_v135 main_v136 (Host.divf : (⟨S4x20000, .f32⟩ : BufTy).Contents (Elt F) → (⟨S4x20000, .f32⟩ : BufTy).Contents (Elt F) → (⟨S4x20000, .f32⟩ : BufTy).Contents (Elt F)),
    unary main_v83 main_v137 (broadcastInDim S1x20000 ![1] bcast_S20000_S1x20000_1 : (⟨S20000, .f32⟩ : BufTy).Contents (Elt F) → (⟨S1x20000, .f32⟩ : BufTy).Contents (Elt F)),
    unary main_v137 main_v138 (broadcastInDim S4x20000 ![0, 1] bcast_S1x20000_S4x20000_0_1 : (⟨S1x20000, .f32⟩ : BufTy).Contents (Elt F) → (⟨S4x20000, .f32⟩ : BufTy).Contents (Elt F)),
    binary main_v107 main_v138 main_v139 (Host.divf : (⟨S4x20000, .f32⟩ : BufTy).Contents (Elt F) → (⟨S4x20000, .f32⟩ : BufTy).Contents (Elt F) → (⟨S4x20000, .f32⟩ : BufTy).Contents (Elt F)),
    unary main_v139 main_v140 (Host.log : (⟨S4x20000, .f32⟩ : BufTy).Contents (Elt F) → (⟨S4x20000, .f32⟩ : BufTy).Contents (Elt F)),
    unary main_v90 main_v141 (broadcastInDim S1x20000 ![1] bcast_S20000_S1x20000_1 : (⟨S20000, .f32⟩ : BufTy).Contents (Elt F) → (⟨S1x20000, .f32⟩ : BufTy).Contents (Elt F)),
    unary main_v141 main_v142 (broadcastInDim S4x20000 ![0, 1] bcast_S1x20000_S4x20000_0_1 : (⟨S1x20000, .f32⟩ : BufTy).Contents (Elt F) → (⟨S4x20000, .f32⟩ : BufTy).Contents (Elt F)),
    binary main_v114 main_v142 main_v143 (Host.divf : (⟨S4x20000, .f32⟩ : BufTy).Contents (Elt F) → (⟨S4x20000, .f32⟩ : BufTy).Contents (Elt F) → (⟨S4x20000, .f32⟩ : BufTy).Contents (Elt F)),
    unary main_v143 main_v144 (Host.log : (⟨S4x20000, .f32⟩ : BufTy).Contents (Elt F) → (⟨S4x20000, .f32⟩ : BufTy).Contents (Elt F)),
    unary main_v130 main_v145 (broadcastInDim S4x20000x1 ![0, 1] bcast_S4x20000_S4x20000x1_0_1 : (⟨S4x20000, .f32⟩ : BufTy).Contents (Elt F) → (⟨S4x20000x1, .f32⟩ : BufTy).Contents (Elt F)),
    unary main_v136 main_v146 (broadcastInDim S4x20000x1 ![0, 1] bcast_S4x20000_S4x20000x1_0_1 : (⟨S4x20000, .f32⟩ : BufTy).Contents (Elt F) → (⟨S4x20000x1, .f32⟩ : BufTy).Contents (Elt F)),
    unary main_v140 main_v147 (broadcastInDim S4x20000x1 ![0, 1] bcast_S4x20000_S4x20000x1_0_1 : (⟨S4x20000, .f32⟩ : BufTy).Contents (Elt F) → (⟨S4x20000x1, .f32⟩ : BufTy).Contents (Elt F)),
    unary main_v144 main_v148 (broadcastInDim S4x20000x1 ![0, 1] bcast_S4x20000_S4x20000x1_0_1 : (⟨S4x20000, .f32⟩ : BufTy).Contents (Elt F) → (⟨S4x20000x1, .f32⟩ : BufTy).Contents (Elt F)),
    nary ![main_v145, main_v146, main_v147, main_v148] main_v149 (fun u => fn_main_v149 (F := F) (u 0) (u 1) (u 2) (u 3)),
    unary main_cst main_v150 (broadcastInDim S1x4 ![1] bcast_S4_S1x4_1 : (⟨S4, .f32⟩ : BufTy).Contents (Elt F) → (⟨S1x4, .f32⟩ : BufTy).Contents (Elt F)),
    unary main_v150 main_v151 (broadcastInDim S1x1x4 ![1, 2] bcast_S1x4_S1x1x4_1_2 : (⟨S1x4, .f32⟩ : BufTy).Contents (Elt F) → (⟨S1x1x4, .f32⟩ : BufTy).Contents (Elt F)),
    unary main_v151 main_v152 (broadcastInDim S4x20000x4 ![0, 1, 2] bcast_S1x1x4_S4x20000x4_0_1_2 : (⟨S1x1x4, .f32⟩ : BufTy).Contents (Elt F) → (⟨S4x20000x4, .f32⟩ : BufTy).Contents (Elt F)),
    binary main_v149 main_v152 main_v153 (subf : (⟨S4x20000x4, .f32⟩ : BufTy).Contents (Elt F) → (⟨S4x20000x4, .f32⟩ : BufTy).Contents (Elt F) → (⟨S4x20000x4, .f32⟩ : BufTy).Contents (Elt F)),
    unary main_cst_0 main_v154 (broadcastInDim S1x4 ![1] bcast_S4_S1x4_1 : (⟨S4, .f32⟩ : BufTy).Contents (Elt F) → (⟨S1x4, .f32⟩ : BufTy).Contents (Elt F)),
    unary main_v154 main_v155 (broadcastInDim S1x1x4 ![1, 2] bcast_S1x4_S1x1x4_1_2 : (⟨S1x4, .f32⟩ : BufTy).Contents (Elt F) → (⟨S1x1x4, .f32⟩ : BufTy).Contents (Elt F)) ]

/-- @main's operations 243 … 272 of 358 (window `main_part3`). -/
abbrev ops_part3_0 : List (HloOp τ sig (Elt F)) :=
  [ unary main_v155 main_v156 (broadcastInDim S4x20000x4 ![0, 1, 2] bcast_S1x1x4_S4x20000x4_0_1_2 : (⟨S1x1x4, .f32⟩ : BufTy).Contents (Elt F) → (⟨S4x20000x4, .f32⟩ : BufTy).Contents (Elt F)),
    binary main_v153 main_v156 main_v157 (Host.divf : (⟨S4x20000x4, .f32⟩ : BufTy).Contents (Elt F) → (⟨S4x20000x4, .f32⟩ : BufTy).Contents (Elt F) → (⟨S4x20000x4, .f32⟩ : BufTy).Contents (Elt F)),
    unary main_v63 main_v158 (broadcastInDim S4x20000x1 ![0, 1] bcast_S4x20000_S4x20000x1_0_1 : (⟨S4x20000, .i1⟩ : BufTy).Contents (Elt F) → (⟨S4x20000x1, .i1⟩ : BufTy).Contents (Elt F)),
    nullary main_cst_22 (constant S_ .f32 0x00000000#32),
    TRef.unary (TRef.of (T := ⟨S_, .f32⟩) main_cst_22) (TRef.of (T := ⟨S_, .f32⟩) main_call8_v0) id,
    TRef.unary (TRef.of (T := ⟨S4x20000x1, .i1⟩) main_v158) (TRef.of (T := ⟨S4x20000x4, .i1⟩) main_call8_v1) (broadcastInDim S4x20000x4 ![0, 1, 2] bcast_S4x20000x1_S4x20000x4_0_1_2),
    TRef.unary (TRef.of (T := ⟨S_, .f32⟩) main_call8_v0) (TRef.of (T := ⟨S20000x4, .f32⟩) main_call8_v2) (broadcastInDim S20000x4 ![] bcast_S_S20000x4),
    TRef.unary (TRef.of (T := ⟨S20000x4, .f32⟩) main_call8_v2) (TRef.of (T := ⟨S4x20000x4, .f32⟩) main_call8_v3) (broadcastInDim S4x20000x4 ![1, 2] bcast_S20000x4_S4x20000x4_1_2),
    TRef.ternary (TRef.of (T := ⟨S4x20000x4, .i1⟩) main_call8_v1) (TRef.of (T := ⟨S4x20000x4, .f32⟩) main_v157) (TRef.of (T := ⟨S4x20000x4, .f32⟩) main_call8_v3) (TRef.of (T := ⟨S4x20000x4, .f32⟩) main_v159) select,
    nullary main_c_23 (constantI S_ 32 1#32),
    unary main_c_23 main_v160 (broadcastInDim S4x20000 ![] bcast_S_S4x20000 : (⟨S_, .i32⟩ : BufTy).Contents (Elt F) → (⟨S4x20000, .i32⟩ : BufTy).Contents (Elt F)),
    binary main_v68 main_v160 main_v161 (cmpi .eq : (⟨S4x20000, .i32⟩ : BufTy).Contents (Elt F) → (⟨S4x20000, .i32⟩ : BufTy).Contents (Elt F) → (⟨S4x20000, .i1⟩ : BufTy).Contents (Elt F)),
    unary main_v161 main_v162 (uitofp .f32 : (⟨S4x20000, .i1⟩ : BufTy).Contents (Elt F) → (⟨S4x20000, .f32⟩ : BufTy).Contents (Elt F)),
    unary main_v162 main_v163 (broadcastInDim S4x20000x1 ![0, 1] bcast_S4x20000_S4x20000x1_0_1 : (⟨S4x20000, .f32⟩ : BufTy).Contents (Elt F) → (⟨S4x20000x1, .f32⟩ : BufTy).Contents (Elt F)),
    nullary main_c_24 (constantI S_ 32 0#32),
    unary main_c_24 main_v164 (broadcastInDim S4x20000 ![] bcast_S_S4x20000 : (⟨S_, .i32⟩ : BufTy).Contents (Elt F) → (⟨S4x20000, .i32⟩ : BufTy).Contents (Elt F)),
    binary main_v68 main_v164 main_v165 (cmpi .ne : (⟨S4x20000, .i32⟩ : BufTy).Contents (Elt F) → (⟨S4x20000, .i32⟩ : BufTy).Contents (Elt F) → (⟨S4x20000, .i1⟩ : BufTy).Contents (Elt F)),
    unary main_v165 main_v166 (uitofp .f32 : (⟨S4x20000, .i1⟩ : BufTy).Contents (Elt F) → (⟨S4x20000, .f32⟩ : BufTy).Contents (Elt F)),
    unary main_v166 main_v167 (broadcastInDim S4x20000x1 ![0, 1] bcast_S4x20000_S4x20000x1_0_1 : (⟨S4x20000, .f32⟩ : BufTy).Contents (Elt F) → (⟨S4x20000x1, .f32⟩ : BufTy).Contents (Elt F)),
    reshape main_v163 main_v168 (rfl : (.f32 : EltTy) = .f32) shapeCasts_S4x20000x1_S4x20000,
    nullary main_cst_25 (constant S_ .f32 0x00000000#32),
    binary main_v168 main_cst_25 main_v169 ((fun x v => Host.reduceAdd x v reducesTo_S4x20000_S4_d1 h_S_) : (⟨S4x20000, .f32⟩ : BufTy).Contents (Elt F) → (⟨S_, .f32⟩ : BufTy).Contents (Elt F) → (⟨S4, .f32⟩ : BufTy).Contents (Elt F)),
    nullary main_cst_26 (constant S_ .f32 0x3F800000#32),
    unary main_cst_26 main_v170 (broadcastInDim S4 ![] bcast_S_S4 : (⟨S_, .f32⟩ : BufTy).Contents (Elt F) → (⟨S4, .f32⟩ : BufTy).Contents (Elt F)),
    binary main_v169 main_v170 main_v171 (maximumf : (⟨S4, .f32⟩ : BufTy).Contents (Elt F) → (⟨S4, .f32⟩ : BufTy).Contents (Elt F) → (⟨S4, .f32⟩ : BufTy).Contents (Elt F)),
    nullary main_cst_27 (constant S_ .f32 0x00000000#32),
    binary main_v171 main_cst_27 main_v172 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    unary main_v163 main_v173 (broadcastInDim S4x20000x80 ![0, 1, 2] bcast_S4x20000x1_S4x20000x80_0_1_2 : (⟨S4x20000x1, .f32⟩ : BufTy).Contents (Elt F) → (⟨S4x20000x80, .f32⟩ : BufTy).Contents (Elt F)),
    binary main_v75 main_v173 main_v174 (mulf : (⟨S4x20000x80, .f32⟩ : BufTy).Contents (Elt F) → (⟨S4x20000x80, .f32⟩ : BufTy).Contents (Elt F) → (⟨S4x20000x80, .f32⟩ : BufTy).Contents (Elt F)),
    nullary main_cst_28 (constant S_ .f32 0x00000000#32) ]

/-- @main's operations 273 … 302 of 358 (window `main_part3`). -/
abbrev ops_part3_1 : List (HloOp τ sig (Elt F)) :=
  [ unary main_cst_28 main_v175 (broadcastInDim S4x20000x80 ![] bcast_S_S4x20000x80 : (⟨S_, .f32⟩ : BufTy).Contents (Elt F) → (⟨S4x20000x80, .f32⟩ : BufTy).Contents (Elt F)),
    binary main_arg2 main_v175 main_v176 (maximumf : (⟨S4x20000x80, .f32⟩ : BufTy).Contents (Elt F) → (⟨S4x20000x80, .f32⟩ : BufTy).Contents (Elt F) → (⟨S4x20000x80, .f32⟩ : BufTy).Contents (Elt F)),
    binary main_arg2 main_v174 main_v177 (mulf : (⟨S4x20000x80, .f32⟩ : BufTy).Contents (Elt F) → (⟨S4x20000x80, .f32⟩ : BufTy).Contents (Elt F) → (⟨S4x20000x80, .f32⟩ : BufTy).Contents (Elt F)),
    binary main_v176 main_v177 main_v178 (subf : (⟨S4x20000x80, .f32⟩ : BufTy).Contents (Elt F) → (⟨S4x20000x80, .f32⟩ : BufTy).Contents (Elt F) → (⟨S4x20000x80, .f32⟩ : BufTy).Contents (Elt F)),
    unary main_arg2 main_v179 (Host.absf : (⟨S4x20000x80, .f32⟩ : BufTy).Contents (Elt F) → (⟨S4x20000x80, .f32⟩ : BufTy).Contents (Elt F)),
    unary main_v179 main_v180 (Host.negf : (⟨S4x20000x80, .f32⟩ : BufTy).Contents (Elt F) → (⟨S4x20000x80, .f32⟩ : BufTy).Contents (Elt F)),
    unary main_v180 main_v181 (Host.exp : (⟨S4x20000x80, .f32⟩ : BufTy).Contents (Elt F) → (⟨S4x20000x80, .f32⟩ : BufTy).Contents (Elt F)),
    unary main_v181 main_v182 (Host.log1p : (⟨S4x20000x80, .f32⟩ : BufTy).Contents (Elt F) → (⟨S4x20000x80, .f32⟩ : BufTy).Contents (Elt F)),
    binary main_v178 main_v182 main_v183 (addf : (⟨S4x20000x80, .f32⟩ : BufTy).Contents (Elt F) → (⟨S4x20000x80, .f32⟩ : BufTy).Contents (Elt F) → (⟨S4x20000x80, .f32⟩ : BufTy).Contents (Elt F)),
    unary main_arg2 main_v184 (Host.negf : (⟨S4x20000x80, .f32⟩ : BufTy).Contents (Elt F) → (⟨S4x20000x80, .f32⟩ : BufTy).Contents (Elt F)),
    unary main_v184 main_v185 (Host.exp : (⟨S4x20000x80, .f32⟩ : BufTy).Contents (Elt F) → (⟨S4x20000x80, .f32⟩ : BufTy).Contents (Elt F)),
    nullary main_cst_29 (constant S_ .f32 0x3F800000#32),
    unary main_cst_29 main_v186 (broadcastInDim S4x20000x80 ![] bcast_S_S4x20000x80 : (⟨S_, .f32⟩ : BufTy).Contents (Elt F) → (⟨S4x20000x80, .f32⟩ : BufTy).Contents (Elt F)),
    binary main_v186 main_v185 main_v187 (addf : (⟨S4x20000x80, .f32⟩ : BufTy).Contents (Elt F) → (⟨S4x20000x80, .f32⟩ : BufTy).Contents (Elt F) → (⟨S4x20000x80, .f32⟩ : BufTy).Contents (Elt F)),
    nullary main_cst_30 (constant S_ .f32 0x3F800000#32),
    unary main_cst_30 main_v188 (broadcastInDim S4x20000x80 ![] bcast_S_S4x20000x80 : (⟨S_, .f32⟩ : BufTy).Contents (Elt F) → (⟨S4x20000x80, .f32⟩ : BufTy).Contents (Elt F)),
    binary main_v188 main_v187 main_v189 (Host.divf : (⟨S4x20000x80, .f32⟩ : BufTy).Contents (Elt F) → (⟨S4x20000x80, .f32⟩ : BufTy).Contents (Elt F) → (⟨S4x20000x80, .f32⟩ : BufTy).Contents (Elt F)),
    binary main_v189 main_v174 main_v190 (mulf : (⟨S4x20000x80, .f32⟩ : BufTy).Contents (Elt F) → (⟨S4x20000x80, .f32⟩ : BufTy).Contents (Elt F) → (⟨S4x20000x80, .f32⟩ : BufTy).Contents (Elt F)),
    nullary main_cst_31 (constant S_ .f32 0x3F800000#32),
    unary main_cst_31 main_v191 (broadcastInDim S4x20000x80 ![] bcast_S_S4x20000x80 : (⟨S_, .f32⟩ : BufTy).Contents (Elt F) → (⟨S4x20000x80, .f32⟩ : BufTy).Contents (Elt F)),
    binary main_v191 main_v189 main_v192 (subf : (⟨S4x20000x80, .f32⟩ : BufTy).Contents (Elt F) → (⟨S4x20000x80, .f32⟩ : BufTy).Contents (Elt F) → (⟨S4x20000x80, .f32⟩ : BufTy).Contents (Elt F)),
    nullary main_cst_32 (constant S_ .f32 0x3F800000#32),
    unary main_cst_32 main_v193 (broadcastInDim S4x20000x80 ![] bcast_S_S4x20000x80 : (⟨S_, .f32⟩ : BufTy).Contents (Elt F) → (⟨S4x20000x80, .f32⟩ : BufTy).Contents (Elt F)),
    binary main_v193 main_v174 main_v194 (subf : (⟨S4x20000x80, .f32⟩ : BufTy).Contents (Elt F) → (⟨S4x20000x80, .f32⟩ : BufTy).Contents (Elt F) → (⟨S4x20000x80, .f32⟩ : BufTy).Contents (Elt F)),
    binary main_v192 main_v194 main_v195 (mulf : (⟨S4x20000x80, .f32⟩ : BufTy).Contents (Elt F) → (⟨S4x20000x80, .f32⟩ : BufTy).Contents (Elt F) → (⟨S4x20000x80, .f32⟩ : BufTy).Contents (Elt F)),
    binary main_v190 main_v195 main_v196 (addf : (⟨S4x20000x80, .f32⟩ : BufTy).Contents (Elt F) → (⟨S4x20000x80, .f32⟩ : BufTy).Contents (Elt F) → (⟨S4x20000x80, .f32⟩ : BufTy).Contents (Elt F)),
    nullary main_cst_33 (constant S_ .f32 0x3E800000#32),
    unary main_cst_33 main_v197 (broadcastInDim S4x20000x80 ![] bcast_S_S4x20000x80 : (⟨S_, .f32⟩ : BufTy).Contents (Elt F) → (⟨S4x20000x80, .f32⟩ : BufTy).Contents (Elt F)),
    binary main_v197 main_v174 main_v198 (mulf : (⟨S4x20000x80, .f32⟩ : BufTy).Contents (Elt F) → (⟨S4x20000x80, .f32⟩ : BufTy).Contents (Elt F) → (⟨S4x20000x80, .f32⟩ : BufTy).Contents (Elt F)),
    nullary main_cst_34 (constant S_ .f32 0x3F800000#32) ]

/-- @main's operations 303 … 306 of 358 (window `main_part3`). -/
abbrev ops_part3_2 : List (HloOp τ sig (Elt F)) :=
  [ unary main_cst_34 main_v199 (broadcastInDim S4x20000x80 ![] bcast_S_S4x20000x80 : (⟨S_, .f32⟩ : BufTy).Contents (Elt F) → (⟨S4x20000x80, .f32⟩ : BufTy).Contents (Elt F)),
    binary main_v199 main_v174 main_v200 (subf : (⟨S4x20000x80, .f32⟩ : BufTy).Contents (Elt F) → (⟨S4x20000x80, .f32⟩ : BufTy).Contents (Elt F) → (⟨S4x20000x80, .f32⟩ : BufTy).Contents (Elt F)),
    nullary main_cst_35 (constant S_ .f32 0x3F400000#32),
    unary main_cst_35 main_v201 (broadcastInDim S4x20000x80 ![] bcast_S_S4x20000x80 : (⟨S_, .f32⟩ : BufTy).Contents (Elt F) → (⟨S4x20000x80, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 307 … 358 of 358 (window `main_part4`). -/
abbrev ops_part4 : List (HloOp τ sig (Elt F)) :=
  [ binary main_v201 main_v200 main_v202 (mulf : (⟨S4x20000x80, .f32⟩ : BufTy).Contents (Elt F) → (⟨S4x20000x80, .f32⟩ : BufTy).Contents (Elt F) → (⟨S4x20000x80, .f32⟩ : BufTy).Contents (Elt F)),
    binary main_v198 main_v202 main_v203 (addf : (⟨S4x20000x80, .f32⟩ : BufTy).Contents (Elt F) → (⟨S4x20000x80, .f32⟩ : BufTy).Contents (Elt F) → (⟨S4x20000x80, .f32⟩ : BufTy).Contents (Elt F)),
    nullary main_cst_36 (constant S_ .f32 0x3F800000#32),
    unary main_cst_36 main_v204 (broadcastInDim S4x20000x80 ![] bcast_S_S4x20000x80 : (⟨S_, .f32⟩ : BufTy).Contents (Elt F) → (⟨S4x20000x80, .f32⟩ : BufTy).Contents (Elt F)),
    binary main_v204 main_v196 main_v205 (subf : (⟨S4x20000x80, .f32⟩ : BufTy).Contents (Elt F) → (⟨S4x20000x80, .f32⟩ : BufTy).Contents (Elt F) → (⟨S4x20000x80, .f32⟩ : BufTy).Contents (Elt F)),
    nullary main_cst_37 (constant S_ .f32 0x40000000#32),
    unary main_cst_37 main_v206 (broadcastInDim S4x20000x80 ![] bcast_S_S4x20000x80 : (⟨S_, .f32⟩ : BufTy).Contents (Elt F) → (⟨S4x20000x80, .f32⟩ : BufTy).Contents (Elt F)),
    binary main_v205 main_v206 main_v207 (Host.powf : (⟨S4x20000x80, .f32⟩ : BufTy).Contents (Elt F) → (⟨S4x20000x80, .f32⟩ : BufTy).Contents (Elt F) → (⟨S4x20000x80, .f32⟩ : BufTy).Contents (Elt F)),
    binary main_v203 main_v207 main_v208 (mulf : (⟨S4x20000x80, .f32⟩ : BufTy).Contents (Elt F) → (⟨S4x20000x80, .f32⟩ : BufTy).Contents (Elt F) → (⟨S4x20000x80, .f32⟩ : BufTy).Contents (Elt F)),
    binary main_v208 main_v183 main_v209 (mulf : (⟨S4x20000x80, .f32⟩ : BufTy).Contents (Elt F) → (⟨S4x20000x80, .f32⟩ : BufTy).Contents (Elt F) → (⟨S4x20000x80, .f32⟩ : BufTy).Contents (Elt F)),
    unary main_v167 main_v210 (broadcastInDim S4x20000x80 ![0, 1, 2] bcast_S4x20000x1_S4x20000x80_0_1_2 : (⟨S4x20000x1, .f32⟩ : BufTy).Contents (Elt F) → (⟨S4x20000x80, .f32⟩ : BufTy).Contents (Elt F)),
    binary main_v209 main_v210 main_v211 (mulf : (⟨S4x20000x80, .f32⟩ : BufTy).Contents (Elt F) → (⟨S4x20000x80, .f32⟩ : BufTy).Contents (Elt F) → (⟨S4x20000x80, .f32⟩ : BufTy).Contents (Elt F)),
    nullary main_cst_38 (constant S_ .f32 0x00000000#32),
    binary main_v211 main_cst_38 main_v212 ((fun x v => Host.reduceAdd x v reducesTo_S4x20000x80_S_d0_1_2 h_S_) : (⟨S4x20000x80, .f32⟩ : BufTy).Contents (Elt F) → (⟨S_, .f32⟩ : BufTy).Contents (Elt F) → (⟨S_, .f32⟩ : BufTy).Contents (Elt F)),
    binary main_v212 main_v172 main_v213 (Host.divf : (⟨S_, .f32⟩ : BufTy).Contents (Elt F) → (⟨S_, .f32⟩ : BufTy).Contents (Elt F) → (⟨S_, .f32⟩ : BufTy).Contents (Elt F)),
    binary main_arg3 main_v159 main_v214 (subf : (⟨S4x20000x4, .f32⟩ : BufTy).Contents (Elt F) → (⟨S4x20000x4, .f32⟩ : BufTy).Contents (Elt F) → (⟨S4x20000x4, .f32⟩ : BufTy).Contents (Elt F)),
    unary main_v214 main_v215 (Host.absf : (⟨S4x20000x4, .f32⟩ : BufTy).Contents (Elt F) → (⟨S4x20000x4, .f32⟩ : BufTy).Contents (Elt F)),
    nullary main_cst_39 (constant S_ .f32 0x3F800000#32),
    unary main_cst_39 main_v216 (broadcastInDim S4x20000x4 ![] bcast_S_S4x20000x4 : (⟨S_, .f32⟩ : BufTy).Contents (Elt F) → (⟨S4x20000x4, .f32⟩ : BufTy).Contents (Elt F)),
    binary main_v215 main_v216 main_v217 (cmpf .olt : (⟨S4x20000x4, .f32⟩ : BufTy).Contents (Elt F) → (⟨S4x20000x4, .f32⟩ : BufTy).Contents (Elt F) → (⟨S4x20000x4, .i1⟩ : BufTy).Contents (Elt F)),
    nullary main_cst_40 (constant S_ .f32 0x3F000000#32),
    unary main_cst_40 main_v218 (broadcastInDim S4x20000x4 ![] bcast_S_S4x20000x4 : (⟨S_, .f32⟩ : BufTy).Contents (Elt F) → (⟨S4x20000x4, .f32⟩ : BufTy).Contents (Elt F)),
    binary main_v218 main_v215 main_v219 (mulf : (⟨S4x20000x4, .f32⟩ : BufTy).Contents (Elt F) → (⟨S4x20000x4, .f32⟩ : BufTy).Contents (Elt F) → (⟨S4x20000x4, .f32⟩ : BufTy).Contents (Elt F)),
    binary main_v219 main_v215 main_v220 (mulf : (⟨S4x20000x4, .f32⟩ : BufTy).Contents (Elt F) → (⟨S4x20000x4, .f32⟩ : BufTy).Contents (Elt F) → (⟨S4x20000x4, .f32⟩ : BufTy).Contents (Elt F)),
    nullary main_cst_41 (constant S_ .f32 0x3F000000#32),
    unary main_cst_41 main_v221 (broadcastInDim S4x20000x4 ![] bcast_S_S4x20000x4 : (⟨S_, .f32⟩ : BufTy).Contents (Elt F) → (⟨S4x20000x4, .f32⟩ : BufTy).Contents (Elt F)),
    binary main_v215 main_v221 main_v222 (subf : (⟨S4x20000x4, .f32⟩ : BufTy).Contents (Elt F) → (⟨S4x20000x4, .f32⟩ : BufTy).Contents (Elt F) → (⟨S4x20000x4, .f32⟩ : BufTy).Contents (Elt F)),
    TRef.ternary (TRef.of (T := ⟨S4x20000x4, .i1⟩) main_v217) (TRef.of (T := ⟨S4x20000x4, .f32⟩) main_v220) (TRef.of (T := ⟨S4x20000x4, .f32⟩) main_v222) (TRef.of (T := ⟨S4x20000x4, .f32⟩) main_v223) select,
    unary main_v163 main_v224 (broadcastInDim S4x20000x4 ![0, 1, 2] bcast_S4x20000x1_S4x20000x4_0_1_2 : (⟨S4x20000x1, .f32⟩ : BufTy).Contents (Elt F) → (⟨S4x20000x4, .f32⟩ : BufTy).Contents (Elt F)),
    binary main_v223 main_v224 main_v225 (mulf : (⟨S4x20000x4, .f32⟩ : BufTy).Contents (Elt F) → (⟨S4x20000x4, .f32⟩ : BufTy).Contents (Elt F) → (⟨S4x20000x4, .f32⟩ : BufTy).Contents (Elt F)),
    nullary main_cst_42 (constant S_ .f32 0x00000000#32),
    binary main_v225 main_cst_42 main_v226 ((fun x v => Host.reduceAdd x v reducesTo_S4x20000x4_S_d0_1_2 h_S_) : (⟨S4x20000x4, .f32⟩ : BufTy).Contents (Elt F) → (⟨S_, .f32⟩ : BufTy).Contents (Elt F) → (⟨S_, .f32⟩ : BufTy).Contents (Elt F)),
    binary main_v226 main_v172 main_v227 (Host.divf : (⟨S_, .f32⟩ : BufTy).Contents (Elt F) → (⟨S_, .f32⟩ : BufTy).Contents (Elt F) → (⟨S_, .f32⟩ : BufTy).Contents (Elt F)),
    binary main_v213 main_v213 main_v228 (cmpf .une : (⟨S_, .f32⟩ : BufTy).Contents (Elt F) → (⟨S_, .f32⟩ : BufTy).Contents (Elt F) → (⟨S_, .i1⟩ : BufTy).Contents (Elt F)),
    TRef.unary (TRef.of (T := ⟨S_, .f32⟩) main_v213) (TRef.of (T := ⟨S_, .f32⟩) main_call10_v0) Host.absf,
    TRef.nullary (TRef.of (T := ⟨S_, .f32⟩) main_call10_cst) (constant S_ .f32 0x7F800000#32),
    TRef.binary (TRef.of (T := ⟨S_, .f32⟩) main_call10_v0) (TRef.of (T := ⟨S_, .f32⟩) main_call10_cst) (TRef.of (T := ⟨S_, .i1⟩) main_v229) (cmpf .oeq),
    binary main_v228 main_v229 main_v230 (ori : (⟨S_, .i1⟩ : BufTy).Contents (Elt F) → (⟨S_, .i1⟩ : BufTy).Contents (Elt F) → (⟨S_, .i1⟩ : BufTy).Contents (Elt F)),
    nullary main_cst_43 (constant S_ .f32 0x00000000#32),
    TRef.unary (TRef.of (T := ⟨S_, .f32⟩) main_cst_43) (TRef.of (T := ⟨S_, .f32⟩) main_call11_v0) id,
    TRef.ternary (TRef.of (T := ⟨S_, .i1⟩) main_v230) (TRef.of (T := ⟨S_, .f32⟩) main_call11_v0) (TRef.of (T := ⟨S_, .f32⟩) main_v213) (TRef.of (T := ⟨S_, .f32⟩) main_v231) select,
    binary main_v227 main_v227 main_v232 (cmpf .une : (⟨S_, .f32⟩ : BufTy).Contents (Elt F) → (⟨S_, .f32⟩ : BufTy).Contents (Elt F) → (⟨S_, .i1⟩ : BufTy).Contents (Elt F)),
    TRef.unary (TRef.of (T := ⟨S_, .f32⟩) main_v227) (TRef.of (T := ⟨S_, .f32⟩) main_call12_v0) Host.absf,
    TRef.nullary (TRef.of (T := ⟨S_, .f32⟩) main_call12_cst) (constant S_ .f32 0x7F800000#32),
    TRef.binary (TRef.of (T := ⟨S_, .f32⟩) main_call12_v0) (TRef.of (T := ⟨S_, .f32⟩) main_call12_cst) (TRef.of (T := ⟨S_, .i1⟩) main_v233) (cmpf .oeq),
    binary main_v232 main_v233 main_v234 (ori : (⟨S_, .i1⟩ : BufTy).Contents (Elt F) → (⟨S_, .i1⟩ : BufTy).Contents (Elt F) → (⟨S_, .i1⟩ : BufTy).Contents (Elt F)),
    nullary main_cst_44 (constant S_ .f32 0x00000000#32),
    TRef.unary (TRef.of (T := ⟨S_, .f32⟩) main_cst_44) (TRef.of (T := ⟨S_, .f32⟩) main_call13_v0) id,
    TRef.ternary (TRef.of (T := ⟨S_, .i1⟩) main_v234) (TRef.of (T := ⟨S_, .f32⟩) main_call13_v0) (TRef.of (T := ⟨S_, .f32⟩) main_v227) (TRef.of (T := ⟨S_, .f32⟩) main_v235) select,
    unary main_v231 main_v236 (broadcastInDim S1 ![] bcast_S_S1 : (⟨S_, .f32⟩ : BufTy).Contents (Elt F) → (⟨S1, .f32⟩ : BufTy).Contents (Elt F)),
    unary main_v235 main_v237 (broadcastInDim S1 ![] bcast_S_S1 : (⟨S_, .f32⟩ : BufTy).Contents (Elt F) → (⟨S1, .f32⟩ : BufTy).Contents (Elt F)),
    binary main_v236 main_v237 main_v238 (fn_main_v238 (F := F)) ]

/-- @main's 358 operations, in order (a called function's operations stand in its call's place, spelt `TRef.…`). -/
abbrev ops : List (HloOp τ sig (Elt F)) :=
  ops_part0 ++ (ops_part1 ++ (ops_part2 ++ (ops_part3 ++ (ops_part4))))

/-- This window of the program runs its operations in order. -/
theorem main_part0_eq (c : Dev nD) : main_part0 (F := F) c = seq ops_part0 := rfl
/-- This window of the program runs its operations in order. -/
theorem main_part1_eq (c : Dev nD) : main_part1 (F := F) c = seq ops_part1 := rfl
/-- This window of the program runs its operations in order. -/
theorem main_part2_eq (c : Dev nD) : main_part2 (F := F) c = seq ops_part2 := rfl
/-- This window of the program runs its operations in order. -/
theorem main_part3_eq (c : Dev nD) : main_part3 (F := F) c = seq ops_part3 := rfl
/-- This window of the program runs its operations in order. -/
theorem main_part4_eq (c : Dev nD) : main_part4 (F := F) c = seq ops_part4 := rfl
/-- The program runs its operations in order. -/
theorem main_eq (c : Dev nD) : main (F := F) c = seq ops := by
  simp only [ops, seq_append, ← main_part0_eq c, ← main_part1_eq c, ← main_part2_eq c, ← main_part3_eq c, ← main_part4_eq c]
  rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
/-- The buffers these operations touch are the program's. -/
theorem ops_part0_0_sub : (ops_part0_0 : List (HloOp τ sig (Elt F))).Forall fun op => op.bufs ⊆ tcRefs τ sig :=
  ⟨nullary_bufs_sub .., nullary_bufs_sub .., nullary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub ..⟩
/-- These operations open no new buffer. -/
theorem ops_part0_0_fresh : (ops_part0_0 : List (HloOp τ sig (Elt F))).Forall fun op => op.fresh = ∅ :=
  forall_fresh_of_map rfl
/-- The buffers these operations touch are the program's. -/
theorem ops_part0_1_sub : (ops_part0_1 : List (HloOp τ sig (Elt F))).Forall fun op => op.bufs ⊆ tcRefs τ sig :=
  ⟨unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub ..⟩
/-- These operations open no new buffer. -/
theorem ops_part0_1_fresh : (ops_part0_1 : List (HloOp τ sig (Elt F))).Forall fun op => op.fresh = ∅ :=
  forall_fresh_of_map rfl
/-- The buffers these operations touch are the program's. -/
theorem ops_part0_2_sub : (ops_part0_2 : List (HloOp τ sig (Elt F))).Forall fun op => op.bufs ⊆ tcRefs τ sig :=
  ⟨binary_bufs_sub .., binary_bufs_sub ..⟩
/-- These operations open no new buffer. -/
theorem ops_part0_2_fresh : (ops_part0_2 : List (HloOp τ sig (Elt F))).Forall fun op => op.fresh = ∅ :=
  forall_fresh_of_map rfl
/-- The buffers these operations touch are the program's. -/
theorem ops_part1_0_sub : (ops_part1_0 : List (HloOp τ sig (Elt F))).Forall fun op => op.bufs ⊆ tcRefs τ sig :=
  ⟨nullary_bufs_sub .., unary_bufs_sub .., binary_bufs_sub .., binary_bufs_sub .., unary_bufs_sub .., nullary_bufs_sub .., unary_bufs_sub .., unary_bufs_sub .., unary_bufs_sub .., unary_bufs_sub .., ternary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., nullary_bufs_sub .., nullary_bufs_sub .., unary_bufs_sub .., unary_bufs_sub .., unary_bufs_sub .., unary_bufs_sub ..⟩
/-- These operations open no new buffer. -/
theorem ops_part1_0_fresh : (ops_part1_0 : List (HloOp τ sig (Elt F))).Forall fun op => op.fresh = ∅ :=
  forall_fresh_of_map rfl
/-- The buffers these operations touch are the program's. -/
theorem ops_part1_1_sub : (ops_part1_1 : List (HloOp τ sig (Elt F))).Forall fun op => op.bufs ⊆ tcRefs τ sig :=
  ⟨ternary_bufs_sub .., nullary_bufs_sub .., unary_bufs_sub .., unary_bufs_sub .., ternary_bufs_sub .., unary_bufs_sub .., nullary_bufs_sub .., unary_bufs_sub .., nullary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub ..⟩
/-- These operations open no new buffer. -/
theorem ops_part1_1_fresh : (ops_part1_1 : List (HloOp τ sig (Elt F))).Forall fun op => op.fresh = ∅ :=
  forall_fresh_of_map rfl
/-- The buffers these operations touch are the program's. -/
theorem ops_part1_2_sub : (ops_part1_2 : List (HloOp τ sig (Elt F))).Forall fun op => op.bufs ⊆ tcRefs τ sig :=
  ⟨nullary_bufs_sub .., binary_bufs_sub .., binary_bufs_sub .., unary_bufs_sub .., nullary_bufs_sub .., unary_bufs_sub .., ternary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub ..⟩
/-- These operations open no new buffer. -/
theorem ops_part1_2_fresh : (ops_part1_2 : List (HloOp τ sig (Elt F))).Forall fun op => op.fresh = ∅ :=
  forall_fresh_of_map rfl
/-- The buffers these operations touch are the program's. -/
theorem ops_part1_3_sub : (ops_part1_3 : List (HloOp τ sig (Elt F))).Forall fun op => op.bufs ⊆ tcRefs τ sig :=
  ⟨nullary_bufs_sub .., unary_bufs_sub .., ternary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub ..⟩
/-- These operations open no new buffer. -/
theorem ops_part1_3_fresh : (ops_part1_3 : List (HloOp τ sig (Elt F))).Forall fun op => op.fresh = ∅ :=
  forall_fresh_of_map rfl
/-- The buffers these operations touch are the program's. -/
theorem ops_part2_sub : (ops_part2 : List (HloOp τ sig (Elt F))).Forall fun op => op.bufs ⊆ tcRefs τ sig :=
  ⟨binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., unary_bufs_sub .., unary_bufs_sub .., unary_bufs_sub .., nary_bufs_sub .., unary_bufs_sub .., unary_bufs_sub .., unary_bufs_sub .., binary_bufs_sub .., unary_bufs_sub .., unary_bufs_sub ..⟩
/-- These operations open no new buffer. -/
theorem ops_part2_fresh : (ops_part2 : List (HloOp τ sig (Elt F))).Forall fun op => op.fresh = ∅ :=
  forall_fresh_of_map rfl
/-- The buffers these operations touch are the program's. -/
theorem ops_part3_0_sub : (ops_part3_0 : List (HloOp τ sig (Elt F))).Forall fun op => op.bufs ⊆ tcRefs τ sig :=
  ⟨unary_bufs_sub .., binary_bufs_sub .., unary_bufs_sub .., nullary_bufs_sub .., unary_bufs_sub .., unary_bufs_sub .., unary_bufs_sub .., unary_bufs_sub .., ternary_bufs_sub .., nullary_bufs_sub .., unary_bufs_sub .., binary_bufs_sub .., unary_bufs_sub .., unary_bufs_sub .., nullary_bufs_sub .., unary_bufs_sub .., binary_bufs_sub .., unary_bufs_sub .., unary_bufs_sub .., reshape_bufs_sub .., nullary_bufs_sub .., binary_bufs_sub .., nullary_bufs_sub .., unary_bufs_sub .., binary_bufs_sub .., nullary_bufs_sub .., binary_bufs_sub .., unary_bufs_sub .., binary_bufs_sub .., nullary_bufs_sub ..⟩
/-- These operations open no new buffer. -/
theorem ops_part3_0_fresh : (ops_part3_0 : List (HloOp τ sig (Elt F))).Forall fun op => op.fresh = ∅ :=
  forall_fresh_of_map rfl
/-- The buffers these operations touch are the program's. -/
theorem ops_part3_1_sub : (ops_part3_1 : List (HloOp τ sig (Elt F))).Forall fun op => op.bufs ⊆ tcRefs τ sig :=
  ⟨unary_bufs_sub .., binary_bufs_sub .., binary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub ..⟩
/-- These operations open no new buffer. -/
theorem ops_part3_1_fresh : (ops_part3_1 : List (HloOp τ sig (Elt F))).Forall fun op => op.fresh = ∅ :=
  forall_fresh_of_map rfl
/-- The buffers these operations touch are the program's. -/
theorem ops_part3_2_sub : (ops_part3_2 : List (HloOp τ sig (Elt F))).Forall fun op => op.bufs ⊆ tcRefs τ sig :=
  ⟨unary_bufs_sub .., binary_bufs_sub .., nullary_bufs_sub .., unary_bufs_sub ..⟩
/-- These operations open no new buffer. -/
theorem ops_part3_2_fresh : (ops_part3_2 : List (HloOp τ sig (Elt F))).Forall fun op => op.fresh = ∅ :=
  forall_fresh_of_map rfl
/-- The buffers these operations touch are the program's. -/
theorem ops_part4_sub : (ops_part4 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., binary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., nullary_bufs_sub .., binary_bufs_sub .., binary_bufs_sub .., binary_bufs_sub .., unary_bufs_sub .., nullary_bufs_sub .., binary_bufs_sub .., binary_bufs_sub .., nullary_bufs_sub .., unary_bufs_sub .., ternary_bufs_sub .., binary_bufs_sub .., unary_bufs_sub .., nullary_bufs_sub .., binary_bufs_sub .., binary_bufs_sub .., nullary_bufs_sub .., unary_bufs_sub .., ternary_bufs_sub .., unary_bufs_sub .., unary_bufs_sub .., binary_bufs_sub ..⟩
/-- These operations open no new buffer. -/
theorem ops_part4_fresh : (ops_part4 : List (HloOp τ sig (Elt F))).Forall fun op => op.fresh = ∅ :=
  forall_fresh_of_map rfl
/-- The buffers the operations touch are the program's. -/
theorem ops_sub : (ops : List (HloOp τ sig (Elt F))).Forall fun op => op.bufs ⊆ tcRefs τ sig :=
  List.forall_iff_forall_mem.mpr fun op h => by
    simp only [ops, ops_part0, ops_part1, ops_part3, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_sub op h, List.forall_iff_forall_mem.mp ops_part3_0_sub op h, List.forall_iff_forall_mem.mp ops_part3_1_sub op h, List.forall_iff_forall_mem.mp ops_part3_2_sub op h, List.forall_iff_forall_mem.mp ops_part4_sub op h]
/-- The operations open no new buffer. -/
theorem ops_fresh : ∀ op ∈ (ops : List (HloOp τ sig (Elt F))), op.fresh = ∅ := fun op h => by
    simp only [ops, ops_part0, ops_part1, ops_part3, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.RefRun

end
-- ==== Proof.Ref.Run.lean ====
/- What the reference's operations leave in its buffers, window by window, and the run of the reference. -/
module

public import proofs.«01_k».proof.Proof.Ref.Ops

@[expose] public section

set_option Elab.async false
set_option maxRecDepth 8192
set_option maxHeartbeats 4000000

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- `main_v20`'s composed term of the arguments (named: it is used 2 times). -/
def res_main_v20 (V0 : Vals F) : (Proc.devRef .tc main_v20 : DevRef τ sig).ty.Contents (Elt F) :=
  maximumf (broadcastInDim S4x20000x100x2 ![] bcast_S_S4x20000x100x2 (id (constant S_ .f32 0x00000000#32))) (subf (minimumf (broadcastInDim S4x20000x100x2 ![0, 1, 2, 3] bcast_S1x20000x1x2_S4x20000x100x2_0_1_2_3 (broadcastInDim S1x20000x1x2 ![1, 2, 3] bcast_S20000x1x2_S1x20000x1x2_1_2_3 (broadcastInDim S20000x1x2 ![0, 2] bcast_S20000x2_S20000x1x2_0_2 (extractStridedSlice S20000x2 ![0, 2] (V0 (Proc.devRef .tc main_arg4)) slices_S20000x4_S20000x2_0_2)))) (broadcastInDim S4x20000x100x2 ![0, 1, 2, 3] bcast_S4x1x100x2_S4x20000x100x2_0_1_2_3 (broadcastInDim S4x1x100x2 ![0, 2, 3] bcast_S4x100x2_S4x1x100x2_0_2_3 (extractStridedSlice S4x100x2 ![0, 0, 2] (V0 (Proc.devRef .tc main_arg1)) slices_S4x100x4_S4x100x2_0_0_2)))) (maximumf (broadcastInDim S4x20000x100x2 ![0, 1, 2, 3] bcast_S1x20000x1x2_S4x20000x100x2_0_1_2_3 (broadcastInDim S1x20000x1x2 ![1, 2, 3] bcast_S20000x1x2_S1x20000x1x2_1_2_3 (broadcastInDim S20000x1x2 ![0, 2] bcast_S20000x2_S20000x1x2_0_2 (extractStridedSlice S20000x2 ![0, 0] (V0 (Proc.devRef .tc main_arg4)) slices_S20000x4_S20000x2_0_0)))) (broadcastInDim S4x20000x100x2 ![0, 1, 2, 3] bcast_S4x1x100x2_S4x20000x100x2_0_1_2_3 (broadcastInDim S4x1x100x2 ![0, 2, 3] bcast_S4x100x2_S4x1x100x2_0_2_3 (extractStridedSlice S4x100x2 ![0, 0, 0] (V0 (Proc.devRef .tc main_arg1)) slices_S4x100x4_S4x100x2_0_0_0)))))

/-- `main_v25`'s composed term of the arguments (named: it is used 2 times). -/
def res_main_v25 (V0 : Vals F) : (Proc.devRef .tc main_v25 : DevRef τ sig).ty.Contents (Elt F) :=
  mulf (shapeCast _ (extractStridedSlice S4x20000x100x1 ![0, 0, 0, 0] (res_main_v20 V0) slices_S4x20000x100x2_S4x20000x100x1_0_0_0_0) shapeCasts_S4x20000x100x1_S4x20000x100) (shapeCast _ (extractStridedSlice S4x20000x100x1 ![0, 0, 0, 1] (res_main_v20 V0) slices_S4x20000x100x2_S4x20000x100x1_0_0_0_1) shapeCasts_S4x20000x100x1_S4x20000x100)

/-- `main_v59`'s composed term of the arguments (named: it is used 3 times). -/
def res_main_v59 (V0 : Vals F) : (Proc.devRef .tc main_v59 : DevRef τ sig).ty.Contents (Elt F) :=
  select (broadcastInDim S4x20000x100 ![0, 1, 2] bcast_S4x1x100_S4x20000x100_0_1_2 (broadcastInDim S4x1x100 ![0, 2] bcast_S4x100_S4x1x100_0_2 (Host.reduce IntOp.ori (cmpf .ogt (V0 (Proc.devRef .tc main_arg1)) (broadcastInDim S4x100x4 ![] bcast_S_S4x100x4 (constant S_ .f32 0x00000000#32))) (constantI S_ 1 0#1) reducesTo_S4x100x4_S4x100_d2 h_S_))) (Host.divf (res_main_v25 V0) (maximumf (subf (addf (broadcastInDim S4x20000x100 ![0, 1, 2] bcast_S1x20000x1_S4x20000x100_0_1_2 (broadcastInDim S1x20000x1 ![1, 2] bcast_S20000x1_S1x20000x1_1_2 (broadcastInDim S20000x1 ![0] bcast_S20000_S20000x1_0 (mulf (subf (shapeCast _ (extractStridedSlice S20000x1 ![0, 2] (V0 (Proc.devRef .tc main_arg4)) slices_S20000x4_S20000x1_0_2) shapeCasts_S20000x1_S20000) (shapeCast _ (extractStridedSlice S20000x1 ![0, 0] (V0 (Proc.devRef .tc main_arg4)) slices_S20000x4_S20000x1_0_0) shapeCasts_S20000x1_S20000)) (subf (shapeCast _ (extractStridedSlice S20000x1 ![0, 3] (V0 (Proc.devRef .tc main_arg4)) slices_S20000x4_S20000x1_0_3) shapeCasts_S20000x1_S20000) (shapeCast _ (extractStridedSlice S20000x1 ![0, 1] (V0 (Proc.devRef .tc main_arg4)) slices_S20000x4_S20000x1_0_1) shapeCasts_S20000x1_S20000)))))) (broadcastInDim S4x20000x100 ![0, 1, 2] bcast_S4x1x100_S4x20000x100_0_1_2 (broadcastInDim S4x1x100 ![0, 2] bcast_S4x100_S4x1x100_0_2 (mulf (subf (shapeCast _ (extractStridedSlice S4x100x1 ![0, 0, 2] (V0 (Proc.devRef .tc main_arg1)) slices_S4x100x4_S4x100x1_0_0_2) shapeCasts_S4x100x1_S4x100) (shapeCast _ (extractStridedSlice S4x100x1 ![0, 0, 0] (V0 (Proc.devRef .tc main_arg1)) slices_S4x100x4_S4x100x1_0_0_0) shapeCasts_S4x100x1_S4x100)) (subf (shapeCast _ (extractStridedSlice S4x100x1 ![0, 0, 3] (V0 (Proc.devRef .tc main_arg1)) slices_S4x100x4_S4x100x1_0_0_3) shapeCasts_S4x100x1_S4x100) (shapeCast _ (extractStridedSlice S4x100x1 ![0, 0, 1] (V0 (Proc.devRef .tc main_arg1)) slices_S4x100x4_S4x100x1_0_0_1) shapeCasts_S4x100x1_S4x100)))))) (res_main_v25 V0)) (broadcastInDim S4x20000x100 ![] bcast_S_S4x20000x100 (constant S_ .f32 0x358637BD#32)))) (broadcastInDim S4x20000x100 ![1, 2] bcast_S20000x100_S4x20000x100_1_2 (broadcastInDim S20000x100 ![] bcast_S_S20000x100 (id (constant S_ .f32 0xBF800000#32))))

/-- `main_v60`'s composed term of the arguments (named: it is used 2 times). -/
def res_main_v60 (V0 : Vals F) : (Proc.devRef .tc main_v60 : DevRef τ sig).ty.Contents (Elt F) :=
  Host.reduce FloatOps.maximumf (res_main_v59 V0) (constant S_ .f32 0xFF800000#32) reducesTo_S4x20000x100_S4x20000_d2 h_S_

/-- `main_call2_v0`'s composed term of the arguments (named: it is used 2 times). -/
def res_main_call2_v0 (V0 : Vals F) : (Proc.devRef .tc main_call2_v0 : DevRef τ sig).ty.Contents (Elt F) :=
  iotaInDim S4x20000x100 32 2

/-- `main_call2_cst`'s composed term of the arguments (named: it is used 2 times). -/
def res_main_call2_cst (V0 : Vals F) : (Proc.devRef .tc main_call2_cst : DevRef τ sig).ty.Contents (Elt F) :=
  constant S_ .f32 0xFF800000#32

/-- `main_call2_c`'s composed term of the arguments (named: it is used 2 times). -/
def res_main_call2_c (V0 : Vals F) : (Proc.devRef .tc main_call2_c : DevRef τ sig).ty.Contents (Elt F) :=
  constantI S_ 32 0#32

/-- `main_v61`'s composed term of the arguments (named: it is used 6 times). -/
def res_main_v61 (V0 : Vals F) : (Proc.devRef .tc main_v61 : DevRef τ sig).ty.Contents (Elt F) :=
  (fun j => (Host.argReduce reducer_argmax_f32_i32 (res_main_v59 V0) (res_main_call2_v0 V0) (res_main_call2_cst V0) (res_main_call2_c V0) reducesTo_S4x20000x100_S4x20000_d2 h_S_ j).2)

/-- `main_v63`'s composed term of the arguments (named: it is used 3 times). -/
def res_main_v63 (V0 : Vals F) : (Proc.devRef .tc main_v63 : DevRef τ sig).ty.Contents (Elt F) :=
  cmpf .oge (res_main_v60 V0) (broadcastInDim S4x20000 ![] bcast_S_S4x20000 (constant S_ .f32 0x3F000000#32))

/-- `main_v68`'s composed term of the arguments (named: it is used 2 times). -/
def res_main_v68 (V0 : Vals F) : (Proc.devRef .tc main_v68 : DevRef τ sig).ty.Contents (Elt F) :=
  id (select (res_main_v63 V0) (broadcastInDim S4x20000 ![1] bcast_S20000_S4x20000_1 (broadcastInDim S20000 ![] bcast_S_S20000 (constantI S_ 32 1#32))) (select (cmpf .olt (res_main_v60 V0) (broadcastInDim S4x20000 ![] bcast_S_S4x20000 (constant S_ .f32 0x3ECCCCCD#32))) (broadcastInDim S4x20000 ![1] bcast_S20000_S4x20000_1 (broadcastInDim S20000 ![] bcast_S_S20000 (constantI S_ 32 4294967295#32))) (broadcastInDim S4x20000 ![1] bcast_S20000_S4x20000_1 (broadcastInDim S20000 ![] bcast_S_S20000 (constantI S_ 32 0#32)))))

/-- `main_call5_v5`'s composed term of the arguments (named: it is used 3 times). -/
def res_main_call5_v5 (V0 : Vals F) : (Proc.devRef .tc main_call5_v5 : DevRef τ sig).ty.Contents (Elt F) :=
  broadcastInDim S4x20000x1 ![0, 1] bcast_S4x20000_S4x20000x1_0_1 (select (cmpi .slt (res_main_v61 V0) (broadcastInDim S4x20000 ![] bcast_S_S4x20000 (constantI S_ 32 0#32))) (addi (res_main_v61 V0) (broadcastInDim S4x20000 ![] bcast_S_S4x20000 (constantI S_ 32 100#32))) (res_main_v61 V0))

/-- `main_call7_v5`'s composed term of the arguments (named: it is used 3 times). -/
def res_main_call7_v5 (V0 : Vals F) : (Proc.devRef .tc main_call7_v5 : DevRef τ sig).ty.Contents (Elt F) :=
  broadcastInDim S4x20000x1 ![0, 1] bcast_S4x20000_S4x20000x1_0_1 (select (cmpi .slt (res_main_v61 V0) (broadcastInDim S4x20000 ![] bcast_S_S4x20000 (constantI S_ 32 0#32))) (addi (res_main_v61 V0) (broadcastInDim S4x20000 ![] bcast_S_S4x20000 (constantI S_ 32 100#32))) (res_main_v61 V0))

/-- `main_v76`'s composed term of the arguments (named: it is used 6 times). -/
def res_main_v76 (V0 : Vals F) : (Proc.devRef .tc main_v76 : DevRef τ sig).ty.Contents (Elt F) :=
  select (broadcastInDim S4x20000x4 ![0, 1] bcast_S4x20000_S4x20000x4_0_1 (Host.reduce IntOp.andi (andi (cmpi .sge (res_main_call7_v5 V0) (broadcastInDim S4x20000x1 ![] bcast_S_S4x20000x1 (constantI S_ 32 0#32))) (cmpi .sle (res_main_call7_v5 V0) (broadcastInDim S4x20000x1 ![0, 1, 2] bcast_S1x1x1_S4x20000x1_0_1_2 (broadcastInDim S1x1x1 ![2] bcast_S1_S1x1x1_2 (constantI S1 32 99#32))))) (constantI S_ 1 1#1) reducesTo_S4x20000x1_S4x20000_d2 h_S_)) (Host.gather gather_S4x100x4_S4x20000x1_S4x20000x4_2_1_0_0_1_2_114 (V0 (Proc.devRef .tc main_arg1)) (res_main_call7_v5 V0)) (broadcastInDim S4x20000x4 ![] bcast_S_S4x20000x4 (constant S_ .f32 0x7FC00000#32))

/-- `main_v83`'s composed term of the arguments (named: it is used 3 times). -/
def res_main_v83 (V0 : Vals F) : (Proc.devRef .tc main_v83 : DevRef τ sig).ty.Contents (Elt F) :=
  maximumf (subf (shapeCast _ (extractStridedSlice S20000x1 ![0, 2] (V0 (Proc.devRef .tc main_arg4)) slices_S20000x4_S20000x1_0_2) shapeCasts_S20000x1_S20000) (shapeCast _ (extractStridedSlice S20000x1 ![0, 0] (V0 (Proc.devRef .tc main_arg4)) slices_S20000x4_S20000x1_0_0) shapeCasts_S20000x1_S20000)) (broadcastInDim S20000 ![] bcast_S_S20000 (constant S_ .f32 0x358637BD#32))

/-- `main_v90`'s composed term of the arguments (named: it is used 3 times). -/
def res_main_v90 (V0 : Vals F) : (Proc.devRef .tc main_v90 : DevRef τ sig).ty.Contents (Elt F) :=
  maximumf (subf (shapeCast _ (extractStridedSlice S20000x1 ![0, 3] (V0 (Proc.devRef .tc main_arg4)) slices_S20000x4_S20000x1_0_3) shapeCasts_S20000x1_S20000) (shapeCast _ (extractStridedSlice S20000x1 ![0, 1] (V0 (Proc.devRef .tc main_arg4)) slices_S20000x4_S20000x1_0_1) shapeCasts_S20000x1_S20000)) (broadcastInDim S20000 ![] bcast_S_S20000 (constant S_ .f32 0x358637BD#32))

/-- `main_v107`'s composed term of the arguments (named: it is used 2 times). -/
def res_main_v107 (V0 : Vals F) : (Proc.devRef .tc main_v107 : DevRef τ sig).ty.Contents (Elt F) :=
  maximumf (subf (shapeCast _ (extractStridedSlice S4x20000x1 ![0, 0, 2] (res_main_v76 V0) slices_S4x20000x4_S4x20000x1_0_0_2) shapeCasts_S4x20000x1_S4x20000) (shapeCast _ (extractStridedSlice S4x20000x1 ![0, 0, 0] (res_main_v76 V0) slices_S4x20000x4_S4x20000x1_0_0_0) shapeCasts_S4x20000x1_S4x20000)) (broadcastInDim S4x20000 ![] bcast_S_S4x20000 (constant S_ .f32 0x358637BD#32))

/-- `main_v114`'s composed term of the arguments (named: it is used 2 times). -/
def res_main_v114 (V0 : Vals F) : (Proc.devRef .tc main_v114 : DevRef τ sig).ty.Contents (Elt F) :=
  maximumf (subf (shapeCast _ (extractStridedSlice S4x20000x1 ![0, 0, 3] (res_main_v76 V0) slices_S4x20000x4_S4x20000x1_0_0_3) shapeCasts_S4x20000x1_S4x20000) (shapeCast _ (extractStridedSlice S4x20000x1 ![0, 0, 1] (res_main_v76 V0) slices_S4x20000x4_S4x20000x1_0_0_1) shapeCasts_S4x20000x1_S4x20000)) (broadcastInDim S4x20000 ![] bcast_S_S4x20000 (constant S_ .f32 0x358637BD#32))

/-- `main_v163`'s composed term of the arguments (named: it is used 3 times). -/
def res_main_v163 (V0 : Vals F) : (Proc.devRef .tc main_v163 : DevRef τ sig).ty.Contents (Elt F) :=
  broadcastInDim S4x20000x1 ![0, 1] bcast_S4x20000_S4x20000x1_0_1 (uitofp .f32 (cmpi .eq (res_main_v68 V0) (broadcastInDim S4x20000 ![] bcast_S_S4x20000 (constantI S_ 32 1#32))))

/-- `main_v172`'s composed term of the arguments (named: it is used 2 times). -/
def res_main_v172 (V0 : Vals F) : (Proc.devRef .tc main_v172 : DevRef τ sig).ty.Contents (Elt F) :=
  Host.reduceAdd (maximumf (Host.reduceAdd (shapeCast _ (res_main_v163 V0) shapeCasts_S4x20000x1_S4x20000) (constant S_ .f32 0x00000000#32) reducesTo_S4x20000_S4_d1 h_S_) (broadcastInDim S4 ![] bcast_S_S4 (constant S_ .f32 0x3F800000#32))) (constant S_ .f32 0x00000000#32) reducesTo_S4_S_d0 h_S_

/-- `main_v174`'s composed term of the arguments (named: it is used 5 times). -/
def res_main_v174 (V0 : Vals F) : (Proc.devRef .tc main_v174 : DevRef τ sig).ty.Contents (Elt F) :=
  mulf (select (broadcastInDim S4x20000x80 ![0, 1, 2] bcast_S4x20000x1_S4x20000x80_0_1_2 (broadcastInDim S4x20000x1 ![0, 1] bcast_S4x20000_S4x20000x1_0_1 (res_main_v63 V0))) (select (broadcastInDim S4x20000x80 ![0, 1] bcast_S4x20000_S4x20000x80_0_1 (Host.reduce IntOp.andi (andi (cmpi .sge (res_main_call5_v5 V0) (broadcastInDim S4x20000x1 ![] bcast_S_S4x20000x1 (constantI S_ 32 0#32))) (cmpi .sle (res_main_call5_v5 V0) (broadcastInDim S4x20000x1 ![0, 1, 2] bcast_S1x1x1_S4x20000x1_0_1_2 (broadcastInDim S1x1x1 ![2] bcast_S1_S1x1x1_2 (constantI S1 32 99#32))))) (constantI S_ 1 1#1) reducesTo_S4x20000x1_S4x20000_d2 h_S_)) (Host.gather gather_S4x100x80_S4x20000x1_S4x20000x80_2_1_0_0_1_2_1180 (V0 (Proc.devRef .tc main_arg0)) (res_main_call5_v5 V0)) (broadcastInDim S4x20000x80 ![] bcast_S_S4x20000x80 (constant S_ .f32 0x7FC00000#32))) (broadcastInDim S4x20000x80 ![1, 2] bcast_S20000x80_S4x20000x80_1_2 (Host.scatter scatter_S20000x80_S1_S20000_0_1_1_0 (fun _ b => b) (broadcastInDim S20000x80 ![] bcast_S_S20000x80 (constant S_ .f32 0x00000000#32)) (broadcastInDim S1 ![] bcast_S_S1 (constantI S_ 32 0#32)) (broadcastInDim S20000 ![] bcast_S_S20000 (constant S_ .f32 0x3F800000#32))))) (broadcastInDim S4x20000x80 ![0, 1, 2] bcast_S4x20000x1_S4x20000x80_0_1_2 (res_main_v163 V0))

/-- `main_v189`'s composed term of the arguments (named: it is used 2 times). -/
def res_main_v189 (V0 : Vals F) : (Proc.devRef .tc main_v189 : DevRef τ sig).ty.Contents (Elt F) :=
  Host.divf (broadcastInDim S4x20000x80 ![] bcast_S_S4x20000x80 (constant S_ .f32 0x3F800000#32)) (addf (broadcastInDim S4x20000x80 ![] bcast_S_S4x20000x80 (constant S_ .f32 0x3F800000#32)) (Host.exp (Host.negf (V0 (Proc.devRef .tc main_arg2)))))

/-- `main_v213`'s composed term of the arguments (named: it is used 4 times). -/
def res_main_v213 (V0 : Vals F) : (Proc.devRef .tc main_v213 : DevRef τ sig).ty.Contents (Elt F) :=
  Host.divf (Host.reduceAdd (mulf (mulf (mulf (addf (mulf (broadcastInDim S4x20000x80 ![] bcast_S_S4x20000x80 (constant S_ .f32 0x3E800000#32)) (res_main_v174 V0)) (mulf (broadcastInDim S4x20000x80 ![] bcast_S_S4x20000x80 (constant S_ .f32 0x3F400000#32)) (subf (broadcastInDim S4x20000x80 ![] bcast_S_S4x20000x80 (constant S_ .f32 0x3F800000#32)) (res_main_v174 V0)))) (Host.powf (subf (broadcastInDim S4x20000x80 ![] bcast_S_S4x20000x80 (constant S_ .f32 0x3F800000#32)) (addf (mulf (res_main_v189 V0) (res_main_v174 V0)) (mulf (subf (broadcastInDim S4x20000x80 ![] bcast_S_S4x20000x80 (constant S_ .f32 0x3F800000#32)) (res_main_v189 V0)) (subf (broadcastInDim S4x20000x80 ![] bcast_S_S4x20000x80 (constant S_ .f32 0x3F800000#32)) (res_main_v174 V0))))) (broadcastInDim S4x20000x80 ![] bcast_S_S4x20000x80 (constant S_ .f32 0x40000000#32)))) (addf (subf (maximumf (V0 (Proc.devRef .tc main_arg2)) (broadcastInDim S4x20000x80 ![] bcast_S_S4x20000x80 (constant S_ .f32 0x00000000#32))) (mulf (V0 (Proc.devRef .tc main_arg2)) (res_main_v174 V0))) (Host.log1p (Host.exp (Host.negf (Host.absf (V0 (Proc.devRef .tc main_arg2)))))))) (broadcastInDim S4x20000x80 ![0, 1, 2] bcast_S4x20000x1_S4x20000x80_0_1_2 (broadcastInDim S4x20000x1 ![0, 1] bcast_S4x20000_S4x20000x1_0_1 (uitofp .f32 (cmpi .ne (res_main_v68 V0) (broadcastInDim S4x20000 ![] bcast_S_S4x20000 (constantI S_ 32 0#32))))))) (constant S_ .f32 0x00000000#32) reducesTo_S4x20000x80_S_d0_1_2 h_S_) (res_main_v172 V0)

/-- `main_v215`'s composed term of the arguments (named: it is used 4 times). -/
def res_main_v215 (V0 : Vals F) : (Proc.devRef .tc main_v215 : DevRef τ sig).ty.Contents (Elt F) :=
  Host.absf (subf (V0 (Proc.devRef .tc main_arg3)) (select (broadcastInDim S4x20000x4 ![0, 1, 2] bcast_S4x20000x1_S4x20000x4_0_1_2 (broadcastInDim S4x20000x1 ![0, 1] bcast_S4x20000_S4x20000x1_0_1 (res_main_v63 V0))) (Host.divf (subf ((concatenate S4x20000x4 2 [⟨S4x20000x1, ((broadcastInDim S4x20000x1 ![0, 1] bcast_S4x20000_S4x20000x1_0_1 (Host.divf (subf (addf (shapeCast _ (extractStridedSlice S4x20000x1 ![0, 0, 0] (res_main_v76 V0) slices_S4x20000x4_S4x20000x1_0_0_0) shapeCasts_S4x20000x1_S4x20000) (mulf (broadcastInDim S4x20000 ![] bcast_S_S4x20000 (constant S_ .f32 0x3F000000#32)) (res_main_v107 V0))) (broadcastInDim S4x20000 ![0, 1] bcast_S1x20000_S4x20000_0_1 (broadcastInDim S1x20000 ![1] bcast_S20000_S1x20000_1 (addf (shapeCast _ (extractStridedSlice S20000x1 ![0, 0] (V0 (Proc.devRef .tc main_arg4)) slices_S20000x4_S20000x1_0_0) shapeCasts_S20000x1_S20000) (mulf (broadcastInDim S20000 ![] bcast_S_S20000 (constant S_ .f32 0x3F000000#32)) (res_main_v83 V0)))))) (broadcastInDim S4x20000 ![0, 1] bcast_S1x20000_S4x20000_0_1 (broadcastInDim S1x20000 ![1] bcast_S20000_S1x20000_1 (res_main_v83 V0))))) : (⟨S4x20000x1, .f32⟩ : BufTy).Contents (Elt F))⟩, ⟨S4x20000x1, ((broadcastInDim S4x20000x1 ![0, 1] bcast_S4x20000_S4x20000x1_0_1 (Host.divf (subf (addf (shapeCast _ (extractStridedSlice S4x20000x1 ![0, 0, 1] (res_main_v76 V0) slices_S4x20000x4_S4x20000x1_0_0_1) shapeCasts_S4x20000x1_S4x20000) (mulf (broadcastInDim S4x20000 ![] bcast_S_S4x20000 (constant S_ .f32 0x3F000000#32)) (res_main_v114 V0))) (broadcastInDim S4x20000 ![0, 1] bcast_S1x20000_S4x20000_0_1 (broadcastInDim S1x20000 ![1] bcast_S20000_S1x20000_1 (addf (shapeCast _ (extractStridedSlice S20000x1 ![0, 1] (V0 (Proc.devRef .tc main_arg4)) slices_S20000x4_S20000x1_0_1) shapeCasts_S20000x1_S20000) (mulf (broadcastInDim S20000 ![] bcast_S_S20000 (constant S_ .f32 0x3F000000#32)) (res_main_v90 V0)))))) (broadcastInDim S4x20000 ![0, 1] bcast_S1x20000_S4x20000_0_1 (broadcastInDim S1x20000 ![1] bcast_S20000_S1x20000_1 (res_main_v90 V0))))) : (⟨S4x20000x1, .f32⟩ : BufTy).Contents (Elt F))⟩, ⟨S4x20000x1, ((broadcastInDim S4x20000x1 ![0, 1] bcast_S4x20000_S4x20000x1_0_1 (Host.log (Host.divf (res_main_v107 V0) (broadcastInDim S4x20000 ![0, 1] bcast_S1x20000_S4x20000_0_1 (broadcastInDim S1x20000 ![1] bcast_S20000_S1x20000_1 (res_main_v83 V0)))))) : (⟨S4x20000x1, .f32⟩ : BufTy).Contents (Elt F))⟩, ⟨S4x20000x1, ((broadcastInDim S4x20000x1 ![0, 1] bcast_S4x20000_S4x20000x1_0_1 (Host.log (Host.divf (res_main_v114 V0) (broadcastInDim S4x20000 ![0, 1] bcast_S1x20000_S4x20000_0_1 (broadcastInDim S1x20000 ![1] bcast_S20000_S1x20000_1 (res_main_v90 V0)))))) : (⟨S4x20000x1, .f32⟩ : BufTy).Contents (Elt F))⟩] concatenates_S4x20000x1_S4x20000x1_S4x20000x1_S4x20000x1_S4x20000x4_d2 : (⟨S4x20000x4, .f32⟩ : BufTy).Contents (Elt F))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x00000000#32))))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x3F800000#32))))) (broadcastInDim S4x20000x4 ![1, 2] bcast_S20000x4_S4x20000x4_1_2 (broadcastInDim S20000x4 ![] bcast_S_S20000x4 (id (constant S_ .f32 0x00000000#32))))))

/-- `main_v227`'s composed term of the arguments (named: it is used 4 times). -/
def res_main_v227 (V0 : Vals F) : (Proc.devRef .tc main_v227 : DevRef τ sig).ty.Contents (Elt F) :=
  Host.divf (Host.reduceAdd (mulf (select (cmpf .olt (res_main_v215 V0) (broadcastInDim S4x20000x4 ![] bcast_S_S4x20000x4 (constant S_ .f32 0x3F800000#32))) (mulf (mulf (broadcastInDim S4x20000x4 ![] bcast_S_S4x20000x4 (constant S_ .f32 0x3F000000#32)) (res_main_v215 V0)) (res_main_v215 V0)) (subf (res_main_v215 V0) (broadcastInDim S4x20000x4 ![] bcast_S_S4x20000x4 (constant S_ .f32 0x3F000000#32)))) (broadcastInDim S4x20000x4 ![0, 1, 2] bcast_S4x20000x1_S4x20000x4_0_1_2 (res_main_v163 V0))) (constant S_ .f32 0x00000000#32) reducesTo_S4x20000x4_S_d0_1_2 h_S_) (res_main_v172 V0)

/-- The device's buffer contents before @main's first window. -/
def val0 (V0 : Vals F) : Vals F := V0
/-- What `main_arg0` holds at this stage. -/
theorem val0_main_arg0 (V0 : Vals F) : val0 V0 (no_index (Proc.devRef .tc main_arg0)) = V0 (Proc.devRef .tc main_arg0) := rfl
/-- What `main_arg1` holds at this stage. -/
theorem val0_main_arg1 (V0 : Vals F) : val0 V0 (no_index (Proc.devRef .tc main_arg1)) = V0 (Proc.devRef .tc main_arg1) := rfl
/-- What `main_arg2` holds at this stage. -/
theorem val0_main_arg2 (V0 : Vals F) : val0 V0 (no_index (Proc.devRef .tc main_arg2)) = V0 (Proc.devRef .tc main_arg2) := rfl
/-- What `main_arg3` holds at this stage. -/
theorem val0_main_arg3 (V0 : Vals F) : val0 V0 (no_index (Proc.devRef .tc main_arg3)) = V0 (Proc.devRef .tc main_arg3) := rfl
/-- What `main_arg4` holds at this stage. -/
theorem val0_main_arg4 (V0 : Vals F) : val0 V0 (no_index (Proc.devRef .tc main_arg4)) = V0 (Proc.devRef .tc main_arg4) := rfl

/-- The device's buffer contents after @main's first 30 operations. -/
def val0_1 (V0 : Vals F) : Vals F := after ops_part0_0 (val0 V0)
/-- The buffers that window `ops_part0_0`'s operations write. -/
abbrev ops_part0_0_W : List (Ref sig .tc) := [main_cst, main_cst_0, main_cst_1, main_v0, main_v1, main_c, main_v2, main_v3, main_v4, main_v5, main_v6, main_v7, main_v8, main_v9, main_v10, main_v11, main_v12, main_v13, main_v14, main_v15, main_v16, main_v17, main_v18, main_v19, main_cst_2, main_call0_v0, main_call0_v1, main_v20, main_v21, main_v22]
/-- The buffers these operations write are the listed ones. -/
theorem ops_part0_0_writes : (ops_part0_0 : List (HloOp τ sig (Elt F))).Forall fun op => op.writes ⊆ (ops_part0_0_W.map (Proc.devRef (τ := τ) .tc)).toFinset :=
  forall_writes_sub_of_map rfl
/-- A buffer that window `ops_part0_0` does not write keeps its contents through it. -/
theorem val0_1_keep (V0 : Vals F) (r : Ref sig .tc) (h : r ∉ ops_part0_0_W) :
    val0_1 V0 (Proc.devRef .tc r) = val0 V0 (Proc.devRef .tc r) :=
  after_of_writes_sub ops_part0_0 _ ops_part0_0_writes h
/-- What `main_arg0` holds at this stage. -/
theorem val0_1_main_arg0 (V0 : Vals F) : val0_1 V0 (no_index (Proc.devRef .tc main_arg0)) = V0 (Proc.devRef .tc main_arg0) :=
  (val0_1_keep V0 main_arg0 (by decide)).trans (val0_main_arg0 V0)
/-- What `main_arg1` holds at this stage. -/
theorem val0_1_main_arg1 (V0 : Vals F) : val0_1 V0 (no_index (Proc.devRef .tc main_arg1)) = V0 (Proc.devRef .tc main_arg1) :=
  (val0_1_keep V0 main_arg1 (by decide)).trans (val0_main_arg1 V0)
/-- What `main_arg2` holds at this stage. -/
theorem val0_1_main_arg2 (V0 : Vals F) : val0_1 V0 (no_index (Proc.devRef .tc main_arg2)) = V0 (Proc.devRef .tc main_arg2) :=
  (val0_1_keep V0 main_arg2 (by decide)).trans (val0_main_arg2 V0)
/-- What `main_arg3` holds at this stage. -/
theorem val0_1_main_arg3 (V0 : Vals F) : val0_1 V0 (no_index (Proc.devRef .tc main_arg3)) = V0 (Proc.devRef .tc main_arg3) :=
  (val0_1_keep V0 main_arg3 (by decide)).trans (val0_main_arg3 V0)
/-- What `main_arg4` holds at this stage. -/
theorem val0_1_main_arg4 (V0 : Vals F) : val0_1 V0 (no_index (Proc.devRef .tc main_arg4)) = V0 (Proc.devRef .tc main_arg4) :=
  (val0_1_keep V0 main_arg4 (by decide)).trans (val0_main_arg4 V0)
/-- What `main_cst` holds at this stage. -/
theorem val0_1_main_cst (V0 : Vals F) : val0_1 V0 (no_index (Proc.devRef .tc main_cst)) = constant S4 .f32 0x00000000#32 := by
  unfold val0_1
  simp only [ops_part0_0, TRef.binary, TRef.unary, TRef.toBuf, TRef.ofBuf, cast_eq]
  after_results_simp
  all_goals rfl
/-- What `main_cst_0` holds at this stage. -/
theorem val0_1_main_cst_0 (V0 : Vals F) : val0_1 V0 (no_index (Proc.devRef .tc main_cst_0)) = constant S4 .f32 0x3F800000#32 := by
  unfold val0_1
  simp only [ops_part0_0, TRef.binary, TRef.unary, TRef.toBuf, TRef.ofBuf, cast_eq]
  after_results_simp
  all_goals rfl
/-- What `main_v2` holds at this stage. -/
theorem val0_1_main_v2 (V0 : Vals F) : val0_1 V0 (no_index (Proc.devRef .tc main_v2)) = Host.reduce IntOp.ori (cmpf .ogt (V0 (Proc.devRef .tc main_arg1)) (broadcastInDim S4x100x4 ![] bcast_S_S4x100x4 (constant S_ .f32 0x00000000#32))) (constantI S_ 1 0#1) reducesTo_S4x100x4_S4x100_d2 h_S_ := by
  unfold val0_1
  simp only [ops_part0_0, TRef.binary, TRef.unary, TRef.toBuf, TRef.ofBuf, cast_eq]
  after_results_simp
  simp only [val0_main_arg1] <;> rfl
/-- What `main_v20` holds at this stage. -/
theorem val0_1_main_v20 (V0 : Vals F) : val0_1 V0 (no_index (Proc.devRef .tc main_v20)) = res_main_v20 V0 := by
  unfold val0_1
  simp only [ops_part0_0, TRef.binary, TRef.unary, TRef.toBuf, TRef.ofBuf, cast_eq]
  after_results_simp
  simp only [val0_main_arg1, val0_main_arg4] <;> rfl
/-- What `main_v22` holds at this stage. -/
theorem val0_1_main_v22 (V0 : Vals F) : val0_1 V0 (no_index (Proc.devRef .tc main_v22)) = shapeCast _ (extractStridedSlice S4x20000x100x1 ![0, 0, 0, 0] (res_main_v20 V0) slices_S4x20000x100x2_S4x20000x100x1_0_0_0_0) shapeCasts_S4x20000x100x1_S4x20000x100 := by
  unfold val0_1
  simp only [ops_part0_0, TRef.binary, TRef.unary, TRef.toBuf, TRef.ofBuf, cast_eq]
  after_results_simp
  simp only [val0_main_arg1, val0_main_arg4] <;> rfl

/-- The device's buffer contents after @main's first 60 operations. -/
def val0_2 (V0 : Vals F) : Vals F := after ops_part0_1 (val0_1 V0)
/-- The buffers that window `ops_part0_1`'s operations write. -/
abbrev ops_part0_1_W : List (Ref sig .tc) := [main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52]
/-- The buffers these operations write are the listed ones. -/
theorem ops_part0_1_writes : (ops_part0_1 : List (HloOp τ sig (Elt F))).Forall fun op => op.writes ⊆ (ops_part0_1_W.map (Proc.devRef (τ := τ) .tc)).toFinset :=
  forall_writes_sub_of_map rfl
/-- A buffer that window `ops_part0_1` does not write keeps its contents through it. -/
theorem val0_2_keep (V0 : Vals F) (r : Ref sig .tc) (h : r ∉ ops_part0_1_W) :
    val0_2 V0 (Proc.devRef .tc r) = val0_1 V0 (Proc.devRef .tc r) :=
  after_of_writes_sub ops_part0_1 _ ops_part0_1_writes h
/-- What `main_arg0` holds at this stage. -/
theorem val0_2_main_arg0 (V0 : Vals F) : val0_2 V0 (no_index (Proc.devRef .tc main_arg0)) = V0 (Proc.devRef .tc main_arg0) :=
  (val0_2_keep V0 main_arg0 (by decide)).trans (val0_1_main_arg0 V0)
/-- What `main_arg1` holds at this stage. -/
theorem val0_2_main_arg1 (V0 : Vals F) : val0_2 V0 (no_index (Proc.devRef .tc main_arg1)) = V0 (Proc.devRef .tc main_arg1) :=
  (val0_2_keep V0 main_arg1 (by decide)).trans (val0_1_main_arg1 V0)
/-- What `main_arg2` holds at this stage. -/
theorem val0_2_main_arg2 (V0 : Vals F) : val0_2 V0 (no_index (Proc.devRef .tc main_arg2)) = V0 (Proc.devRef .tc main_arg2) :=
  (val0_2_keep V0 main_arg2 (by decide)).trans (val0_1_main_arg2 V0)
/-- What `main_arg3` holds at this stage. -/
theorem val0_2_main_arg3 (V0 : Vals F) : val0_2 V0 (no_index (Proc.devRef .tc main_arg3)) = V0 (Proc.devRef .tc main_arg3) :=
  (val0_2_keep V0 main_arg3 (by decide)).trans (val0_1_main_arg3 V0)
/-- What `main_arg4` holds at this stage. -/
theorem val0_2_main_arg4 (V0 : Vals F) : val0_2 V0 (no_index (Proc.devRef .tc main_arg4)) = V0 (Proc.devRef .tc main_arg4) :=
  (val0_2_keep V0 main_arg4 (by decide)).trans (val0_1_main_arg4 V0)
/-- What `main_cst` holds at this stage. -/
theorem val0_2_main_cst (V0 : Vals F) : val0_2 V0 (no_index (Proc.devRef .tc main_cst)) = constant S4 .f32 0x00000000#32 :=
  (val0_2_keep V0 main_cst (by decide)).trans (val0_1_main_cst V0)
/-- What `main_cst_0` holds at this stage. -/
theorem val0_2_main_cst_0 (V0 : Vals F) : val0_2 V0 (no_index (Proc.devRef .tc main_cst_0)) = constant S4 .f32 0x3F800000#32 :=
  (val0_2_keep V0 main_cst_0 (by decide)).trans (val0_1_main_cst_0 V0)
/-- What `main_v2` holds at this stage. -/
theorem val0_2_main_v2 (V0 : Vals F) : val0_2 V0 (no_index (Proc.devRef .tc main_v2)) = Host.reduce IntOp.ori (cmpf .ogt (V0 (Proc.devRef .tc main_arg1)) (broadcastInDim S4x100x4 ![] bcast_S_S4x100x4 (constant S_ .f32 0x00000000#32))) (constantI S_ 1 0#1) reducesTo_S4x100x4_S4x100_d2 h_S_ :=
  (val0_2_keep V0 main_v2 (by decide)).trans (val0_1_main_v2 V0)
/-- What `main_v25` holds at this stage. -/
theorem val0_2_main_v25 (V0 : Vals F) : val0_2 V0 (no_index (Proc.devRef .tc main_v25)) = res_main_v25 V0 := by
  unfold val0_2
  simp only [ops_part0_1]
  after_results_simp
  simp only [val0_1_main_v20, val0_1_main_v22] <;> rfl
/-- What `main_v51` holds at this stage. -/
theorem val0_2_main_v51 (V0 : Vals F) : val0_2 V0 (no_index (Proc.devRef .tc main_v51)) = broadcastInDim S4x20000x100 ![0, 1, 2] bcast_S1x20000x1_S4x20000x100_0_1_2 (broadcastInDim S1x20000x1 ![1, 2] bcast_S20000x1_S1x20000x1_1_2 (broadcastInDim S20000x1 ![0] bcast_S20000_S20000x1_0 (mulf (subf (shapeCast _ (extractStridedSlice S20000x1 ![0, 2] (V0 (Proc.devRef .tc main_arg4)) slices_S20000x4_S20000x1_0_2) shapeCasts_S20000x1_S20000) (shapeCast _ (extractStridedSlice S20000x1 ![0, 0] (V0 (Proc.devRef .tc main_arg4)) slices_S20000x4_S20000x1_0_0) shapeCasts_S20000x1_S20000)) (subf (shapeCast _ (extractStridedSlice S20000x1 ![0, 3] (V0 (Proc.devRef .tc main_arg4)) slices_S20000x4_S20000x1_0_3) shapeCasts_S20000x1_S20000) (shapeCast _ (extractStridedSlice S20000x1 ![0, 1] (V0 (Proc.devRef .tc main_arg4)) slices_S20000x4_S20000x1_0_1) shapeCasts_S20000x1_S20000))))) := by
  unfold val0_2
  simp only [ops_part0_1]
  after_results_simp
  simp only [val0_1_main_arg4] <;> rfl
/-- What `main_v52` holds at this stage. -/
theorem val0_2_main_v52 (V0 : Vals F) : val0_2 V0 (no_index (Proc.devRef .tc main_v52)) = broadcastInDim S4x20000x100 ![0, 1, 2] bcast_S4x1x100_S4x20000x100_0_1_2 (broadcastInDim S4x1x100 ![0, 2] bcast_S4x100_S4x1x100_0_2 (mulf (subf (shapeCast _ (extractStridedSlice S4x100x1 ![0, 0, 2] (V0 (Proc.devRef .tc main_arg1)) slices_S4x100x4_S4x100x1_0_0_2) shapeCasts_S4x100x1_S4x100) (shapeCast _ (extractStridedSlice S4x100x1 ![0, 0, 0] (V0 (Proc.devRef .tc main_arg1)) slices_S4x100x4_S4x100x1_0_0_0) shapeCasts_S4x100x1_S4x100)) (subf (shapeCast _ (extractStridedSlice S4x100x1 ![0, 0, 3] (V0 (Proc.devRef .tc main_arg1)) slices_S4x100x4_S4x100x1_0_0_3) shapeCasts_S4x100x1_S4x100) (shapeCast _ (extractStridedSlice S4x100x1 ![0, 0, 1] (V0 (Proc.devRef .tc main_arg1)) slices_S4x100x4_S4x100x1_0_0_1) shapeCasts_S4x100x1_S4x100)))) := by
  unfold val0_2
  simp only [ops_part0_1]
  after_results_simp
  simp only [val0_1_main_arg1] <;> rfl

/-- The device's buffer contents after @main's first 1 window. -/
def val1 (V0 : Vals F) : Vals F := after ops_part0_2 (val0_2 V0)
/-- The buffers that window `ops_part0_2`'s operations write. -/
abbrev ops_part0_2_W : List (Ref sig .tc) := [main_v53, main_v54]
/-- The buffers these operations write are the listed ones. -/
theorem ops_part0_2_writes : (ops_part0_2 : List (HloOp τ sig (Elt F))).Forall fun op => op.writes ⊆ (ops_part0_2_W.map (Proc.devRef (τ := τ) .tc)).toFinset :=
  forall_writes_sub_of_map rfl
/-- A buffer that window `ops_part0_2` does not write keeps its contents through it. -/
theorem val1_keep (V0 : Vals F) (r : Ref sig .tc) (h : r ∉ ops_part0_2_W) :
    val1 V0 (Proc.devRef .tc r) = val0_2 V0 (Proc.devRef .tc r) :=
  after_of_writes_sub ops_part0_2 _ ops_part0_2_writes h
/-- What `main_arg0` holds at this stage. -/
theorem val1_main_arg0 (V0 : Vals F) : val1 V0 (no_index (Proc.devRef .tc main_arg0)) = V0 (Proc.devRef .tc main_arg0) :=
  (val1_keep V0 main_arg0 (by decide)).trans (val0_2_main_arg0 V0)
/-- What `main_arg1` holds at this stage. -/
theorem val1_main_arg1 (V0 : Vals F) : val1 V0 (no_index (Proc.devRef .tc main_arg1)) = V0 (Proc.devRef .tc main_arg1) :=
  (val1_keep V0 main_arg1 (by decide)).trans (val0_2_main_arg1 V0)
/-- What `main_arg2` holds at this stage. -/
theorem val1_main_arg2 (V0 : Vals F) : val1 V0 (no_index (Proc.devRef .tc main_arg2)) = V0 (Proc.devRef .tc main_arg2) :=
  (val1_keep V0 main_arg2 (by decide)).trans (val0_2_main_arg2 V0)
/-- What `main_arg3` holds at this stage. -/
theorem val1_main_arg3 (V0 : Vals F) : val1 V0 (no_index (Proc.devRef .tc main_arg3)) = V0 (Proc.devRef .tc main_arg3) :=
  (val1_keep V0 main_arg3 (by decide)).trans (val0_2_main_arg3 V0)
/-- What `main_arg4` holds at this stage. -/
theorem val1_main_arg4 (V0 : Vals F) : val1 V0 (no_index (Proc.devRef .tc main_arg4)) = V0 (Proc.devRef .tc main_arg4) :=
  (val1_keep V0 main_arg4 (by decide)).trans (val0_2_main_arg4 V0)
/-- What `main_cst` holds at this stage. -/
theorem val1_main_cst (V0 : Vals F) : val1 V0 (no_index (Proc.devRef .tc main_cst)) = constant S4 .f32 0x00000000#32 :=
  (val1_keep V0 main_cst (by decide)).trans (val0_2_main_cst V0)
/-- What `main_cst_0` holds at this stage. -/
theorem val1_main_cst_0 (V0 : Vals F) : val1 V0 (no_index (Proc.devRef .tc main_cst_0)) = constant S4 .f32 0x3F800000#32 :=
  (val1_keep V0 main_cst_0 (by decide)).trans (val0_2_main_cst_0 V0)
/-- What `main_v2` holds at this stage. -/
theorem val1_main_v2 (V0 : Vals F) : val1 V0 (no_index (Proc.devRef .tc main_v2)) = Host.reduce IntOp.ori (cmpf .ogt (V0 (Proc.devRef .tc main_arg1)) (broadcastInDim S4x100x4 ![] bcast_S_S4x100x4 (constant S_ .f32 0x00000000#32))) (constantI S_ 1 0#1) reducesTo_S4x100x4_S4x100_d2 h_S_ :=
  (val1_keep V0 main_v2 (by decide)).trans (val0_2_main_v2 V0)
/-- What `main_v25` holds at this stage. -/
theorem val1_main_v25 (V0 : Vals F) : val1 V0 (no_index (Proc.devRef .tc main_v25)) = res_main_v25 V0 :=
  (val1_keep V0 main_v25 (by decide)).trans (val0_2_main_v25 V0)
/-- What `main_v54` holds at this stage. -/
theorem val1_main_v54 (V0 : Vals F) : val1 V0 (no_index (Proc.devRef .tc main_v54)) = subf (addf (broadcastInDim S4x20000x100 ![0, 1, 2] bcast_S1x20000x1_S4x20000x100_0_1_2 (broadcastInDim S1x20000x1 ![1, 2] bcast_S20000x1_S1x20000x1_1_2 (broadcastInDim S20000x1 ![0] bcast_S20000_S20000x1_0 (mulf (subf (shapeCast _ (extractStridedSlice S20000x1 ![0, 2] (V0 (Proc.devRef .tc main_arg4)) slices_S20000x4_S20000x1_0_2) shapeCasts_S20000x1_S20000) (shapeCast _ (extractStridedSlice S20000x1 ![0, 0] (V0 (Proc.devRef .tc main_arg4)) slices_S20000x4_S20000x1_0_0) shapeCasts_S20000x1_S20000)) (subf (shapeCast _ (extractStridedSlice S20000x1 ![0, 3] (V0 (Proc.devRef .tc main_arg4)) slices_S20000x4_S20000x1_0_3) shapeCasts_S20000x1_S20000) (shapeCast _ (extractStridedSlice S20000x1 ![0, 1] (V0 (Proc.devRef .tc main_arg4)) slices_S20000x4_S20000x1_0_1) shapeCasts_S20000x1_S20000)))))) (broadcastInDim S4x20000x100 ![0, 1, 2] bcast_S4x1x100_S4x20000x100_0_1_2 (broadcastInDim S4x1x100 ![0, 2] bcast_S4x100_S4x1x100_0_2 (mulf (subf (shapeCast _ (extractStridedSlice S4x100x1 ![0, 0, 2] (V0 (Proc.devRef .tc main_arg1)) slices_S4x100x4_S4x100x1_0_0_2) shapeCasts_S4x100x1_S4x100) (shapeCast _ (extractStridedSlice S4x100x1 ![0, 0, 0] (V0 (Proc.devRef .tc main_arg1)) slices_S4x100x4_S4x100x1_0_0_0) shapeCasts_S4x100x1_S4x100)) (subf (shapeCast _ (extractStridedSlice S4x100x1 ![0, 0, 3] (V0 (Proc.devRef .tc main_arg1)) slices_S4x100x4_S4x100x1_0_0_3) shapeCasts_S4x100x1_S4x100) (shapeCast _ (extractStridedSlice S4x100x1 ![0, 0, 1] (V0 (Proc.devRef .tc main_arg1)) slices_S4x100x4_S4x100x1_0_0_1) shapeCasts_S4x100x1_S4x100)))))) (res_main_v25 V0) := by
  unfold val1
  simp only [ops_part0_2]
  after_results_simp
  simp only [val0_2_main_v25, val0_2_main_v52, val0_2_main_v51] <;> rfl

/-- The device's buffer contents after @main's first 92 operations. -/
def val1_1 (V0 : Vals F) : Vals F := after ops_part1_0 (val1 V0)
/-- The buffers that window `ops_part1_0`'s operations write. -/
abbrev ops_part1_0_W : List (Ref sig .tc) := [main_cst_3, main_v55, main_v56, main_v57, main_v58, main_cst_4, main_call1_v0, main_call1_v1, main_call1_v2, main_call1_v3, main_v59, main_cst_5, main_v60, main_call2_v0, main_call2_cst, main_call2_c, main_call2_v1_0, main_v61, main_cst_6, main_v62, main_v63, main_cst_7, main_v64, main_v65, main_c_8, main_c_9, main_call3_v0, main_call3_v1, main_call3_v2, main_call3_v3]
/-- The buffers these operations write are the listed ones. -/
theorem ops_part1_0_writes : (ops_part1_0 : List (HloOp τ sig (Elt F))).Forall fun op => op.writes ⊆ (ops_part1_0_W.map (Proc.devRef (τ := τ) .tc)).toFinset :=
  forall_writes_sub_of_map rfl
/-- A buffer that window `ops_part1_0` does not write keeps its contents through it. -/
theorem val1_1_keep (V0 : Vals F) (r : Ref sig .tc) (h : r ∉ ops_part1_0_W) :
    val1_1 V0 (Proc.devRef .tc r) = val1 V0 (Proc.devRef .tc r) :=
  after_of_writes_sub ops_part1_0 _ ops_part1_0_writes h
/-- What `main_arg0` holds at this stage. -/
theorem val1_1_main_arg0 (V0 : Vals F) : val1_1 V0 (no_index (Proc.devRef .tc main_arg0)) = V0 (Proc.devRef .tc main_arg0) :=
  (val1_1_keep V0 main_arg0 (by decide)).trans (val1_main_arg0 V0)
/-- What `main_arg1` holds at this stage. -/
theorem val1_1_main_arg1 (V0 : Vals F) : val1_1 V0 (no_index (Proc.devRef .tc main_arg1)) = V0 (Proc.devRef .tc main_arg1) :=
  (val1_1_keep V0 main_arg1 (by decide)).trans (val1_main_arg1 V0)
/-- What `main_arg2` holds at this stage. -/
theorem val1_1_main_arg2 (V0 : Vals F) : val1_1 V0 (no_index (Proc.devRef .tc main_arg2)) = V0 (Proc.devRef .tc main_arg2) :=
  (val1_1_keep V0 main_arg2 (by decide)).trans (val1_main_arg2 V0)
/-- What `main_arg3` holds at this stage. -/
theorem val1_1_main_arg3 (V0 : Vals F) : val1_1 V0 (no_index (Proc.devRef .tc main_arg3)) = V0 (Proc.devRef .tc main_arg3) :=
  (val1_1_keep V0 main_arg3 (by decide)).trans (val1_main_arg3 V0)
/-- What `main_arg4` holds at this stage. -/
theorem val1_1_main_arg4 (V0 : Vals F) : val1_1 V0 (no_index (Proc.devRef .tc main_arg4)) = V0 (Proc.devRef .tc main_arg4) :=
  (val1_1_keep V0 main_arg4 (by decide)).trans (val1_main_arg4 V0)
/-- What `main_cst` holds at this stage. -/
theorem val1_1_main_cst (V0 : Vals F) : val1_1 V0 (no_index (Proc.devRef .tc main_cst)) = constant S4 .f32 0x00000000#32 :=
  (val1_1_keep V0 main_cst (by decide)).trans (val1_main_cst V0)
/-- What `main_cst_0` holds at this stage. -/
theorem val1_1_main_cst_0 (V0 : Vals F) : val1_1 V0 (no_index (Proc.devRef .tc main_cst_0)) = constant S4 .f32 0x3F800000#32 :=
  (val1_1_keep V0 main_cst_0 (by decide)).trans (val1_main_cst_0 V0)
/-- What `main_v61` holds at this stage. -/
theorem val1_1_main_v61 (V0 : Vals F) : val1_1 V0 (no_index (Proc.devRef .tc main_v61)) = res_main_v61 V0 := by
  unfold val1_1
  simp only [ops_part1_0, TRef.nullary, TRef.quaternary, TRef.ternary, TRef.unary, TRef.toBuf, TRef.ofBuf, cast_eq]
  after_results_simp
  simp only [val1_main_v54, val1_main_v25, val1_main_v2] <;> rfl
/-- What `main_v63` holds at this stage. -/
theorem val1_1_main_v63 (V0 : Vals F) : val1_1 V0 (no_index (Proc.devRef .tc main_v63)) = res_main_v63 V0 := by
  unfold val1_1
  simp only [ops_part1_0, TRef.nullary, TRef.quaternary, TRef.ternary, TRef.unary, TRef.toBuf, TRef.ofBuf, cast_eq]
  after_results_simp
  simp only [val1_main_v54, val1_main_v25, val1_main_v2] <;> rfl
/-- What `main_v65` holds at this stage. -/
theorem val1_1_main_v65 (V0 : Vals F) : val1_1 V0 (no_index (Proc.devRef .tc main_v65)) = cmpf .olt (res_main_v60 V0) (broadcastInDim S4x20000 ![] bcast_S_S4x20000 (constant S_ .f32 0x3ECCCCCD#32)) := by
  unfold val1_1
  simp only [ops_part1_0, TRef.nullary, TRef.quaternary, TRef.ternary, TRef.unary, TRef.toBuf, TRef.ofBuf, cast_eq]
  after_results_simp
  simp only [val1_main_v54, val1_main_v25, val1_main_v2] <;> rfl
/-- What `main_call3_v2` holds at this stage. -/
theorem val1_1_main_call3_v2 (V0 : Vals F) : val1_1 V0 (no_index (Proc.devRef .tc main_call3_v2)) = broadcastInDim S4x20000 ![1] bcast_S20000_S4x20000_1 (broadcastInDim S20000 ![] bcast_S_S20000 (constantI S_ 32 0#32)) := by
  unfold val1_1
  simp only [ops_part1_0, TRef.nullary, TRef.quaternary, TRef.ternary, TRef.unary, TRef.toBuf, TRef.ofBuf, cast_eq]
  after_results_simp
  all_goals rfl
/-- What `main_call3_v3` holds at this stage. -/
theorem val1_1_main_call3_v3 (V0 : Vals F) : val1_1 V0 (no_index (Proc.devRef .tc main_call3_v3)) = broadcastInDim S4x20000 ![1] bcast_S20000_S4x20000_1 (broadcastInDim S20000 ![] bcast_S_S20000 (constantI S_ 32 4294967295#32)) := by
  unfold val1_1
  simp only [ops_part1_0, TRef.nullary, TRef.quaternary, TRef.ternary, TRef.unary, TRef.toBuf, TRef.ofBuf, cast_eq]
  after_results_simp
  all_goals rfl

/-- The device's buffer contents after @main's first 122 operations. -/
def val1_2 (V0 : Vals F) : Vals F := after ops_part1_1 (val1_1 V0)
/-- The buffers that window `ops_part1_1`'s operations write. -/
abbrev ops_part1_1_W : List (Ref sig .tc) := [main_v66, main_c_10, main_call4_v0, main_call4_v1, main_v67, main_v68, main_cst_11, main_v69, main_c_12, main_v70, main_cst_13, main_v71, main_v72, main_v73, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11]
/-- The buffers these operations write are the listed ones. -/
theorem ops_part1_1_writes : (ops_part1_1 : List (HloOp τ sig (Elt F))).Forall fun op => op.writes ⊆ (ops_part1_1_W.map (Proc.devRef (τ := τ) .tc)).toFinset :=
  forall_writes_sub_of_map rfl
/-- A buffer that window `ops_part1_1` does not write keeps its contents through it. -/
theorem val1_2_keep (V0 : Vals F) (r : Ref sig .tc) (h : r ∉ ops_part1_1_W) :
    val1_2 V0 (Proc.devRef .tc r) = val1_1 V0 (Proc.devRef .tc r) :=
  after_of_writes_sub ops_part1_1 _ ops_part1_1_writes h
/-- What `main_arg0` holds at this stage. -/
theorem val1_2_main_arg0 (V0 : Vals F) : val1_2 V0 (no_index (Proc.devRef .tc main_arg0)) = V0 (Proc.devRef .tc main_arg0) :=
  (val1_2_keep V0 main_arg0 (by decide)).trans (val1_1_main_arg0 V0)
/-- What `main_arg1` holds at this stage. -/
theorem val1_2_main_arg1 (V0 : Vals F) : val1_2 V0 (no_index (Proc.devRef .tc main_arg1)) = V0 (Proc.devRef .tc main_arg1) :=
  (val1_2_keep V0 main_arg1 (by decide)).trans (val1_1_main_arg1 V0)
/-- What `main_arg2` holds at this stage. -/
theorem val1_2_main_arg2 (V0 : Vals F) : val1_2 V0 (no_index (Proc.devRef .tc main_arg2)) = V0 (Proc.devRef .tc main_arg2) :=
  (val1_2_keep V0 main_arg2 (by decide)).trans (val1_1_main_arg2 V0)
/-- What `main_arg3` holds at this stage. -/
theorem val1_2_main_arg3 (V0 : Vals F) : val1_2 V0 (no_index (Proc.devRef .tc main_arg3)) = V0 (Proc.devRef .tc main_arg3) :=
  (val1_2_keep V0 main_arg3 (by decide)).trans (val1_1_main_arg3 V0)
/-- What `main_arg4` holds at this stage. -/
theorem val1_2_main_arg4 (V0 : Vals F) : val1_2 V0 (no_index (Proc.devRef .tc main_arg4)) = V0 (Proc.devRef .tc main_arg4) :=
  (val1_2_keep V0 main_arg4 (by decide)).trans (val1_1_main_arg4 V0)
/-- What `main_cst` holds at this stage. -/
theorem val1_2_main_cst (V0 : Vals F) : val1_2 V0 (no_index (Proc.devRef .tc main_cst)) = constant S4 .f32 0x00000000#32 :=
  (val1_2_keep V0 main_cst (by decide)).trans (val1_1_main_cst V0)
/-- What `main_cst_0` holds at this stage. -/
theorem val1_2_main_cst_0 (V0 : Vals F) : val1_2 V0 (no_index (Proc.devRef .tc main_cst_0)) = constant S4 .f32 0x3F800000#32 :=
  (val1_2_keep V0 main_cst_0 (by decide)).trans (val1_1_main_cst_0 V0)
/-- What `main_v61` holds at this stage. -/
theorem val1_2_main_v61 (V0 : Vals F) : val1_2 V0 (no_index (Proc.devRef .tc main_v61)) = res_main_v61 V0 :=
  (val1_2_keep V0 main_v61 (by decide)).trans (val1_1_main_v61 V0)
/-- What `main_v63` holds at this stage. -/
theorem val1_2_main_v63 (V0 : Vals F) : val1_2 V0 (no_index (Proc.devRef .tc main_v63)) = res_main_v63 V0 :=
  (val1_2_keep V0 main_v63 (by decide)).trans (val1_1_main_v63 V0)
/-- What `main_v68` holds at this stage. -/
theorem val1_2_main_v68 (V0 : Vals F) : val1_2 V0 (no_index (Proc.devRef .tc main_v68)) = res_main_v68 V0 := by
  unfold val1_2
  simp only [ops_part1_1, TRef.binary, TRef.nullary, TRef.ternary, TRef.unary, TRef.toBuf, TRef.ofBuf, cast_eq]
  after_results_simp
  simp only [val1_1_main_call3_v2, val1_1_main_call3_v3, val1_1_main_v65, val1_1_main_v63] <;> rfl
/-- What `main_v72` holds at this stage. -/
theorem val1_2_main_v72 (V0 : Vals F) : val1_2 V0 (no_index (Proc.devRef .tc main_v72)) = Host.scatter scatter_S20000x80_S1_S20000_0_1_1_0 (fun _ b => b) (broadcastInDim S20000x80 ![] bcast_S_S20000x80 (constant S_ .f32 0x00000000#32)) (broadcastInDim S1 ![] bcast_S_S1 (constantI S_ 32 0#32)) (broadcastInDim S20000 ![] bcast_S_S20000 (constant S_ .f32 0x3F800000#32)) := by
  unfold val1_2
  simp only [ops_part1_1, TRef.binary, TRef.nullary, TRef.ternary, TRef.unary, TRef.toBuf, TRef.ofBuf, cast_eq]
  after_results_simp
  all_goals rfl
/-- What `main_v73` holds at this stage. -/
theorem val1_2_main_v73 (V0 : Vals F) : val1_2 V0 (no_index (Proc.devRef .tc main_v73)) = broadcastInDim S4x20000x1 ![0, 1] bcast_S4x20000_S4x20000x1_0_1 (res_main_v63 V0) := by
  unfold val1_2
  simp only [ops_part1_1, TRef.binary, TRef.nullary, TRef.ternary, TRef.unary, TRef.toBuf, TRef.ofBuf, cast_eq]
  after_results_simp
  simp only [val1_1_main_v63] <;> rfl
/-- What `main_call5_v5` holds at this stage. -/
theorem val1_2_main_call5_v5 (V0 : Vals F) : val1_2 V0 (no_index (Proc.devRef .tc main_call5_v5)) = res_main_call5_v5 V0 := by
  unfold val1_2
  simp only [ops_part1_1, TRef.binary, TRef.nullary, TRef.ternary, TRef.unary, TRef.toBuf, TRef.ofBuf, cast_eq]
  after_results_simp
  simp only [val1_1_main_v61] <;> rfl
/-- What `main_call5_v11` holds at this stage. -/
theorem val1_2_main_call5_v11 (V0 : Vals F) : val1_2 V0 (no_index (Proc.devRef .tc main_call5_v11)) = andi (cmpi .sge (res_main_call5_v5 V0) (broadcastInDim S4x20000x1 ![] bcast_S_S4x20000x1 (constantI S_ 32 0#32))) (cmpi .sle (res_main_call5_v5 V0) (broadcastInDim S4x20000x1 ![0, 1, 2] bcast_S1x1x1_S4x20000x1_0_1_2 (broadcastInDim S1x1x1 ![2] bcast_S1_S1x1x1_2 (constantI S1 32 99#32)))) := by
  unfold val1_2
  simp only [ops_part1_1, TRef.binary, TRef.nullary, TRef.ternary, TRef.unary, TRef.toBuf, TRef.ofBuf, cast_eq]
  after_results_simp
  simp only [val1_1_main_v61] <;> rfl

/-- The device's buffer contents after @main's first 152 operations. -/
def val1_3 (V0 : Vals F) : Vals F := after ops_part1_2 (val1_2 V0)
/-- The buffers that window `ops_part1_2`'s operations write. -/
abbrev ops_part1_2_W : List (Ref sig .tc) := [main_call5_c_3, main_call5_v12, main_call5_v13, main_call5_v14, main_call5_cst, main_call5_v15, main_v74, main_call6_v0, main_call6_v1, main_v75, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14]
/-- The buffers these operations write are the listed ones. -/
theorem ops_part1_2_writes : (ops_part1_2 : List (HloOp τ sig (Elt F))).Forall fun op => op.writes ⊆ (ops_part1_2_W.map (Proc.devRef (τ := τ) .tc)).toFinset :=
  forall_writes_sub_of_map rfl
/-- A buffer that window `ops_part1_2` does not write keeps its contents through it. -/
theorem val1_3_keep (V0 : Vals F) (r : Ref sig .tc) (h : r ∉ ops_part1_2_W) :
    val1_3 V0 (Proc.devRef .tc r) = val1_2 V0 (Proc.devRef .tc r) :=
  after_of_writes_sub ops_part1_2 _ ops_part1_2_writes h
/-- What `main_arg0` holds at this stage. -/
theorem val1_3_main_arg0 (V0 : Vals F) : val1_3 V0 (no_index (Proc.devRef .tc main_arg0)) = V0 (Proc.devRef .tc main_arg0) :=
  (val1_3_keep V0 main_arg0 (by decide)).trans (val1_2_main_arg0 V0)
/-- What `main_arg1` holds at this stage. -/
theorem val1_3_main_arg1 (V0 : Vals F) : val1_3 V0 (no_index (Proc.devRef .tc main_arg1)) = V0 (Proc.devRef .tc main_arg1) :=
  (val1_3_keep V0 main_arg1 (by decide)).trans (val1_2_main_arg1 V0)
/-- What `main_arg2` holds at this stage. -/
theorem val1_3_main_arg2 (V0 : Vals F) : val1_3 V0 (no_index (Proc.devRef .tc main_arg2)) = V0 (Proc.devRef .tc main_arg2) :=
  (val1_3_keep V0 main_arg2 (by decide)).trans (val1_2_main_arg2 V0)
/-- What `main_arg3` holds at this stage. -/
theorem val1_3_main_arg3 (V0 : Vals F) : val1_3 V0 (no_index (Proc.devRef .tc main_arg3)) = V0 (Proc.devRef .tc main_arg3) :=
  (val1_3_keep V0 main_arg3 (by decide)).trans (val1_2_main_arg3 V0)
/-- What `main_arg4` holds at this stage. -/
theorem val1_3_main_arg4 (V0 : Vals F) : val1_3 V0 (no_index (Proc.devRef .tc main_arg4)) = V0 (Proc.devRef .tc main_arg4) :=
  (val1_3_keep V0 main_arg4 (by decide)).trans (val1_2_main_arg4 V0)
/-- What `main_cst` holds at this stage. -/
theorem val1_3_main_cst (V0 : Vals F) : val1_3 V0 (no_index (Proc.devRef .tc main_cst)) = constant S4 .f32 0x00000000#32 :=
  (val1_3_keep V0 main_cst (by decide)).trans (val1_2_main_cst V0)
/-- What `main_cst_0` holds at this stage. -/
theorem val1_3_main_cst_0 (V0 : Vals F) : val1_3 V0 (no_index (Proc.devRef .tc main_cst_0)) = constant S4 .f32 0x3F800000#32 :=
  (val1_3_keep V0 main_cst_0 (by decide)).trans (val1_2_main_cst_0 V0)
/-- What `main_v63` holds at this stage. -/
theorem val1_3_main_v63 (V0 : Vals F) : val1_3 V0 (no_index (Proc.devRef .tc main_v63)) = res_main_v63 V0 :=
  (val1_3_keep V0 main_v63 (by decide)).trans (val1_2_main_v63 V0)
/-- What `main_v68` holds at this stage. -/
theorem val1_3_main_v68 (V0 : Vals F) : val1_3 V0 (no_index (Proc.devRef .tc main_v68)) = res_main_v68 V0 :=
  (val1_3_keep V0 main_v68 (by decide)).trans (val1_2_main_v68 V0)
/-- What `main_v75` holds at this stage. -/
theorem val1_3_main_v75 (V0 : Vals F) : val1_3 V0 (no_index (Proc.devRef .tc main_v75)) = select (broadcastInDim S4x20000x80 ![0, 1, 2] bcast_S4x20000x1_S4x20000x80_0_1_2 (broadcastInDim S4x20000x1 ![0, 1] bcast_S4x20000_S4x20000x1_0_1 (res_main_v63 V0))) (select (broadcastInDim S4x20000x80 ![0, 1] bcast_S4x20000_S4x20000x80_0_1 (Host.reduce IntOp.andi (andi (cmpi .sge (res_main_call5_v5 V0) (broadcastInDim S4x20000x1 ![] bcast_S_S4x20000x1 (constantI S_ 32 0#32))) (cmpi .sle (res_main_call5_v5 V0) (broadcastInDim S4x20000x1 ![0, 1, 2] bcast_S1x1x1_S4x20000x1_0_1_2 (broadcastInDim S1x1x1 ![2] bcast_S1_S1x1x1_2 (constantI S1 32 99#32))))) (constantI S_ 1 1#1) reducesTo_S4x20000x1_S4x20000_d2 h_S_)) (Host.gather gather_S4x100x80_S4x20000x1_S4x20000x80_2_1_0_0_1_2_1180 (V0 (Proc.devRef .tc main_arg0)) (res_main_call5_v5 V0)) (broadcastInDim S4x20000x80 ![] bcast_S_S4x20000x80 (constant S_ .f32 0x7FC00000#32))) (broadcastInDim S4x20000x80 ![1, 2] bcast_S20000x80_S4x20000x80_1_2 (Host.scatter scatter_S20000x80_S1_S20000_0_1_1_0 (fun _ b => b) (broadcastInDim S20000x80 ![] bcast_S_S20000x80 (constant S_ .f32 0x00000000#32)) (broadcastInDim S1 ![] bcast_S_S1 (constantI S_ 32 0#32)) (broadcastInDim S20000 ![] bcast_S_S20000 (constant S_ .f32 0x3F800000#32)))) := by
  unfold val1_3
  simp only [ops_part1_2, TRef.binary, TRef.nullary, TRef.ternary, TRef.unary, TRef.toBuf, TRef.ofBuf, cast_eq]
  after_results_simp
  simp only [val1_2_main_v72, val1_2_main_call5_v5, val1_2_main_arg0, val1_2_main_call5_v11, val1_2_main_v73] <;> rfl
/-- What `main_call7_v13` holds at this stage. -/
theorem val1_3_main_call7_v13 (V0 : Vals F) : val1_3 V0 (no_index (Proc.devRef .tc main_call7_v13)) = Host.gather gather_S4x100x4_S4x20000x1_S4x20000x4_2_1_0_0_1_2_114 (V0 (Proc.devRef .tc main_arg1)) (res_main_call7_v5 V0) := by
  unfold val1_3
  simp only [ops_part1_2, TRef.binary, TRef.nullary, TRef.ternary, TRef.unary, TRef.toBuf, TRef.ofBuf, cast_eq]
  after_results_simp
  simp only [val1_2_main_v61, val1_2_main_arg1] <;> rfl
/-- What `main_call7_v14` holds at this stage. -/
theorem val1_3_main_call7_v14 (V0 : Vals F) : val1_3 V0 (no_index (Proc.devRef .tc main_call7_v14)) = broadcastInDim S4x20000x4 ![0, 1] bcast_S4x20000_S4x20000x4_0_1 (Host.reduce IntOp.andi (andi (cmpi .sge (res_main_call7_v5 V0) (broadcastInDim S4x20000x1 ![] bcast_S_S4x20000x1 (constantI S_ 32 0#32))) (cmpi .sle (res_main_call7_v5 V0) (broadcastInDim S4x20000x1 ![0, 1, 2] bcast_S1x1x1_S4x20000x1_0_1_2 (broadcastInDim S1x1x1 ![2] bcast_S1_S1x1x1_2 (constantI S1 32 99#32))))) (constantI S_ 1 1#1) reducesTo_S4x20000x1_S4x20000_d2 h_S_) := by
  unfold val1_3
  simp only [ops_part1_2, TRef.binary, TRef.nullary, TRef.ternary, TRef.unary, TRef.toBuf, TRef.ofBuf, cast_eq]
  after_results_simp
  simp only [val1_2_main_v61] <;> rfl

/-- The device's buffer contents after @main's first 2 windows. -/
def val2 (V0 : Vals F) : Vals F := after ops_part1_3 (val1_3 V0)
/-- The buffers that window `ops_part1_3`'s operations write. -/
abbrev ops_part1_3_W : List (Ref sig .tc) := [main_call7_cst, main_call7_v15, main_v76, main_v77, main_v78, main_v79, main_v80, main_v81, main_cst_14, main_v82, main_v83, main_v84, main_v85, main_v86, main_v87, main_v88, main_cst_15, main_v89, main_v90, main_v91, main_v92, main_cst_16, main_v93, main_v94, main_v95, main_v96, main_v97, main_cst_17, main_v98, main_v99]
/-- The buffers these operations write are the listed ones. -/
theorem ops_part1_3_writes : (ops_part1_3 : List (HloOp τ sig (Elt F))).Forall fun op => op.writes ⊆ (ops_part1_3_W.map (Proc.devRef (τ := τ) .tc)).toFinset :=
  forall_writes_sub_of_map rfl
/-- A buffer that window `ops_part1_3` does not write keeps its contents through it. -/
theorem val2_keep (V0 : Vals F) (r : Ref sig .tc) (h : r ∉ ops_part1_3_W) :
    val2 V0 (Proc.devRef .tc r) = val1_3 V0 (Proc.devRef .tc r) :=
  after_of_writes_sub ops_part1_3 _ ops_part1_3_writes h
/-- What `main_arg0` holds at this stage. -/
theorem val2_main_arg0 (V0 : Vals F) : val2 V0 (no_index (Proc.devRef .tc main_arg0)) = V0 (Proc.devRef .tc main_arg0) :=
  (val2_keep V0 main_arg0 (by decide)).trans (val1_3_main_arg0 V0)
/-- What `main_arg1` holds at this stage. -/
theorem val2_main_arg1 (V0 : Vals F) : val2 V0 (no_index (Proc.devRef .tc main_arg1)) = V0 (Proc.devRef .tc main_arg1) :=
  (val2_keep V0 main_arg1 (by decide)).trans (val1_3_main_arg1 V0)
/-- What `main_arg2` holds at this stage. -/
theorem val2_main_arg2 (V0 : Vals F) : val2 V0 (no_index (Proc.devRef .tc main_arg2)) = V0 (Proc.devRef .tc main_arg2) :=
  (val2_keep V0 main_arg2 (by decide)).trans (val1_3_main_arg2 V0)
/-- What `main_arg3` holds at this stage. -/
theorem val2_main_arg3 (V0 : Vals F) : val2 V0 (no_index (Proc.devRef .tc main_arg3)) = V0 (Proc.devRef .tc main_arg3) :=
  (val2_keep V0 main_arg3 (by decide)).trans (val1_3_main_arg3 V0)
/-- What `main_arg4` holds at this stage. -/
theorem val2_main_arg4 (V0 : Vals F) : val2 V0 (no_index (Proc.devRef .tc main_arg4)) = V0 (Proc.devRef .tc main_arg4) :=
  (val2_keep V0 main_arg4 (by decide)).trans (val1_3_main_arg4 V0)
/-- What `main_cst` holds at this stage. -/
theorem val2_main_cst (V0 : Vals F) : val2 V0 (no_index (Proc.devRef .tc main_cst)) = constant S4 .f32 0x00000000#32 :=
  (val2_keep V0 main_cst (by decide)).trans (val1_3_main_cst V0)
/-- What `main_cst_0` holds at this stage. -/
theorem val2_main_cst_0 (V0 : Vals F) : val2 V0 (no_index (Proc.devRef .tc main_cst_0)) = constant S4 .f32 0x3F800000#32 :=
  (val2_keep V0 main_cst_0 (by decide)).trans (val1_3_main_cst_0 V0)
/-- What `main_v63` holds at this stage. -/
theorem val2_main_v63 (V0 : Vals F) : val2 V0 (no_index (Proc.devRef .tc main_v63)) = res_main_v63 V0 :=
  (val2_keep V0 main_v63 (by decide)).trans (val1_3_main_v63 V0)
/-- What `main_v68` holds at this stage. -/
theorem val2_main_v68 (V0 : Vals F) : val2 V0 (no_index (Proc.devRef .tc main_v68)) = res_main_v68 V0 :=
  (val2_keep V0 main_v68 (by decide)).trans (val1_3_main_v68 V0)
/-- What `main_v75` holds at this stage. -/
theorem val2_main_v75 (V0 : Vals F) : val2 V0 (no_index (Proc.devRef .tc main_v75)) = select (broadcastInDim S4x20000x80 ![0, 1, 2] bcast_S4x20000x1_S4x20000x80_0_1_2 (broadcastInDim S4x20000x1 ![0, 1] bcast_S4x20000_S4x20000x1_0_1 (res_main_v63 V0))) (select (broadcastInDim S4x20000x80 ![0, 1] bcast_S4x20000_S4x20000x80_0_1 (Host.reduce IntOp.andi (andi (cmpi .sge (res_main_call5_v5 V0) (broadcastInDim S4x20000x1 ![] bcast_S_S4x20000x1 (constantI S_ 32 0#32))) (cmpi .sle (res_main_call5_v5 V0) (broadcastInDim S4x20000x1 ![0, 1, 2] bcast_S1x1x1_S4x20000x1_0_1_2 (broadcastInDim S1x1x1 ![2] bcast_S1_S1x1x1_2 (constantI S1 32 99#32))))) (constantI S_ 1 1#1) reducesTo_S4x20000x1_S4x20000_d2 h_S_)) (Host.gather gather_S4x100x80_S4x20000x1_S4x20000x80_2_1_0_0_1_2_1180 (V0 (Proc.devRef .tc main_arg0)) (res_main_call5_v5 V0)) (broadcastInDim S4x20000x80 ![] bcast_S_S4x20000x80 (constant S_ .f32 0x7FC00000#32))) (broadcastInDim S4x20000x80 ![1, 2] bcast_S20000x80_S4x20000x80_1_2 (Host.scatter scatter_S20000x80_S1_S20000_0_1_1_0 (fun _ b => b) (broadcastInDim S20000x80 ![] bcast_S_S20000x80 (constant S_ .f32 0x00000000#32)) (broadcastInDim S1 ![] bcast_S_S1 (constantI S_ 32 0#32)) (broadcastInDim S20000 ![] bcast_S_S20000 (constant S_ .f32 0x3F800000#32)))) :=
  (val2_keep V0 main_v75 (by decide)).trans (val1_3_main_v75 V0)
/-- What `main_v76` holds at this stage. -/
theorem val2_main_v76 (V0 : Vals F) : val2 V0 (no_index (Proc.devRef .tc main_v76)) = res_main_v76 V0 := by
  unfold val2
  simp only [ops_part1_3, TRef.nullary, TRef.ternary, TRef.unary, TRef.toBuf, TRef.ofBuf, cast_eq]
  after_results_simp
  simp only [val1_3_main_call7_v13, val1_3_main_call7_v14] <;> rfl
/-- What `main_v83` holds at this stage. -/
theorem val2_main_v83 (V0 : Vals F) : val2 V0 (no_index (Proc.devRef .tc main_v83)) = res_main_v83 V0 := by
  unfold val2
  simp only [ops_part1_3, TRef.nullary, TRef.ternary, TRef.unary, TRef.toBuf, TRef.ofBuf, cast_eq]
  after_results_simp
  simp only [val1_3_main_arg4] <;> rfl
/-- What `main_v90` holds at this stage. -/
theorem val2_main_v90 (V0 : Vals F) : val2 V0 (no_index (Proc.devRef .tc main_v90)) = res_main_v90 V0 := by
  unfold val2
  simp only [ops_part1_3, TRef.nullary, TRef.ternary, TRef.unary, TRef.toBuf, TRef.ofBuf, cast_eq]
  after_results_simp
  simp only [val1_3_main_arg4] <;> rfl
/-- What `main_v95` holds at this stage. -/
theorem val2_main_v95 (V0 : Vals F) : val2 V0 (no_index (Proc.devRef .tc main_v95)) = addf (shapeCast _ (extractStridedSlice S20000x1 ![0, 0] (V0 (Proc.devRef .tc main_arg4)) slices_S20000x4_S20000x1_0_0) shapeCasts_S20000x1_S20000) (mulf (broadcastInDim S20000 ![] bcast_S_S20000 (constant S_ .f32 0x3F000000#32)) (res_main_v83 V0)) := by
  unfold val2
  simp only [ops_part1_3, TRef.nullary, TRef.ternary, TRef.unary, TRef.toBuf, TRef.ofBuf, cast_eq]
  after_results_simp
  simp only [val1_3_main_arg4] <;> rfl
/-- What `main_v97` holds at this stage. -/
theorem val2_main_v97 (V0 : Vals F) : val2 V0 (no_index (Proc.devRef .tc main_v97)) = shapeCast _ (extractStridedSlice S20000x1 ![0, 1] (V0 (Proc.devRef .tc main_arg4)) slices_S20000x4_S20000x1_0_1) shapeCasts_S20000x1_S20000 := by
  unfold val2
  simp only [ops_part1_3, TRef.nullary, TRef.ternary, TRef.unary, TRef.toBuf, TRef.ofBuf, cast_eq]
  after_results_simp
  simp only [val1_3_main_arg4] <;> rfl
/-- What `main_v99` holds at this stage. -/
theorem val2_main_v99 (V0 : Vals F) : val2 V0 (no_index (Proc.devRef .tc main_v99)) = mulf (broadcastInDim S20000 ![] bcast_S_S20000 (constant S_ .f32 0x3F000000#32)) (res_main_v90 V0) := by
  unfold val2
  simp only [ops_part1_3, TRef.nullary, TRef.ternary, TRef.unary, TRef.toBuf, TRef.ofBuf, cast_eq]
  after_results_simp
  simp only [val1_3_main_arg4] <;> rfl

/-- The device's buffer contents after @main's first 3 windows. -/
def val3 (V0 : Vals F) : Vals F := after ops_part2 (val2 V0)
/-- The buffers that window `main_part2`'s operations write. -/
abbrev ops_part2_W : List (Ref sig .tc) := [main_v100, main_v101, main_v102, main_v103, main_v104, main_v105, main_cst_18, main_v106, main_v107, main_v108, main_v109, main_v110, main_v111, main_v112, main_cst_19, main_v113, main_v114, main_v115, main_v116, main_cst_20, main_v117, main_v118, main_v119, main_v120, main_v121, main_cst_21, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155]
/-- The buffers these operations write are the listed ones. -/
theorem ops_part2_writes : (ops_part2 : List (HloOp τ sig (Elt F))).Forall fun op => op.writes ⊆ (ops_part2_W.map (Proc.devRef (τ := τ) .tc)).toFinset :=
  forall_writes_sub_of_map rfl
/-- A buffer that window `main_part2` does not write keeps its contents through it. -/
theorem val3_keep (V0 : Vals F) (r : Ref sig .tc) (h : r ∉ ops_part2_W) :
    val3 V0 (Proc.devRef .tc r) = val2 V0 (Proc.devRef .tc r) :=
  after_of_writes_sub ops_part2 _ ops_part2_writes h
/-- What `main_arg0` holds at this stage. -/
theorem val3_main_arg0 (V0 : Vals F) : val3 V0 (no_index (Proc.devRef .tc main_arg0)) = V0 (Proc.devRef .tc main_arg0) :=
  (val3_keep V0 main_arg0 (by decide)).trans (val2_main_arg0 V0)
/-- What `main_arg1` holds at this stage. -/
theorem val3_main_arg1 (V0 : Vals F) : val3 V0 (no_index (Proc.devRef .tc main_arg1)) = V0 (Proc.devRef .tc main_arg1) :=
  (val3_keep V0 main_arg1 (by decide)).trans (val2_main_arg1 V0)
/-- What `main_arg2` holds at this stage. -/
theorem val3_main_arg2 (V0 : Vals F) : val3 V0 (no_index (Proc.devRef .tc main_arg2)) = V0 (Proc.devRef .tc main_arg2) :=
  (val3_keep V0 main_arg2 (by decide)).trans (val2_main_arg2 V0)
/-- What `main_arg3` holds at this stage. -/
theorem val3_main_arg3 (V0 : Vals F) : val3 V0 (no_index (Proc.devRef .tc main_arg3)) = V0 (Proc.devRef .tc main_arg3) :=
  (val3_keep V0 main_arg3 (by decide)).trans (val2_main_arg3 V0)
/-- What `main_arg4` holds at this stage. -/
theorem val3_main_arg4 (V0 : Vals F) : val3 V0 (no_index (Proc.devRef .tc main_arg4)) = V0 (Proc.devRef .tc main_arg4) :=
  (val3_keep V0 main_arg4 (by decide)).trans (val2_main_arg4 V0)
/-- What `main_v63` holds at this stage. -/
theorem val3_main_v63 (V0 : Vals F) : val3 V0 (no_index (Proc.devRef .tc main_v63)) = res_main_v63 V0 :=
  (val3_keep V0 main_v63 (by decide)).trans (val2_main_v63 V0)
/-- What `main_v68` holds at this stage. -/
theorem val3_main_v68 (V0 : Vals F) : val3 V0 (no_index (Proc.devRef .tc main_v68)) = res_main_v68 V0 :=
  (val3_keep V0 main_v68 (by decide)).trans (val2_main_v68 V0)
/-- What `main_v75` holds at this stage. -/
theorem val3_main_v75 (V0 : Vals F) : val3 V0 (no_index (Proc.devRef .tc main_v75)) = select (broadcastInDim S4x20000x80 ![0, 1, 2] bcast_S4x20000x1_S4x20000x80_0_1_2 (broadcastInDim S4x20000x1 ![0, 1] bcast_S4x20000_S4x20000x1_0_1 (res_main_v63 V0))) (select (broadcastInDim S4x20000x80 ![0, 1] bcast_S4x20000_S4x20000x80_0_1 (Host.reduce IntOp.andi (andi (cmpi .sge (res_main_call5_v5 V0) (broadcastInDim S4x20000x1 ![] bcast_S_S4x20000x1 (constantI S_ 32 0#32))) (cmpi .sle (res_main_call5_v5 V0) (broadcastInDim S4x20000x1 ![0, 1, 2] bcast_S1x1x1_S4x20000x1_0_1_2 (broadcastInDim S1x1x1 ![2] bcast_S1_S1x1x1_2 (constantI S1 32 99#32))))) (constantI S_ 1 1#1) reducesTo_S4x20000x1_S4x20000_d2 h_S_)) (Host.gather gather_S4x100x80_S4x20000x1_S4x20000x80_2_1_0_0_1_2_1180 (V0 (Proc.devRef .tc main_arg0)) (res_main_call5_v5 V0)) (broadcastInDim S4x20000x80 ![] bcast_S_S4x20000x80 (constant S_ .f32 0x7FC00000#32))) (broadcastInDim S4x20000x80 ![1, 2] bcast_S20000x80_S4x20000x80_1_2 (Host.scatter scatter_S20000x80_S1_S20000_0_1_1_0 (fun _ b => b) (broadcastInDim S20000x80 ![] bcast_S_S20000x80 (constant S_ .f32 0x00000000#32)) (broadcastInDim S1 ![] bcast_S_S1 (constantI S_ 32 0#32)) (broadcastInDim S20000 ![] bcast_S_S20000 (constant S_ .f32 0x3F800000#32)))) :=
  (val3_keep V0 main_v75 (by decide)).trans (val2_main_v75 V0)
/-- What `main_v153` holds at this stage. -/
theorem val3_main_v153 (V0 : Vals F) : val3 V0 (no_index (Proc.devRef .tc main_v153)) = subf ((concatenate S4x20000x4 2 [⟨S4x20000x1, ((broadcastInDim S4x20000x1 ![0, 1] bcast_S4x20000_S4x20000x1_0_1 (Host.divf (subf (addf (shapeCast _ (extractStridedSlice S4x20000x1 ![0, 0, 0] (res_main_v76 V0) slices_S4x20000x4_S4x20000x1_0_0_0) shapeCasts_S4x20000x1_S4x20000) (mulf (broadcastInDim S4x20000 ![] bcast_S_S4x20000 (constant S_ .f32 0x3F000000#32)) (res_main_v107 V0))) (broadcastInDim S4x20000 ![0, 1] bcast_S1x20000_S4x20000_0_1 (broadcastInDim S1x20000 ![1] bcast_S20000_S1x20000_1 (addf (shapeCast _ (extractStridedSlice S20000x1 ![0, 0] (V0 (Proc.devRef .tc main_arg4)) slices_S20000x4_S20000x1_0_0) shapeCasts_S20000x1_S20000) (mulf (broadcastInDim S20000 ![] bcast_S_S20000 (constant S_ .f32 0x3F000000#32)) (res_main_v83 V0)))))) (broadcastInDim S4x20000 ![0, 1] bcast_S1x20000_S4x20000_0_1 (broadcastInDim S1x20000 ![1] bcast_S20000_S1x20000_1 (res_main_v83 V0))))) : (⟨S4x20000x1, .f32⟩ : BufTy).Contents (Elt F))⟩, ⟨S4x20000x1, ((broadcastInDim S4x20000x1 ![0, 1] bcast_S4x20000_S4x20000x1_0_1 (Host.divf (subf (addf (shapeCast _ (extractStridedSlice S4x20000x1 ![0, 0, 1] (res_main_v76 V0) slices_S4x20000x4_S4x20000x1_0_0_1) shapeCasts_S4x20000x1_S4x20000) (mulf (broadcastInDim S4x20000 ![] bcast_S_S4x20000 (constant S_ .f32 0x3F000000#32)) (res_main_v114 V0))) (broadcastInDim S4x20000 ![0, 1] bcast_S1x20000_S4x20000_0_1 (broadcastInDim S1x20000 ![1] bcast_S20000_S1x20000_1 (addf (shapeCast _ (extractStridedSlice S20000x1 ![0, 1] (V0 (Proc.devRef .tc main_arg4)) slices_S20000x4_S20000x1_0_1) shapeCasts_S20000x1_S20000) (mulf (broadcastInDim S20000 ![] bcast_S_S20000 (constant S_ .f32 0x3F000000#32)) (res_main_v90 V0)))))) (broadcastInDim S4x20000 ![0, 1] bcast_S1x20000_S4x20000_0_1 (broadcastInDim S1x20000 ![1] bcast_S20000_S1x20000_1 (res_main_v90 V0))))) : (⟨S4x20000x1, .f32⟩ : BufTy).Contents (Elt F))⟩, ⟨S4x20000x1, ((broadcastInDim S4x20000x1 ![0, 1] bcast_S4x20000_S4x20000x1_0_1 (Host.log (Host.divf (res_main_v107 V0) (broadcastInDim S4x20000 ![0, 1] bcast_S1x20000_S4x20000_0_1 (broadcastInDim S1x20000 ![1] bcast_S20000_S1x20000_1 (res_main_v83 V0)))))) : (⟨S4x20000x1, .f32⟩ : BufTy).Contents (Elt F))⟩, ⟨S4x20000x1, ((broadcastInDim S4x20000x1 ![0, 1] bcast_S4x20000_S4x20000x1_0_1 (Host.log (Host.divf (res_main_v114 V0) (broadcastInDim S4x20000 ![0, 1] bcast_S1x20000_S4x20000_0_1 (broadcastInDim S1x20000 ![1] bcast_S20000_S1x20000_1 (res_main_v90 V0)))))) : (⟨S4x20000x1, .f32⟩ : BufTy).Contents (Elt F))⟩] concatenates_S4x20000x1_S4x20000x1_S4x20000x1_S4x20000x1_S4x20000x4_d2 : (⟨S4x20000x4, .f32⟩ : BufTy).Contents (Elt F))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x00000000#32)))) := by
  unfold val3
  simp only [ops_part2]
  after_results_simp
  try dsimp only [Matrix.cons_val]
  try after_results_simp
  simp only [val2_main_cst, val2_main_v90, val2_main_v76, val2_main_v83, val2_main_v99, val2_main_v97, val2_main_v95] <;> rfl
/-- What `main_v155` holds at this stage. -/
theorem val3_main_v155 (V0 : Vals F) : val3 V0 (no_index (Proc.devRef .tc main_v155)) = broadcastInDim S1x1x4 ![1, 2] bcast_S1x4_S1x1x4_1_2 (broadcastInDim S1x4 ![1] bcast_S4_S1x4_1 (constant S4 .f32 0x3F800000#32)) := by
  unfold val3
  simp only [ops_part2]
  after_results_simp
  try dsimp only [Matrix.cons_val]
  try after_results_simp
  simp only [val2_main_cst_0] <;> rfl

/-- The device's buffer contents after @main's first 272 operations. -/
def val3_1 (V0 : Vals F) : Vals F := after ops_part3_0 (val3 V0)
/-- The buffers that window `ops_part3_0`'s operations write. -/
abbrev ops_part3_0_W : List (Ref sig .tc) := [main_v156, main_v157, main_v158, main_cst_22, main_call8_v0, main_call8_v1, main_call8_v2, main_call8_v3, main_v159, main_c_23, main_v160, main_v161, main_v162, main_v163, main_c_24, main_v164, main_v165, main_v166, main_v167, main_v168, main_cst_25, main_v169, main_cst_26, main_v170, main_v171, main_cst_27, main_v172, main_v173, main_v174, main_cst_28]
/-- The buffers these operations write are the listed ones. -/
theorem ops_part3_0_writes : (ops_part3_0 : List (HloOp τ sig (Elt F))).Forall fun op => op.writes ⊆ (ops_part3_0_W.map (Proc.devRef (τ := τ) .tc)).toFinset :=
  forall_writes_sub_of_map rfl
/-- A buffer that window `ops_part3_0` does not write keeps its contents through it. -/
theorem val3_1_keep (V0 : Vals F) (r : Ref sig .tc) (h : r ∉ ops_part3_0_W) :
    val3_1 V0 (Proc.devRef .tc r) = val3 V0 (Proc.devRef .tc r) :=
  after_of_writes_sub ops_part3_0 _ ops_part3_0_writes h
/-- What `main_arg0` holds at this stage. -/
theorem val3_1_main_arg0 (V0 : Vals F) : val3_1 V0 (no_index (Proc.devRef .tc main_arg0)) = V0 (Proc.devRef .tc main_arg0) :=
  (val3_1_keep V0 main_arg0 (by decide)).trans (val3_main_arg0 V0)
/-- What `main_arg1` holds at this stage. -/
theorem val3_1_main_arg1 (V0 : Vals F) : val3_1 V0 (no_index (Proc.devRef .tc main_arg1)) = V0 (Proc.devRef .tc main_arg1) :=
  (val3_1_keep V0 main_arg1 (by decide)).trans (val3_main_arg1 V0)
/-- What `main_arg2` holds at this stage. -/
theorem val3_1_main_arg2 (V0 : Vals F) : val3_1 V0 (no_index (Proc.devRef .tc main_arg2)) = V0 (Proc.devRef .tc main_arg2) :=
  (val3_1_keep V0 main_arg2 (by decide)).trans (val3_main_arg2 V0)
/-- What `main_arg3` holds at this stage. -/
theorem val3_1_main_arg3 (V0 : Vals F) : val3_1 V0 (no_index (Proc.devRef .tc main_arg3)) = V0 (Proc.devRef .tc main_arg3) :=
  (val3_1_keep V0 main_arg3 (by decide)).trans (val3_main_arg3 V0)
/-- What `main_arg4` holds at this stage. -/
theorem val3_1_main_arg4 (V0 : Vals F) : val3_1 V0 (no_index (Proc.devRef .tc main_arg4)) = V0 (Proc.devRef .tc main_arg4) :=
  (val3_1_keep V0 main_arg4 (by decide)).trans (val3_main_arg4 V0)
/-- What `main_v159` holds at this stage. -/
theorem val3_1_main_v159 (V0 : Vals F) : val3_1 V0 (no_index (Proc.devRef .tc main_v159)) = select (broadcastInDim S4x20000x4 ![0, 1, 2] bcast_S4x20000x1_S4x20000x4_0_1_2 (broadcastInDim S4x20000x1 ![0, 1] bcast_S4x20000_S4x20000x1_0_1 (res_main_v63 V0))) (Host.divf (subf ((concatenate S4x20000x4 2 [⟨S4x20000x1, ((broadcastInDim S4x20000x1 ![0, 1] bcast_S4x20000_S4x20000x1_0_1 (Host.divf (subf (addf (shapeCast _ (extractStridedSlice S4x20000x1 ![0, 0, 0] (res_main_v76 V0) slices_S4x20000x4_S4x20000x1_0_0_0) shapeCasts_S4x20000x1_S4x20000) (mulf (broadcastInDim S4x20000 ![] bcast_S_S4x20000 (constant S_ .f32 0x3F000000#32)) (res_main_v107 V0))) (broadcastInDim S4x20000 ![0, 1] bcast_S1x20000_S4x20000_0_1 (broadcastInDim S1x20000 ![1] bcast_S20000_S1x20000_1 (addf (shapeCast _ (extractStridedSlice S20000x1 ![0, 0] (V0 (Proc.devRef .tc main_arg4)) slices_S20000x4_S20000x1_0_0) shapeCasts_S20000x1_S20000) (mulf (broadcastInDim S20000 ![] bcast_S_S20000 (constant S_ .f32 0x3F000000#32)) (res_main_v83 V0)))))) (broadcastInDim S4x20000 ![0, 1] bcast_S1x20000_S4x20000_0_1 (broadcastInDim S1x20000 ![1] bcast_S20000_S1x20000_1 (res_main_v83 V0))))) : (⟨S4x20000x1, .f32⟩ : BufTy).Contents (Elt F))⟩, ⟨S4x20000x1, ((broadcastInDim S4x20000x1 ![0, 1] bcast_S4x20000_S4x20000x1_0_1 (Host.divf (subf (addf (shapeCast _ (extractStridedSlice S4x20000x1 ![0, 0, 1] (res_main_v76 V0) slices_S4x20000x4_S4x20000x1_0_0_1) shapeCasts_S4x20000x1_S4x20000) (mulf (broadcastInDim S4x20000 ![] bcast_S_S4x20000 (constant S_ .f32 0x3F000000#32)) (res_main_v114 V0))) (broadcastInDim S4x20000 ![0, 1] bcast_S1x20000_S4x20000_0_1 (broadcastInDim S1x20000 ![1] bcast_S20000_S1x20000_1 (addf (shapeCast _ (extractStridedSlice S20000x1 ![0, 1] (V0 (Proc.devRef .tc main_arg4)) slices_S20000x4_S20000x1_0_1) shapeCasts_S20000x1_S20000) (mulf (broadcastInDim S20000 ![] bcast_S_S20000 (constant S_ .f32 0x3F000000#32)) (res_main_v90 V0)))))) (broadcastInDim S4x20000 ![0, 1] bcast_S1x20000_S4x20000_0_1 (broadcastInDim S1x20000 ![1] bcast_S20000_S1x20000_1 (res_main_v90 V0))))) : (⟨S4x20000x1, .f32⟩ : BufTy).Contents (Elt F))⟩, ⟨S4x20000x1, ((broadcastInDim S4x20000x1 ![0, 1] bcast_S4x20000_S4x20000x1_0_1 (Host.log (Host.divf (res_main_v107 V0) (broadcastInDim S4x20000 ![0, 1] bcast_S1x20000_S4x20000_0_1 (broadcastInDim S1x20000 ![1] bcast_S20000_S1x20000_1 (res_main_v83 V0)))))) : (⟨S4x20000x1, .f32⟩ : BufTy).Contents (Elt F))⟩, ⟨S4x20000x1, ((broadcastInDim S4x20000x1 ![0, 1] bcast_S4x20000_S4x20000x1_0_1 (Host.log (Host.divf (res_main_v114 V0) (broadcastInDim S4x20000 ![0, 1] bcast_S1x20000_S4x20000_0_1 (broadcastInDim S1x20000 ![1] bcast_S20000_S1x20000_1 (res_main_v90 V0)))))) : (⟨S4x20000x1, .f32⟩ : BufTy).Contents (Elt F))⟩] concatenates_S4x20000x1_S4x20000x1_S4x20000x1_S4x20000x1_S4x20000x4_d2 : (⟨S4x20000x4, .f32⟩ : BufTy).Contents (Elt F))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x00000000#32))))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x3F800000#32))))) (broadcastInDim S4x20000x4 ![1, 2] bcast_S20000x4_S4x20000x4_1_2 (broadcastInDim S20000x4 ![] bcast_S_S20000x4 (id (constant S_ .f32 0x00000000#32)))) := by
  unfold val3_1
  simp only [ops_part3_0, TRef.ternary, TRef.unary, TRef.toBuf, TRef.ofBuf, cast_eq]
  after_results_simp
  simp only [val3_main_v155, val3_main_v153, val3_main_v63] <;> rfl
/-- What `main_v163` holds at this stage. -/
theorem val3_1_main_v163 (V0 : Vals F) : val3_1 V0 (no_index (Proc.devRef .tc main_v163)) = res_main_v163 V0 := by
  unfold val3_1
  simp only [ops_part3_0, TRef.ternary, TRef.unary, TRef.toBuf, TRef.ofBuf, cast_eq]
  after_results_simp
  simp only [val3_main_v68] <;> rfl
/-- What `main_v167` holds at this stage. -/
theorem val3_1_main_v167 (V0 : Vals F) : val3_1 V0 (no_index (Proc.devRef .tc main_v167)) = broadcastInDim S4x20000x1 ![0, 1] bcast_S4x20000_S4x20000x1_0_1 (uitofp .f32 (cmpi .ne (res_main_v68 V0) (broadcastInDim S4x20000 ![] bcast_S_S4x20000 (constantI S_ 32 0#32)))) := by
  unfold val3_1
  simp only [ops_part3_0, TRef.ternary, TRef.unary, TRef.toBuf, TRef.ofBuf, cast_eq]
  after_results_simp
  simp only [val3_main_v68] <;> rfl
/-- What `main_v172` holds at this stage. -/
theorem val3_1_main_v172 (V0 : Vals F) : val3_1 V0 (no_index (Proc.devRef .tc main_v172)) = res_main_v172 V0 := by
  unfold val3_1
  simp only [ops_part3_0, TRef.ternary, TRef.unary, TRef.toBuf, TRef.ofBuf, cast_eq]
  after_results_simp
  simp only [val3_main_v68] <;> rfl
/-- What `main_v174` holds at this stage. -/
theorem val3_1_main_v174 (V0 : Vals F) : val3_1 V0 (no_index (Proc.devRef .tc main_v174)) = res_main_v174 V0 := by
  unfold val3_1
  simp only [ops_part3_0, TRef.ternary, TRef.unary, TRef.toBuf, TRef.ofBuf, cast_eq]
  after_results_simp
  simp only [val3_main_v68, val3_main_v75] <;> rfl
/-- What `main_cst_28` holds at this stage. -/
theorem val3_1_main_cst_28 (V0 : Vals F) : val3_1 V0 (no_index (Proc.devRef .tc main_cst_28)) = constant S_ .f32 0x00000000#32 := by
  unfold val3_1
  simp only [ops_part3_0, TRef.ternary, TRef.unary, TRef.toBuf, TRef.ofBuf, cast_eq]
  after_results_simp
  all_goals rfl

/-- The device's buffer contents after @main's first 302 operations. -/
def val3_2 (V0 : Vals F) : Vals F := after ops_part3_1 (val3_1 V0)
/-- The buffers that window `ops_part3_1`'s operations write. -/
abbrev ops_part3_1_W : List (Ref sig .tc) := [main_v175, main_v176, main_v177, main_v178, main_v179, main_v180, main_v181, main_v182, main_v183, main_v184, main_v185, main_cst_29, main_v186, main_v187, main_cst_30, main_v188, main_v189, main_v190, main_cst_31, main_v191, main_v192, main_cst_32, main_v193, main_v194, main_v195, main_v196, main_cst_33, main_v197, main_v198, main_cst_34]
/-- The buffers these operations write are the listed ones. -/
theorem ops_part3_1_writes : (ops_part3_1 : List (HloOp τ sig (Elt F))).Forall fun op => op.writes ⊆ (ops_part3_1_W.map (Proc.devRef (τ := τ) .tc)).toFinset :=
  forall_writes_sub_of_map rfl
/-- A buffer that window `ops_part3_1` does not write keeps its contents through it. -/
theorem val3_2_keep (V0 : Vals F) (r : Ref sig .tc) (h : r ∉ ops_part3_1_W) :
    val3_2 V0 (Proc.devRef .tc r) = val3_1 V0 (Proc.devRef .tc r) :=
  after_of_writes_sub ops_part3_1 _ ops_part3_1_writes h
/-- What `main_arg0` holds at this stage. -/
theorem val3_2_main_arg0 (V0 : Vals F) : val3_2 V0 (no_index (Proc.devRef .tc main_arg0)) = V0 (Proc.devRef .tc main_arg0) :=
  (val3_2_keep V0 main_arg0 (by decide)).trans (val3_1_main_arg0 V0)
/-- What `main_arg1` holds at this stage. -/
theorem val3_2_main_arg1 (V0 : Vals F) : val3_2 V0 (no_index (Proc.devRef .tc main_arg1)) = V0 (Proc.devRef .tc main_arg1) :=
  (val3_2_keep V0 main_arg1 (by decide)).trans (val3_1_main_arg1 V0)
/-- What `main_arg2` holds at this stage. -/
theorem val3_2_main_arg2 (V0 : Vals F) : val3_2 V0 (no_index (Proc.devRef .tc main_arg2)) = V0 (Proc.devRef .tc main_arg2) :=
  (val3_2_keep V0 main_arg2 (by decide)).trans (val3_1_main_arg2 V0)
/-- What `main_arg3` holds at this stage. -/
theorem val3_2_main_arg3 (V0 : Vals F) : val3_2 V0 (no_index (Proc.devRef .tc main_arg3)) = V0 (Proc.devRef .tc main_arg3) :=
  (val3_2_keep V0 main_arg3 (by decide)).trans (val3_1_main_arg3 V0)
/-- What `main_arg4` holds at this stage. -/
theorem val3_2_main_arg4 (V0 : Vals F) : val3_2 V0 (no_index (Proc.devRef .tc main_arg4)) = V0 (Proc.devRef .tc main_arg4) :=
  (val3_2_keep V0 main_arg4 (by decide)).trans (val3_1_main_arg4 V0)
/-- What `main_v159` holds at this stage. -/
theorem val3_2_main_v159 (V0 : Vals F) : val3_2 V0 (no_index (Proc.devRef .tc main_v159)) = select (broadcastInDim S4x20000x4 ![0, 1, 2] bcast_S4x20000x1_S4x20000x4_0_1_2 (broadcastInDim S4x20000x1 ![0, 1] bcast_S4x20000_S4x20000x1_0_1 (res_main_v63 V0))) (Host.divf (subf ((concatenate S4x20000x4 2 [⟨S4x20000x1, ((broadcastInDim S4x20000x1 ![0, 1] bcast_S4x20000_S4x20000x1_0_1 (Host.divf (subf (addf (shapeCast _ (extractStridedSlice S4x20000x1 ![0, 0, 0] (res_main_v76 V0) slices_S4x20000x4_S4x20000x1_0_0_0) shapeCasts_S4x20000x1_S4x20000) (mulf (broadcastInDim S4x20000 ![] bcast_S_S4x20000 (constant S_ .f32 0x3F000000#32)) (res_main_v107 V0))) (broadcastInDim S4x20000 ![0, 1] bcast_S1x20000_S4x20000_0_1 (broadcastInDim S1x20000 ![1] bcast_S20000_S1x20000_1 (addf (shapeCast _ (extractStridedSlice S20000x1 ![0, 0] (V0 (Proc.devRef .tc main_arg4)) slices_S20000x4_S20000x1_0_0) shapeCasts_S20000x1_S20000) (mulf (broadcastInDim S20000 ![] bcast_S_S20000 (constant S_ .f32 0x3F000000#32)) (res_main_v83 V0)))))) (broadcastInDim S4x20000 ![0, 1] bcast_S1x20000_S4x20000_0_1 (broadcastInDim S1x20000 ![1] bcast_S20000_S1x20000_1 (res_main_v83 V0))))) : (⟨S4x20000x1, .f32⟩ : BufTy).Contents (Elt F))⟩, ⟨S4x20000x1, ((broadcastInDim S4x20000x1 ![0, 1] bcast_S4x20000_S4x20000x1_0_1 (Host.divf (subf (addf (shapeCast _ (extractStridedSlice S4x20000x1 ![0, 0, 1] (res_main_v76 V0) slices_S4x20000x4_S4x20000x1_0_0_1) shapeCasts_S4x20000x1_S4x20000) (mulf (broadcastInDim S4x20000 ![] bcast_S_S4x20000 (constant S_ .f32 0x3F000000#32)) (res_main_v114 V0))) (broadcastInDim S4x20000 ![0, 1] bcast_S1x20000_S4x20000_0_1 (broadcastInDim S1x20000 ![1] bcast_S20000_S1x20000_1 (addf (shapeCast _ (extractStridedSlice S20000x1 ![0, 1] (V0 (Proc.devRef .tc main_arg4)) slices_S20000x4_S20000x1_0_1) shapeCasts_S20000x1_S20000) (mulf (broadcastInDim S20000 ![] bcast_S_S20000 (constant S_ .f32 0x3F000000#32)) (res_main_v90 V0)))))) (broadcastInDim S4x20000 ![0, 1] bcast_S1x20000_S4x20000_0_1 (broadcastInDim S1x20000 ![1] bcast_S20000_S1x20000_1 (res_main_v90 V0))))) : (⟨S4x20000x1, .f32⟩ : BufTy).Contents (Elt F))⟩, ⟨S4x20000x1, ((broadcastInDim S4x20000x1 ![0, 1] bcast_S4x20000_S4x20000x1_0_1 (Host.log (Host.divf (res_main_v107 V0) (broadcastInDim S4x20000 ![0, 1] bcast_S1x20000_S4x20000_0_1 (broadcastInDim S1x20000 ![1] bcast_S20000_S1x20000_1 (res_main_v83 V0)))))) : (⟨S4x20000x1, .f32⟩ : BufTy).Contents (Elt F))⟩, ⟨S4x20000x1, ((broadcastInDim S4x20000x1 ![0, 1] bcast_S4x20000_S4x20000x1_0_1 (Host.log (Host.divf (res_main_v114 V0) (broadcastInDim S4x20000 ![0, 1] bcast_S1x20000_S4x20000_0_1 (broadcastInDim S1x20000 ![1] bcast_S20000_S1x20000_1 (res_main_v90 V0)))))) : (⟨S4x20000x1, .f32⟩ : BufTy).Contents (Elt F))⟩] concatenates_S4x20000x1_S4x20000x1_S4x20000x1_S4x20000x1_S4x20000x4_d2 : (⟨S4x20000x4, .f32⟩ : BufTy).Contents (Elt F))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x00000000#32))))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x3F800000#32))))) (broadcastInDim S4x20000x4 ![1, 2] bcast_S20000x4_S4x20000x4_1_2 (broadcastInDim S20000x4 ![] bcast_S_S20000x4 (id (constant S_ .f32 0x00000000#32)))) :=
  (val3_2_keep V0 main_v159 (by decide)).trans (val3_1_main_v159 V0)
/-- What `main_v163` holds at this stage. -/
theorem val3_2_main_v163 (V0 : Vals F) : val3_2 V0 (no_index (Proc.devRef .tc main_v163)) = res_main_v163 V0 :=
  (val3_2_keep V0 main_v163 (by decide)).trans (val3_1_main_v163 V0)
/-- What `main_v167` holds at this stage. -/
theorem val3_2_main_v167 (V0 : Vals F) : val3_2 V0 (no_index (Proc.devRef .tc main_v167)) = broadcastInDim S4x20000x1 ![0, 1] bcast_S4x20000_S4x20000x1_0_1 (uitofp .f32 (cmpi .ne (res_main_v68 V0) (broadcastInDim S4x20000 ![] bcast_S_S4x20000 (constantI S_ 32 0#32)))) :=
  (val3_2_keep V0 main_v167 (by decide)).trans (val3_1_main_v167 V0)
/-- What `main_v172` holds at this stage. -/
theorem val3_2_main_v172 (V0 : Vals F) : val3_2 V0 (no_index (Proc.devRef .tc main_v172)) = res_main_v172 V0 :=
  (val3_2_keep V0 main_v172 (by decide)).trans (val3_1_main_v172 V0)
/-- What `main_v174` holds at this stage. -/
theorem val3_2_main_v174 (V0 : Vals F) : val3_2 V0 (no_index (Proc.devRef .tc main_v174)) = res_main_v174 V0 :=
  (val3_2_keep V0 main_v174 (by decide)).trans (val3_1_main_v174 V0)
/-- What `main_v183` holds at this stage. -/
theorem val3_2_main_v183 (V0 : Vals F) : val3_2 V0 (no_index (Proc.devRef .tc main_v183)) = addf (subf (maximumf (V0 (Proc.devRef .tc main_arg2)) (broadcastInDim S4x20000x80 ![] bcast_S_S4x20000x80 (constant S_ .f32 0x00000000#32))) (mulf (V0 (Proc.devRef .tc main_arg2)) (res_main_v174 V0))) (Host.log1p (Host.exp (Host.negf (Host.absf (V0 (Proc.devRef .tc main_arg2)))))) := by
  unfold val3_2
  simp only [ops_part3_1]
  after_results_simp
  simp only [val3_1_main_arg2, val3_1_main_v174, val3_1_main_cst_28] <;> rfl
/-- What `main_v196` holds at this stage. -/
theorem val3_2_main_v196 (V0 : Vals F) : val3_2 V0 (no_index (Proc.devRef .tc main_v196)) = addf (mulf (res_main_v189 V0) (res_main_v174 V0)) (mulf (subf (broadcastInDim S4x20000x80 ![] bcast_S_S4x20000x80 (constant S_ .f32 0x3F800000#32)) (res_main_v189 V0)) (subf (broadcastInDim S4x20000x80 ![] bcast_S_S4x20000x80 (constant S_ .f32 0x3F800000#32)) (res_main_v174 V0))) := by
  unfold val3_2
  simp only [ops_part3_1]
  after_results_simp
  simp only [val3_1_main_v174, val3_1_main_arg2] <;> rfl
/-- What `main_v198` holds at this stage. -/
theorem val3_2_main_v198 (V0 : Vals F) : val3_2 V0 (no_index (Proc.devRef .tc main_v198)) = mulf (broadcastInDim S4x20000x80 ![] bcast_S_S4x20000x80 (constant S_ .f32 0x3E800000#32)) (res_main_v174 V0) := by
  unfold val3_2
  simp only [ops_part3_1]
  after_results_simp
  simp only [val3_1_main_v174] <;> rfl
/-- What `main_cst_34` holds at this stage. -/
theorem val3_2_main_cst_34 (V0 : Vals F) : val3_2 V0 (no_index (Proc.devRef .tc main_cst_34)) = constant S_ .f32 0x3F800000#32 := by
  unfold val3_2
  simp only [ops_part3_1]
  after_results_simp
  all_goals rfl

/-- The device's buffer contents after @main's first 4 windows. -/
def val4 (V0 : Vals F) : Vals F := after ops_part3_2 (val3_2 V0)
/-- The buffers that window `ops_part3_2`'s operations write. -/
abbrev ops_part3_2_W : List (Ref sig .tc) := [main_v199, main_v200, main_cst_35, main_v201]
/-- The buffers these operations write are the listed ones. -/
theorem ops_part3_2_writes : (ops_part3_2 : List (HloOp τ sig (Elt F))).Forall fun op => op.writes ⊆ (ops_part3_2_W.map (Proc.devRef (τ := τ) .tc)).toFinset :=
  forall_writes_sub_of_map rfl
/-- A buffer that window `ops_part3_2` does not write keeps its contents through it. -/
theorem val4_keep (V0 : Vals F) (r : Ref sig .tc) (h : r ∉ ops_part3_2_W) :
    val4 V0 (Proc.devRef .tc r) = val3_2 V0 (Proc.devRef .tc r) :=
  after_of_writes_sub ops_part3_2 _ ops_part3_2_writes h
/-- What `main_arg0` holds at this stage. -/
theorem val4_main_arg0 (V0 : Vals F) : val4 V0 (no_index (Proc.devRef .tc main_arg0)) = V0 (Proc.devRef .tc main_arg0) :=
  (val4_keep V0 main_arg0 (by decide)).trans (val3_2_main_arg0 V0)
/-- What `main_arg1` holds at this stage. -/
theorem val4_main_arg1 (V0 : Vals F) : val4 V0 (no_index (Proc.devRef .tc main_arg1)) = V0 (Proc.devRef .tc main_arg1) :=
  (val4_keep V0 main_arg1 (by decide)).trans (val3_2_main_arg1 V0)
/-- What `main_arg2` holds at this stage. -/
theorem val4_main_arg2 (V0 : Vals F) : val4 V0 (no_index (Proc.devRef .tc main_arg2)) = V0 (Proc.devRef .tc main_arg2) :=
  (val4_keep V0 main_arg2 (by decide)).trans (val3_2_main_arg2 V0)
/-- What `main_arg3` holds at this stage. -/
theorem val4_main_arg3 (V0 : Vals F) : val4 V0 (no_index (Proc.devRef .tc main_arg3)) = V0 (Proc.devRef .tc main_arg3) :=
  (val4_keep V0 main_arg3 (by decide)).trans (val3_2_main_arg3 V0)
/-- What `main_arg4` holds at this stage. -/
theorem val4_main_arg4 (V0 : Vals F) : val4 V0 (no_index (Proc.devRef .tc main_arg4)) = V0 (Proc.devRef .tc main_arg4) :=
  (val4_keep V0 main_arg4 (by decide)).trans (val3_2_main_arg4 V0)
/-- What `main_v159` holds at this stage. -/
theorem val4_main_v159 (V0 : Vals F) : val4 V0 (no_index (Proc.devRef .tc main_v159)) = select (broadcastInDim S4x20000x4 ![0, 1, 2] bcast_S4x20000x1_S4x20000x4_0_1_2 (broadcastInDim S4x20000x1 ![0, 1] bcast_S4x20000_S4x20000x1_0_1 (res_main_v63 V0))) (Host.divf (subf ((concatenate S4x20000x4 2 [⟨S4x20000x1, ((broadcastInDim S4x20000x1 ![0, 1] bcast_S4x20000_S4x20000x1_0_1 (Host.divf (subf (addf (shapeCast _ (extractStridedSlice S4x20000x1 ![0, 0, 0] (res_main_v76 V0) slices_S4x20000x4_S4x20000x1_0_0_0) shapeCasts_S4x20000x1_S4x20000) (mulf (broadcastInDim S4x20000 ![] bcast_S_S4x20000 (constant S_ .f32 0x3F000000#32)) (res_main_v107 V0))) (broadcastInDim S4x20000 ![0, 1] bcast_S1x20000_S4x20000_0_1 (broadcastInDim S1x20000 ![1] bcast_S20000_S1x20000_1 (addf (shapeCast _ (extractStridedSlice S20000x1 ![0, 0] (V0 (Proc.devRef .tc main_arg4)) slices_S20000x4_S20000x1_0_0) shapeCasts_S20000x1_S20000) (mulf (broadcastInDim S20000 ![] bcast_S_S20000 (constant S_ .f32 0x3F000000#32)) (res_main_v83 V0)))))) (broadcastInDim S4x20000 ![0, 1] bcast_S1x20000_S4x20000_0_1 (broadcastInDim S1x20000 ![1] bcast_S20000_S1x20000_1 (res_main_v83 V0))))) : (⟨S4x20000x1, .f32⟩ : BufTy).Contents (Elt F))⟩, ⟨S4x20000x1, ((broadcastInDim S4x20000x1 ![0, 1] bcast_S4x20000_S4x20000x1_0_1 (Host.divf (subf (addf (shapeCast _ (extractStridedSlice S4x20000x1 ![0, 0, 1] (res_main_v76 V0) slices_S4x20000x4_S4x20000x1_0_0_1) shapeCasts_S4x20000x1_S4x20000) (mulf (broadcastInDim S4x20000 ![] bcast_S_S4x20000 (constant S_ .f32 0x3F000000#32)) (res_main_v114 V0))) (broadcastInDim S4x20000 ![0, 1] bcast_S1x20000_S4x20000_0_1 (broadcastInDim S1x20000 ![1] bcast_S20000_S1x20000_1 (addf (shapeCast _ (extractStridedSlice S20000x1 ![0, 1] (V0 (Proc.devRef .tc main_arg4)) slices_S20000x4_S20000x1_0_1) shapeCasts_S20000x1_S20000) (mulf (broadcastInDim S20000 ![] bcast_S_S20000 (constant S_ .f32 0x3F000000#32)) (res_main_v90 V0)))))) (broadcastInDim S4x20000 ![0, 1] bcast_S1x20000_S4x20000_0_1 (broadcastInDim S1x20000 ![1] bcast_S20000_S1x20000_1 (res_main_v90 V0))))) : (⟨S4x20000x1, .f32⟩ : BufTy).Contents (Elt F))⟩, ⟨S4x20000x1, ((broadcastInDim S4x20000x1 ![0, 1] bcast_S4x20000_S4x20000x1_0_1 (Host.log (Host.divf (res_main_v107 V0) (broadcastInDim S4x20000 ![0, 1] bcast_S1x20000_S4x20000_0_1 (broadcastInDim S1x20000 ![1] bcast_S20000_S1x20000_1 (res_main_v83 V0)))))) : (⟨S4x20000x1, .f32⟩ : BufTy).Contents (Elt F))⟩, ⟨S4x20000x1, ((broadcastInDim S4x20000x1 ![0, 1] bcast_S4x20000_S4x20000x1_0_1 (Host.log (Host.divf (res_main_v114 V0) (broadcastInDim S4x20000 ![0, 1] bcast_S1x20000_S4x20000_0_1 (broadcastInDim S1x20000 ![1] bcast_S20000_S1x20000_1 (res_main_v90 V0)))))) : (⟨S4x20000x1, .f32⟩ : BufTy).Contents (Elt F))⟩] concatenates_S4x20000x1_S4x20000x1_S4x20000x1_S4x20000x1_S4x20000x4_d2 : (⟨S4x20000x4, .f32⟩ : BufTy).Contents (Elt F))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x00000000#32))))) (broadcastInDim S4x20000x4 ![0, 1, 2] bcast_S1x1x4_S4x20000x4_0_1_2 (broadcastInDim S1x1x4 ![1, 2] bcast_S1x4_S1x1x4_1_2 (broadcastInDim S1x4 ![1] bcast_S4_S1x4_1 (constant S4 .f32 0x3F800000#32))))) (broadcastInDim S4x20000x4 ![1, 2] bcast_S20000x4_S4x20000x4_1_2 (broadcastInDim S20000x4 ![] bcast_S_S20000x4 (id (constant S_ .f32 0x00000000#32)))) :=
  (val4_keep V0 main_v159 (by decide)).trans (val3_2_main_v159 V0)
/-- What `main_v163` holds at this stage. -/
theorem val4_main_v163 (V0 : Vals F) : val4 V0 (no_index (Proc.devRef .tc main_v163)) = res_main_v163 V0 :=
  (val4_keep V0 main_v163 (by decide)).trans (val3_2_main_v163 V0)
/-- What `main_v167` holds at this stage. -/
theorem val4_main_v167 (V0 : Vals F) : val4 V0 (no_index (Proc.devRef .tc main_v167)) = broadcastInDim S4x20000x1 ![0, 1] bcast_S4x20000_S4x20000x1_0_1 (uitofp .f32 (cmpi .ne (res_main_v68 V0) (broadcastInDim S4x20000 ![] bcast_S_S4x20000 (constantI S_ 32 0#32)))) :=
  (val4_keep V0 main_v167 (by decide)).trans (val3_2_main_v167 V0)
/-- What `main_v172` holds at this stage. -/
theorem val4_main_v172 (V0 : Vals F) : val4 V0 (no_index (Proc.devRef .tc main_v172)) = res_main_v172 V0 :=
  (val4_keep V0 main_v172 (by decide)).trans (val3_2_main_v172 V0)
/-- What `main_v183` holds at this stage. -/
theorem val4_main_v183 (V0 : Vals F) : val4 V0 (no_index (Proc.devRef .tc main_v183)) = addf (subf (maximumf (V0 (Proc.devRef .tc main_arg2)) (broadcastInDim S4x20000x80 ![] bcast_S_S4x20000x80 (constant S_ .f32 0x00000000#32))) (mulf (V0 (Proc.devRef .tc main_arg2)) (res_main_v174 V0))) (Host.log1p (Host.exp (Host.negf (Host.absf (V0 (Proc.devRef .tc main_arg2)))))) :=
  (val4_keep V0 main_v183 (by decide)).trans (val3_2_main_v183 V0)
/-- What `main_v196` holds at this stage. -/
theorem val4_main_v196 (V0 : Vals F) : val4 V0 (no_index (Proc.devRef .tc main_v196)) = addf (mulf (res_main_v189 V0) (res_main_v174 V0)) (mulf (subf (broadcastInDim S4x20000x80 ![] bcast_S_S4x20000x80 (constant S_ .f32 0x3F800000#32)) (res_main_v189 V0)) (subf (broadcastInDim S4x20000x80 ![] bcast_S_S4x20000x80 (constant S_ .f32 0x3F800000#32)) (res_main_v174 V0))) :=
  (val4_keep V0 main_v196 (by decide)).trans (val3_2_main_v196 V0)
/-- What `main_v198` holds at this stage. -/
theorem val4_main_v198 (V0 : Vals F) : val4 V0 (no_index (Proc.devRef .tc main_v198)) = mulf (broadcastInDim S4x20000x80 ![] bcast_S_S4x20000x80 (constant S_ .f32 0x3E800000#32)) (res_main_v174 V0) :=
  (val4_keep V0 main_v198 (by decide)).trans (val3_2_main_v198 V0)
/-- What `main_v200` holds at this stage. -/
theorem val4_main_v200 (V0 : Vals F) : val4 V0 (no_index (Proc.devRef .tc main_v200)) = subf (broadcastInDim S4x20000x80 ![] bcast_S_S4x20000x80 (constant S_ .f32 0x3F800000#32)) (res_main_v174 V0) := by
  unfold val4
  simp only [ops_part3_2]
  after_results_simp
  simp only [val3_2_main_v174, val3_2_main_cst_34] <;> rfl
/-- What `main_v201` holds at this stage. -/
theorem val4_main_v201 (V0 : Vals F) : val4 V0 (no_index (Proc.devRef .tc main_v201)) = broadcastInDim S4x20000x80 ![] bcast_S_S4x20000x80 (constant S_ .f32 0x3F400000#32) := by
  unfold val4
  simp only [ops_part3_2]
  after_results_simp
  all_goals rfl

/-- The device's buffer contents after @main's first 5 windows. -/
def val5 (V0 : Vals F) : Vals F := after ops_part4 (val4 V0)
/-- The buffers that window `main_part4`'s operations write. -/
abbrev ops_part4_W : List (Ref sig .tc) := [main_v202, main_v203, main_cst_36, main_v204, main_v205, main_cst_37, main_v206, main_v207, main_v208, main_v209, main_v210, main_v211, main_cst_38, main_v212, main_v213, main_v214, main_v215, main_cst_39, main_v216, main_v217, main_cst_40, main_v218, main_v219, main_v220, main_cst_41, main_v221, main_v222, main_v223, main_v224, main_v225, main_cst_42, main_v226, main_v227, main_v228, main_call10_v0, main_call10_cst, main_v229, main_v230, main_cst_43, main_call11_v0, main_v231, main_v232, main_call12_v0, main_call12_cst, main_v233, main_v234, main_cst_44, main_call13_v0, main_v235, main_v236, main_v237, main_v238]
/-- The buffers these operations write are the listed ones. -/
theorem ops_part4_writes : (ops_part4 : List (HloOp τ sig (Elt F))).Forall fun op => op.writes ⊆ (ops_part4_W.map (Proc.devRef (τ := τ) .tc)).toFinset :=
  forall_writes_sub_of_map rfl
/-- A buffer that window `main_part4` does not write keeps its contents through it. -/
theorem val5_keep (V0 : Vals F) (r : Ref sig .tc) (h : r ∉ ops_part4_W) :
    val5 V0 (Proc.devRef .tc r) = val4 V0 (Proc.devRef .tc r) :=
  after_of_writes_sub ops_part4 _ ops_part4_writes h
/-- What `main_arg0` holds at this stage. -/
theorem val5_main_arg0 (V0 : Vals F) : val5 V0 (no_index (Proc.devRef .tc main_arg0)) = V0 (Proc.devRef .tc main_arg0) :=
  (val5_keep V0 main_arg0 (by decide)).trans (val4_main_arg0 V0)
/-- What `main_arg1` holds at this stage. -/
theorem val5_main_arg1 (V0 : Vals F) : val5 V0 (no_index (Proc.devRef .tc main_arg1)) = V0 (Proc.devRef .tc main_arg1) :=
  (val5_keep V0 main_arg1 (by decide)).trans (val4_main_arg1 V0)
/-- What `main_arg2` holds at this stage. -/
theorem val5_main_arg2 (V0 : Vals F) : val5 V0 (no_index (Proc.devRef .tc main_arg2)) = V0 (Proc.devRef .tc main_arg2) :=
  (val5_keep V0 main_arg2 (by decide)).trans (val4_main_arg2 V0)
/-- What `main_arg3` holds at this stage. -/
theorem val5_main_arg3 (V0 : Vals F) : val5 V0 (no_index (Proc.devRef .tc main_arg3)) = V0 (Proc.devRef .tc main_arg3) :=
  (val5_keep V0 main_arg3 (by decide)).trans (val4_main_arg3 V0)
/-- What `main_arg4` holds at this stage. -/
theorem val5_main_arg4 (V0 : Vals F) : val5 V0 (no_index (Proc.devRef .tc main_arg4)) = V0 (Proc.devRef .tc main_arg4) :=
  (val5_keep V0 main_arg4 (by decide)).trans (val4_main_arg4 V0)
/-- What `main_v238` holds at this stage. -/
theorem val5_main_v238 (V0 : Vals F) : val5 V0 (no_index (Proc.devRef .tc main_v238)) = concatenate S2 0 [⟨S1, (broadcastInDim S1 ![] bcast_S_S1 (select (ori (cmpf .une (res_main_v213 V0) (res_main_v213 V0)) (cmpf .oeq (Host.absf (res_main_v213 V0)) (constant S_ .f32 0x7F800000#32))) (id (constant S_ .f32 0x00000000#32)) (res_main_v213 V0)))⟩, ⟨S1, (broadcastInDim S1 ![] bcast_S_S1 (select (ori (cmpf .une (res_main_v227 V0) (res_main_v227 V0)) (cmpf .oeq (Host.absf (res_main_v227 V0)) (constant S_ .f32 0x7F800000#32))) (id (constant S_ .f32 0x00000000#32)) (res_main_v227 V0)))⟩] concatenates_S1_S1_S2_d0 := by
  unfold val5
  simp only [ops_part4, TRef.binary, TRef.nullary, TRef.ternary, TRef.unary, TRef.toBuf, TRef.ofBuf, cast_eq]
  after_results_simp
  simp only [val4_main_v172, val4_main_v163, val4_main_v159, val4_main_arg3, val4_main_v167, val4_main_v183, val4_main_v196, val4_main_v200, val4_main_v201, val4_main_v198] <;> rfl

/-- What all operations leave is what the last window leaves. -/
theorem after_ops (V0 : Vals F) : after ops V0 = val5 V0 := by
  simp only [ops, ops_part0, ops_part1, ops_part3, after_append]
  rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v238) = concatenate S2 0 [⟨S1, (broadcastInDim S1 ![] bcast_S_S1 (select (ori (cmpf .une (res_main_v213 (launchContents m c)) (res_main_v213 (launchContents m c))) (cmpf .oeq (Host.absf (res_main_v213 (launchContents m c))) (constant S_ .f32 0x7F800000#32))) (id (constant S_ .f32 0x00000000#32)) (res_main_v213 (launchContents m c))))⟩, ⟨S1, (broadcastInDim S1 ![] bcast_S_S1 (select (ori (cmpf .une (res_main_v227 (launchContents m c)) (res_main_v227 (launchContents m c))) (cmpf .oeq (Host.absf (res_main_v227 (launchContents m c))) (constant S_ .f32 0x7F800000#32))) (id (constant S_ .f32 0x00000000#32)) (res_main_v227 (launchContents m c))))⟩] concatenates_S1_S1_S2_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v238).trans ((congrFun (after_ops (launchContents m c)) (Proc.devRef .tc main_v238)).trans (val5_main_v238 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c))),
      (h c main_arg4).trans ((congrFun (after_ops (launchContents m c)) (Proc.devRef .tc main_arg4)).trans (val5_main_arg4 (launchContents m c)))⟩)
    (run_seq scopedRefs_eq scopedSems_eq defs main (fun _ => ops) main_eq (fun _ => ops_sub) m ρ fun _ => ops_fresh)

end Cert.RefRun

end
-- ==== Proof.Loss.lean ====
/-
The mathematics of the loss at one anchor, over the extended reals: the overlap of an anchor and a box, the best box of
an anchor, the two parts of the focal loss and the smoothed box loss, in the arrangement in which the kernel computes
them. Nothing here mentions a program.
-/
module

public import Idealize.ShloMosaic.PureOps
public import Idealize.ShloMosaic.PureOps.Ideal

@[expose] public section

noncomputable section

open Idealize.ShloMosaic
open scoped BigOperators

namespace Cert.Loss

/-- The extended real that a 32-bit float pattern denotes. -/
abbrev fc (b : BitVec 32) : EReal := Ideal.ofBits .f32 b

/-- The smallest width and area the loss divides by. -/
abbrev tiny : EReal := fc 0x358637BD#32
/-- One half, the overlap from which an anchor is positive. -/
abbrev half : EReal := fc 0x3F000000#32
/-- The overlap below which an anchor is background. -/
abbrev thr : EReal := fc 0x3ECCCCCD#32
/-- One. -/
abbrev one : EReal := 1
/-- Zero. -/
abbrev zer : EReal := 0
/-- Minus one, the overlap with a padding box. -/
abbrev neg1 : EReal := fc 0xBF800000#32

/-- A box or anchor: its two low corners and its two high corners. -/
abbrev Box := Fin 4 → EReal

/-- The length shared by two intervals. -/
def shared (alo ahi glo ghi : EReal) : EReal := max (min ahi ghi - max alo glo) zer
/-- The area shared by an anchor and a box. -/
def inter (A G : Box) : EReal := shared (A 0) (A 2) (G 0) (G 2) * shared (A 1) (A 3) (G 1) (G 3)
/-- The area of a box. -/
def area (A : Box) : EReal := (A 2 - A 0) * (A 3 - A 1)
/-- The overlap of an anchor and a box: minus one for a padding box. -/
def iou (A G : Box) : EReal :=
  if ∃ k, 0 < G k then Ideal.div (inter A G) (max (area A + area G - inter A G) tiny) else neg1

/-- The best overlap. -/
def best {n : ℕ} (v : Fin n → EReal) : EReal := Finset.univ.fold max ⊥ v
/-- The number of the first box that reaches the best overlap. -/
def argv (v : Fin 64 → EReal) : EReal :=
  Finset.univ.fold min ⊤ fun t : Fin 64 => if v t = best v then ((t.val : ℝ) : EReal) else fc 0x42800000#32
/-- One at that box, zero elsewhere. -/
def hot (v : Fin 64 → EReal) (t : Fin 64) : EReal := if ((t.val : ℝ) : EReal) = argv v then 1 else 0
/-- The value of `f` at that box, as the sum over the boxes. -/
def pick (v f : Fin 64 → EReal) : EReal := ∑ t, hot v t * f t
/-- One at a positive anchor. -/
def posv {n : ℕ} (v : Fin n → EReal) : EReal := if half ≤ best v then 1 else 0
/-- One at a background anchor. -/
def negv {n : ℕ} (v : Fin n → EReal) : EReal := if best v < thr then 1 else 0

/-- The width of an interval, at least `tiny`. -/
def wid (lo hi : EReal) : EReal := max (hi - lo) tiny
/-- The centre of an interval. -/
def ctr (lo hi : EReal) : EReal := lo + half * wid lo hi
/-- The absolute value. -/
def abv (x : EReal) : EReal := max x (-x)
/-- The smoothed absolute value, of an absolute value. -/
def smooth (a : EReal) : EReal := if a < one then half * a * a else a - half

/-- The shift of a box's centre from an anchor's, in widths of the anchor. -/
def shift (v lo hi : Fin 64 → EReal) (alo ahi : EReal) : EReal :=
  Ideal.div (pick v (fun t => ctr (lo t) (hi t)) - ctr alo ahi) (wid alo ahi)
/-- The logarithm of a box's width over an anchor's. -/
def stretch (v lo hi : Fin 64 → EReal) (alo ahi : EReal) : EReal :=
  pick v (fun t => Ideal.log (wid (lo t) (hi t))) - Ideal.log (wid alo ahi)
/-- The box loss at one anchor. -/
def boxv (A : Box) (G : Fin 64 → Box) (bp : Fin 4 → EReal) : EReal :=
  let v := fun t => iou A (G t)
  posv v * (smooth (abv (bp 0 - shift v (G · 0) (G · 2) (A 0) (A 2)))
    + smooth (abv (bp 1 - shift v (G · 1) (G · 3) (A 1) (A 3)))
    + smooth (abv (bp 2 - stretch v (G · 0) (G · 2) (A 0) (A 2)))
    + smooth (abv (bp 3 - stretch v (G · 1) (G · 3) (A 1) (A 3))))

/-- `exp (-|l|)`. -/
def decay (l : EReal) : EReal := Ideal.exp (zer - abv l)
/-- The soft plus of a logit. -/
def soft (l : EReal) : EReal := max l zer + Ideal.log1p (decay l)
/-- The probability of a logit. -/
def prob (l : EReal) : EReal :=
  if zer ≤ l then Ideal.div one (one + decay l) else decay l * Ideal.div one (one + decay l)
/-- The focal loss of a logit whose label is zero. -/
def fneg (l : EReal) : EReal := fc 0x3F400000#32 * (prob l * prob l) * soft l
/-- The focal loss of a logit whose label is one. -/
def fpos (l : EReal) : EReal := fc 0x3E800000#32 * ((one - prob l) * (one - prob l)) * (soft l - l)
/-- The label of the anchor's box. -/
def label (v : Fin 64 → EReal) (y : Fin 64 → Fin 80 → EReal) : EReal :=
  pick v fun t => ∑ c, y t c * ((c.val : ℝ) : EReal)
/-- What the positive label adds to the focal loss in class `c`. -/
def clsv (v : Fin 64 → EReal) (y : Fin 64 → Fin 80 → EReal) (l : Fin 80 → EReal) (c : Fin 80) : EReal :=
  posv v * (if ((c.val : ℝ) : EReal) = label v y then 1 else 0) * (fpos (l c) - fneg (l c))
/-- The focal loss of the anchor as if every label were zero. -/
def backv (v : Fin 64 → EReal) (l : Fin 80 → EReal) : EReal := (posv v + negv v) * ∑ c, fneg (l c)

end Cert.Loss

end
-- ==== Proof.Ref.Read.lean ====
/-
The reference's intermediate arrays at an index.
-/
module

public import proofs.«01_k».proof.Proof.Ref.Run
public import proofs.«01_k».proof.Proof.Loss
public import Idealize.ShloMosaic.Lib.Pointwise
public import Idealize.ShloMosaic.Lib.Tactic.CleanTypes

@[expose] public section
set_option maxRecDepth 10000
noncomputable section
open Idealize.ShloMosaic Idealize.ShloMosaic.TcCoe Idealize.SL.Sem
open scoped BigOperators
namespace Cert.RefRun
open Cert.ReferenceIdeal Cert.Loss

variable (V0 : Vals Ideal)

/-- The five arguments. -/
abbrev rY : FVec Ideal S4x100x80 .f32 := V0 (Proc.devRef .tc main_arg0)
@[inherit_doc rY] abbrev rG : FVec Ideal S4x100x4 .f32 := V0 (Proc.devRef .tc main_arg1)
@[inherit_doc rY] abbrev rL : FVec Ideal S4x20000x80 .f32 := V0 (Proc.devRef .tc main_arg2)
@[inherit_doc rY] abbrev rP : FVec Ideal S4x20000x4 .f32 := V0 (Proc.devRef .tc main_arg3)
@[inherit_doc rY] abbrev rA : FVec Ideal S20000x4 .f32 := V0 (Proc.devRef .tc main_arg4)

/-- Anchor `a`. -/
def box (a : Fin 20000) : Box := fun k => rA V0 (ix2 a k)
/-- Box `t` of image `b`. -/
def tru (b : Fin 4) (t : Fin 100) : Box := fun k => rG V0 (ix3 b t k)
/-- The overlaps of anchor `a` with the boxes of image `b`. -/
def ovl (b : Fin 4) (a : Fin 20000) (t : Fin 100) : EReal := iou (box V0 a) (tru V0 b t)

/-- The fold of a box axis is a fold over the 100 boxes. -/
theorem fold_last {α : Type} (op : α → α → α) [Std.Commutative op] [Std.Associative op] (init : α)
    (x : S4x20000x100.Idx → α) (b : Fin 4) (a : Fin 20000) :
    Finset.fold op init x {i | Gen.reducesTo_S4x20000x100_S4x20000_d2.drop i = ix2 b a}
      = Finset.univ.fold op init fun t : Fin 100 => x (ix3 b a t) := by
  have h : S4x20000x100.Reduces [2] S4x20000 := by decide
  rw [Shape.ReducesTo.drop_eq_drop _ h]
  classical
  refine (Eq.trans ?_ (h.fold_filter_drop_single op init x (ix2 b a))).trans ?_
  · congr
  · have e : (x ∘ h.lift (ix2 b a)) = fun t : Fin 100 => x (ix3 b a t) := funext fun t => by
      refine congrArg x (funext fun c => Fin.ext ?_)
      match c with
      | ⟨0, _⟩ => rfl
      | ⟨1, _⟩ => rfl
      | ⟨2, _⟩ => rfl
    rw [e]; rfl
/-- The fold of a coordinate axis is a fold over the four coordinates. -/
theorem fold_box {α : Type} (op : α → α → α) [Std.Commutative op] [Std.Associative op] (init : α)
    (x : S4x100x4.Idx → α) (b : Fin 4) (t : Fin 100) :
    Finset.fold op init x {i | Gen.reducesTo_S4x100x4_S4x100_d2.drop i = ix2 b t}
      = Finset.univ.fold op init fun k : Fin 4 => x (ix3 b t k) := by
  have h : S4x100x4.Reduces [2] S4x100 := by decide
  rw [Shape.ReducesTo.drop_eq_drop _ h]
  classical
  refine (Eq.trans ?_ (h.fold_filter_drop_single op init x (ix2 b t))).trans ?_
  · congr
  · have e : (x ∘ h.lift (ix2 b t)) = fun k : Fin 4 => x (ix3 b t k) := funext fun k => by
      refine congrArg x (funext fun c => Fin.ext ?_)
      match c with
      | ⟨0, _⟩ => rfl
      | ⟨1, _⟩ => rfl
      | ⟨2, _⟩ => rfl
    rw [e]; rfl
/-- The or of four comparisons is one exactly when one of them holds. -/
theorem fold_ori (p : Fin 4 → Prop) [DecidablePred p] :
    Finset.univ.fold IntOp.ori 0#1 (fun k => BitVec.ofBool (decide (p k))) = if ∃ k, p k then 1#1 else 0#1 := by
  have e : Finset.univ.fold IntOp.ori 0#1 (fun k => BitVec.ofBool (decide (p k)))
      = IntOp.ori (BitVec.ofBool (decide (p 0))) (IntOp.ori (BitVec.ofBool (decide (p 1))) (IntOp.ori (BitVec.ofBool (decide (p 2))) (IntOp.ori (BitVec.ofBool (decide (p 3))) 0#1))) := rfl
  rw [e]
  by_cases h0 : p 0 <;> by_cases h1 : p 1 <;> by_cases h2 : p 2 <;> by_cases h3 : p 3 <;>
    simp [Fin.exists_fin_succ, h0, h1, h2, h3] <;> rfl
/-- The lengths an anchor and a box share along the two axes. -/
theorem v20_apply (b : Fin 4) (a : Fin 20000) (t : Fin 100) :
    (res_main_v20 V0 : FVec Ideal S4x20000x100x2 .f32) (ix4 b a t (0 : Fin 2)) = shared (box V0 a 0) (box V0 a 2) (tru V0 b t 0) (tru V0 b t 2)
    ∧ (res_main_v20 V0 : FVec Ideal S4x20000x100x2 .f32) (ix4 b a t (1 : Fin 2)) = shared (box V0 a 1) (box V0 a 3) (tru V0 b t 1) (tru V0 b t 3) := by
  constructor
  · pointwise [res_main_v20, id]
    exact max_comm (α := EReal) _ _
  · pointwise [res_main_v20, id]
    exact max_comm (α := EReal) _ _
/-- The area an anchor and a box share. -/
theorem v25_apply (b : Fin 4) (a : Fin 20000) (t : Fin 100) :
    (res_main_v25 V0 : FVec Ideal S4x20000x100 .f32) (ix3 b a t) = inter (box V0 a) (tru V0 b t) := by
  pointwise [res_main_v25]
  rw [(v20_apply V0 b a t).1, (v20_apply V0 b a t).2]
  rfl
/-- The overlap of an anchor with a box, minus one for padding. -/
theorem v59_apply (b : Fin 4) (a : Fin 20000) (t : Fin 100) :
    (res_main_v59 V0 : FVec Ideal S4x20000x100 .f32) (ix3 b a t) = ovl V0 b a t := by
  pointwise [res_main_v59, id]
  rw [v25_apply V0 b a t]
  clean_types
  rw [fold_box, fold_ori]
  unfold ovl iou area tru box
  by_cases h : ∃ k, 0 < rG V0 (ix3 b t k)
  · rw [if_pos h, if_pos h]; rfl
  · rw [if_neg h, if_neg h]; rfl
/-- The best overlap of an anchor. -/
theorem v60_apply (b : Fin 4) (a : Fin 20000) :
    (res_main_v60 V0 : FVec Ideal S4x20000 .f32) (ix2 b a) = best (ovl V0 b a) := by
  pointwise [res_main_v60]
  clean_types
  rw [fold_last]
  simp only [v59_apply]
  rw [show Ideal.ofBits FTy.f32 4286578688#32 = (⊥ : EReal) by simp [Ideal.ofBits, Ideal.ieee]]
  rfl
/-- The comparison with one half. -/
theorem ge_half (v : FVec Ideal S4x20000 .f32) (b : Fin 4) (a : Fin 20000) :
    cmpf .oge v (broadcastInDim S4x20000 ![] Gen.bcast_S_S4x20000 (constant S_ .f32 0x3F000000#32)) (ix2 b a)
      = if half ≤ v (ix2 b a) then 1#1 else 0#1 := by
  have e : cmpf .oge v (broadcastInDim S4x20000 ![] Gen.bcast_S_S4x20000 (constant S_ .f32 0x3F000000#32)) (ix2 b a)
      = BitVec.ofBool (decide (half ≤ v (ix2 b a))) := by pointwise
  rw [e]
  by_cases h : half ≤ v (ix2 b a)
  · rw [if_pos h, decide_eq_true h]; rfl
  · rw [if_neg h, decide_eq_false h]; rfl
/-- Whether an anchor is positive. -/
theorem v63_apply (b : Fin 4) (a : Fin 20000) :
    (res_main_v63 V0 : IVec S4x20000 1) (ix2 b a) = if half ≤ best (ovl V0 b a) then 1#1 else 0#1 := by
  rw [← v60_apply V0 b a]
  exact ge_half (res_main_v60 V0) b a
/-- The state of an anchor, from its best overlap and from whether it is positive. -/
theorem state_apply (v : FVec Ideal S4x20000 .f32) (u : IVec S4x20000 1) (b : Fin 4) (a : Fin 20000) :
    (id (select u (broadcastInDim S4x20000 ![1] Gen.bcast_S20000_S4x20000_1 (broadcastInDim S20000 ![] Gen.bcast_S_S20000 (constantI S_ 32 1#32)))
        (select (cmpf .olt v (broadcastInDim S4x20000 ![] Gen.bcast_S_S4x20000 (constant S_ .f32 0x3ECCCCCD#32)))
          (broadcastInDim S4x20000 ![1] Gen.bcast_S20000_S4x20000_1 (broadcastInDim S20000 ![] Gen.bcast_S_S20000 (constantI S_ 32 4294967295#32)))
          (broadcastInDim S4x20000 ![1] Gen.bcast_S20000_S4x20000_1 (broadcastInDim S20000 ![] Gen.bcast_S_S20000 (constantI S_ 32 0#32))))) : IVec S4x20000 32) (ix2 b a)
      = Scalar.select (u (ix2 b a)) 1#32 (if v (ix2 b a) < thr then 4294967295#32 else 0#32) := by
  pointwise [id]
/-- The state of an anchor: one for positive, minus one for background, zero between. -/
theorem v68_apply (b : Fin 4) (a : Fin 20000) :
    (res_main_v68 V0 : IVec S4x20000 32) (ix2 b a) = if half ≤ best (ovl V0 b a) then 1#32 else if best (ovl V0 b a) < thr then 4294967295#32 else 0#32 := by
  refine (state_apply (res_main_v60 V0) (res_main_v63 V0) b a).trans ?_
  rw [v60_apply, v63_apply]
  by_cases h : half ≤ best (ovl V0 b a)
  · rw [if_pos h, if_pos h]; rfl
  · rw [if_neg h, if_neg h]; rfl
/-- One at a positive anchor, zero elsewhere. -/
theorem v163_apply (b : Fin 4) (a : Fin 20000) :
    (res_main_v163 V0 : FVec Ideal S4x20000x1 .f32) (ix3 b a (0 : Fin 1)) = posv (ovl V0 b a) := by
  pointwise [res_main_v163]
  rw [v68_apply]
  unfold posv
  split_ifs
  · show ((((1#1 : BitVec 1).toNat : ℕ) : ℝ) : EReal) = _
    simp [one]
  · show ((((0#1 : BitVec 1).toNat : ℕ) : ℝ) : EReal) = _
    simp [zer]
  · show ((((0#1 : BitVec 1).toNat : ℕ) : ℝ) : EReal) = _
    simp [zer]
/-- The number of positive anchors, an image without any counting as one. -/
theorem v172_apply :
    (res_main_v172 V0 : FVec Ideal S_ .f32) ix0 = ∑ b, max (∑ a, posv (ovl V0 b a)) 1 := by
  pointwise [res_main_v172]
  simp only [v163_apply]
end Cert.RefRun
-- ==== Proof.Ref.Arg.lean ====
/-
The arg-max of the overlaps along the boxes, and the rows it takes.
-/
module

public import proofs.«01_k».proof.Proof.Ref.Read
public import Idealize.ShloMosaic.PureOps.Ideal.Laws
public import Idealize.ShloMosaic.Lib.ReduceAll

@[expose] public section
set_option maxRecDepth 10000
noncomputable section
open Idealize.ShloMosaic Idealize.ShloMosaic.TcCoe Idealize.SL.Sem
open scoped BigOperators
namespace Cert.RefRun
open Cert.ReferenceIdeal Cert.Loss

/-- One step of the arg-max: a larger value wins, and of two equal ones the smaller number. -/
theorem argmax_step (x y : EReal) (i j : BitVec 32) (hi : i.toNat < 100) (hj : j.toNat < 100) :
    (reducer_argmax_f32_i32 (F := Ideal) (x, i) (y, j) : EReal × BitVec 32)
      = if y < x then (x, i) else if x < y then (y, j) else (y, if i.toNat < j.toNat then i else j) := by
  have e : (reducer_argmax_f32_i32 (F := Ideal) (x, i) (y, j) : EReal × BitVec 32)
      = (Scalar.select (IntOp.ori (BitVec.ofBool (decide (y < x))) (BitVec.ofBool (decide (x ≠ x)))) x y,
         Scalar.select (IntOp.ori (IntOp.ori (BitVec.ofBool (decide (y < x))) (BitVec.ofBool (decide (x ≠ x))))
           (IntOp.andi (BitVec.ofBool (decide (x = y))) (IntOp.cmpi .slt i j))) i j) := rfl
  have hs : IntOp.cmpi .slt i j = BitVec.ofBool (decide (i.toNat < j.toNat)) := by
    show BitVec.ofBool (i.slt j) = _
    congr 1
    rw [BitVec.slt_eq_decide, BitVec.toInt_eq_toNat_of_lt (by omega), BitVec.toInt_eq_toNat_of_lt (by omega)]
    simp
  rw [e, hs]
  have hx : decide (x ≠ x) = false := by simp
  rw [hx]
  rcases lt_trichotomy y x with h | h | h
  · have h2 : x ≠ y := h.ne'
    rw [if_pos h, decide_eq_true h, decide_eq_false h2]
    by_cases h3 : i.toNat < j.toNat
    · rw [decide_eq_true h3]; rfl
    · rw [decide_eq_false h3]; rfl
  · subst h
    rw [if_neg (lt_irrefl _), if_neg (lt_irrefl _), decide_eq_false (lt_irrefl y), decide_eq_true (Eq.refl y)]
    by_cases h3 : i.toNat < j.toNat
    · rw [decide_eq_true h3, if_pos h3]; rfl
    · rw [decide_eq_false h3, if_neg h3]; rfl
  · have h2 : x ≠ y := h.ne
    have h1 : ¬ y < x := h.not_gt
    rw [if_neg h1, if_pos h, decide_eq_false h1, decide_eq_false h2]
    by_cases h3 : i.toNat < j.toNat
    · rw [decide_eq_true h3]; rfl
    · rw [decide_eq_false h3]; rfl

/-- What the fold of the arg-max leaves: a pair of the list (or the start), no value above it, and no equal value at a
    smaller number. -/
theorem argmax_fold (l : List (EReal × BitVec 32)) (hl : ∀ p ∈ l, p.2.toNat < 100) :
    let r : EReal × BitVec 32 := l.foldl (reducer_argmax_f32_i32 (F := Ideal)) (((⊥ : EReal), 0#32) : EReal × BitVec 32)
    (r = (⊥, 0#32) ∨ r ∈ l) ∧ (∀ p ∈ l, p.1 ≤ r.1) ∧ ∀ p ∈ l, p.1 = r.1 → r.2.toNat ≤ p.2.toNat := by
  induction l using List.reverseRecOn with
  | nil => simp
  | append_singleton l p ih =>
    have ih := ih fun q hq => hl q (List.mem_append_left _ hq)
    have hp : p.2.toNat < 100 := hl p (by simp)
    simp only [List.foldl_append, List.foldl_cons, List.foldl_nil] at ih ⊢
    generalize hr : (l.foldl (reducer_argmax_f32_i32 (F := Ideal)) (((⊥ : EReal), 0#32) : EReal × BitVec 32) : EReal × BitVec 32) = r at ih ⊢
    obtain ⟨x, i⟩ := r
    obtain ⟨y, j⟩ := p
    obtain ⟨h0, h1, h2⟩ := ih
    have hi : i.toNat < 100 := by
      rcases h0 with h0 | h0
      · rw [(Prod.mk.inj h0).2]; decide
      · exact hl _ (List.mem_append_left _ h0)
    rw [argmax_step x y i j hi hp]
    dsimp only at h1 h2 hp
    by_cases hyx : y < x
    · rw [if_pos hyx]
      refine ⟨h0.imp id fun h => List.mem_append_left _ h, ?_, ?_⟩
      · intro q hq
        rcases List.mem_append.1 hq with hq | hq
        · exact h1 q hq
        · rw [List.mem_singleton.1 hq]; exact hyx.le
      · intro q hq e
        rcases List.mem_append.1 hq with hq | hq
        · exact h2 q hq e
        · rw [List.mem_singleton.1 hq] at e; exact absurd e hyx.ne
    · rw [if_neg hyx]
      by_cases hxy : x < y
      · rw [if_pos hxy]
        refine ⟨.inr (by simp), ?_, ?_⟩
        · intro q hq
          rcases List.mem_append.1 hq with hq | hq
          · exact (h1 q hq).trans hxy.le
          · rw [List.mem_singleton.1 hq]
        · intro q hq e
          rcases List.mem_append.1 hq with hq | hq
          · exact absurd e ((h1 q hq).trans_lt hxy).ne
          · rw [List.mem_singleton.1 hq]
      · rw [if_neg hxy]
        obtain rfl : x = y := le_antisymm (not_lt.1 hyx) (not_lt.1 hxy)
        refine ⟨?_, ?_, ?_⟩
        · split_ifs with h
          · exact h0.imp id fun h => List.mem_append_left _ h
          · exact .inr (by simp)
        · intro q hq
          rcases List.mem_append.1 hq with hq | hq
          · exact h1 q hq
          · rw [List.mem_singleton.1 hq]
        · intro q hq e
          rcases List.mem_append.1 hq with hq | hq
          · have := h2 q hq e
            dsimp only
            split_ifs with h
            · exact this
            · omega
          · rw [List.mem_singleton.1 hq]
            dsimp only
            split_ifs with h
            · exact h.le
            · exact le_rfl

/-- An index that drops to `(b, a)` is `(b, a, t)`. -/
theorem drop_last (i : S4x20000x100.Idx) (b : Fin 4) (a : Fin 20000)
    (h : Gen.reducesTo_S4x20000x100_S4x20000_d2.drop i = ix2 b a) : i = ix3 b a (i 2) := by
  have hr : S4x20000x100.Reduces [2] S4x20000 := by decide
  rw [Shape.ReducesTo.drop_eq_drop _ hr] at h
  have e := hr.lift_drop i
  rw [h] at e
  rw [← e]
  refine funext fun c => Fin.ext ?_
  match c with
  | ⟨0, _⟩ => rfl
  | ⟨1, _⟩ => rfl
  | ⟨2, _⟩ => rfl
/-- And `(b, a, t)` drops to `(b, a)`. -/
theorem drop_ix3 (b : Fin 4) (a : Fin 20000) (t : Fin 100) :
    Gen.reducesTo_S4x20000x100_S4x20000_d2.drop (ix3 b a t : S4x20000x100.Idx) = ix2 b a := by
  have hr : S4x20000x100.Reduces [2] S4x20000 := by decide
  rw [Shape.ReducesTo.drop_eq_drop _ hr]
  have e := hr.drop_lift (ix2 b a) t
  rw [← e]
  congr 1
  refine funext fun c => Fin.ext ?_
  match c with
  | ⟨0, _⟩ => rfl
  | ⟨1, _⟩ => rfl
  | ⟨2, _⟩ => rfl

/-- The arg-max along the boxes is the number of a box, and when the best overlap is not `⊥` it is the first that reaches it. -/
theorem argmax_apply (v : FVec Ideal S4x20000x100 .f32) (b : Fin 4) (a : Fin 20000) :
    ∃ n : Fin 100, (Host.argReduce (F := Ideal) reducer_argmax_f32_i32 v (iotaInDim S4x20000x100 32 2) (constant S_ .f32 0xFF800000#32)
        (constantI S_ 32 0#32) Gen.reducesTo_S4x20000x100_S4x20000_d2 Gen.h_S_ (ix2 b a)).2 = BitVec.ofNat 32 n.val
      ∧ (⊥ < best (fun t => v (ix3 b a t)) → v (ix3 b a n) = best (fun t => v (ix3 b a t))
        ∧ ∀ t, v (ix3 b a t) = best (fun t => v (ix3 b a t)) → n ≤ t) := by
  rw [Ideal.argReduce_eq_reduce2, Host.reduce2_eq_foldl_fiber]
  have hm : ∀ p, p ∈ Host.argReduceFiber v (iotaInDim S4x20000x100 32 2) Gen.reducesTo_S4x20000x100_S4x20000_d2 (ix2 b a)
      ↔ ∃ t : Fin 100, p = (v (ix3 b a t), BitVec.ofNat 32 t.val) := by
    intro p
    unfold Host.argReduceFiber
    simp only [List.mem_map, List.mem_filter, List.mem_finRange, true_and, decide_eq_true_eq]
    constructor
    · rintro ⟨n, hn, rfl⟩
      have e := drop_last _ b a hn
      generalize S4x20000x100.rowMajor.symm n = i at e ⊢
      exact ⟨i 2, congrArg (fun z => (v z, BitVec.ofNat 32 (i 2).val)) e⟩
    · rintro ⟨t, rfl⟩
      refine ⟨S4x20000x100.rowMajor (ix3 b a t), ?_, ?_⟩
      · rw [Equiv.symm_apply_apply]; exact drop_ix3 b a t
      · rw [Equiv.symm_apply_apply]; rfl
  have hlt : ∀ t : Fin 100, (BitVec.ofNat 32 t.val).toNat = t.val := fun t => by
    rw [BitVec.toNat_ofNat]; exact Nat.mod_eq_of_lt (by omega)
  have hf := argmax_fold (Host.argReduceFiber v (iotaInDim S4x20000x100 32 2) Gen.reducesTo_S4x20000x100_S4x20000_d2 (ix2 b a))
    (fun p hp => by
      obtain ⟨t, rfl⟩ := (hm p).1 hp
      show (BitVec.ofNat 32 t.val).toNat < 100
      rw [hlt]; exact t.isLt)
  have hi : ((constant S_ .f32 0xFF800000#32 : FVec Ideal S_ .f32) (Shape.Idx.first Gen.h_S_),
      (constantI S_ 32 0#32 : IVec S_ 32) (Shape.Idx.first Gen.h_S_)) = ((⊥, 0#32) : EReal × BitVec 32) := by
    refine Prod.ext ?_ rfl
    show Ideal.ofBits FTy.f32 4286578688#32 = (⊥ : EReal)
    simp [Ideal.ofBits, Ideal.ieee]
  rw [hi]
  generalize List.foldl (reducer_argmax_f32_i32 (F := Ideal)) ((⊥, 0#32) : EReal × BitVec 32)
    (Host.argReduceFiber v (iotaInDim S4x20000x100 32 2) Gen.reducesTo_S4x20000x100_S4x20000_d2 (ix2 b a)) = r at hf ⊢
  obtain ⟨h0, h1, h2⟩ := hf
  have hle : best (fun t => v (ix3 b a t)) ≤ r.1 := by
    unfold best
    rw [Finset.fold_max_le]
    exact ⟨bot_le, fun t _ => h1 _ ((hm _).2 ⟨t, rfl⟩)⟩
  have hge : ∀ t : Fin 100, v (ix3 b a t) ≤ best (fun t => v (ix3 b a t)) := fun t => by
    unfold best
    rw [Finset.le_fold_max]
    exact .inr ⟨t, Finset.mem_univ _, le_rfl⟩
  rcases h0 with h0 | h0
  · subst h0
    exact ⟨0, rfl, fun h => absurd (h.trans_le hle) (lt_irrefl _)⟩
  · obtain ⟨n, rfl⟩ := (hm _).1 h0
    refine ⟨n, rfl, fun _ => ⟨le_antisymm (hge n) hle, fun t ht => ?_⟩⟩
    have := h2 _ ((hm _).2 ⟨t, rfl⟩) (le_antisymm (h1 _ ((hm _).2 ⟨t, rfl⟩)) (ht ▸ hge n))
    simp only [hlt] at this
    exact this

/-- The same with the overlaps named. -/
theorem argmax_of (v : FVec Ideal S4x20000x100 .f32) (b : Fin 4) (a : Fin 20000) (w : Fin 100 → EReal) (e : ∀ t, v (ix3 b a t) = w t) :
    ∃ n : Fin 100, (Host.argReduce (F := Ideal) reducer_argmax_f32_i32 v (iotaInDim S4x20000x100 32 2) (constant S_ .f32 0xFF800000#32)
        (constantI S_ 32 0#32) Gen.reducesTo_S4x20000x100_S4x20000_d2 Gen.h_S_ (ix2 b a)).2 = BitVec.ofNat 32 n.val
      ∧ (⊥ < best w → w n = best w ∧ ∀ t, w t = best w → n ≤ t) := by
  obtain rfl : (fun t => v (ix3 b a t)) = w := funext e
  exact argmax_apply v b a

/-- Taking one row of `K` numbers per image and anchor out of the `100` rows of the image. -/
abbrev rowDims (K : ℕ) (wf : GatherDims.WF ⟨3, ![4, 100, K]⟩ ⟨3, ![4, 20000, 1]⟩ ⟨3, ![4, 20000, K]⟩ [2] [1] [0] [1] [0] 2 ![1, 1, K]) :
    GatherDims ⟨3, ![4, 100, K]⟩ ⟨3, ![4, 20000, 1]⟩ ⟨3, ![4, 20000, K]⟩ where
  offsetDims := [2]
  collapsedSliceDims := [1]
  operandBatchingDims := [0]
  startIndicesBatchingDims := [0]
  startIndexMap := [1]
  indexVectorDim := 2
  sliceSizes := ![1, 1, K]
  wf := wf

/-- The row taken is the one the start index names, when it names one. -/
theorem row_apply {α : Type} {K : ℕ}
    (wf : GatherDims.WF ⟨3, ![4, 100, K]⟩ ⟨3, ![4, 20000, 1]⟩ ⟨3, ![4, 20000, K]⟩ [2] [1] [0] [1] [0] 2 ![1, 1, K])
    (x : (⟨3, ![4, 100, K]⟩ : Shape).Idx → α) (idx : IVec ⟨3, ![4, 20000, 1]⟩ 32) (b : Fin 4) (a : Fin 20000) (k : Fin K) (n : Fin 100)
    (hn : idx (ix3 b a (0 : Fin 1)) = BitVec.ofNat 32 n.val) :
    Host.gather (rowDims K wf) x idx (ix3 b a k) = x (ix3 b n k) := by
  unfold Host.gather
  refine congrArg x (funext fun c => Fin.ext ?_)
  show (rowDims K wf).start (ix3 b a k) idx c + (rowDims K wf).batchCoord (ix3 b a k) c + (rowDims K wf).offCoord (ix3 b a k) c = _
  have hi : ((BitVec.ofNat 32 n.val).toInt.toNat : ℕ) = n.val := by
    rw [BitVec.toInt_eq_toNat_of_lt (by rw [BitVec.toNat_ofNat, Nat.mod_eq_of_lt (by omega)]; omega), BitVec.toNat_ofNat, Nat.mod_eq_of_lt (by omega)]
    rfl
  have hc : c = 0 ∨ c = 1 ∨ c = 2 := by
    match c with
    | ⟨0, _⟩ => exact .inl rfl
    | ⟨1, _⟩ => exact .inr (.inl rfl)
    | ⟨2, _⟩ => exact .inr (.inr rfl)
  rcases hc with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (rowDims K wf).operandBatchingDims from List.mem_singleton.mpr rfl)]
    show 0 + b.val + 0 = b.val
    omega
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (show (1 : Fin 3) ∈ (rowDims K wf).startIndexMap from List.mem_singleton.mpr rfl)]
    have hsi : (rowDims K wf).siIdx (ix3 b a k) ⟨List.idxOf (1 : Fin 3) (rowDims K wf).startIndexMap,
          List.idxOf_lt_length_iff.2 (List.mem_singleton.mpr rfl)⟩ = ix3 b a (0 : Fin 1) := by
      funext d; refine Fin.ext ?_
      match d with
      | ⟨0, _⟩ => rfl
      | ⟨1, _⟩ => rfl
      | ⟨2, _⟩ => rfl
    rw [hsi, hn, hi]
    show min n.val 99 + 0 + 0 = n.val
    omega
  · rw [GatherDims.batchCoord_eq_zero _ _ _ (fun h => by simp at h)]
    unfold GatherDims.start
    rw [dif_neg (fun h => by simp at h)]
    show 0 + 0 + k.val = k.val
    omega

/-- The rows of the class array that the reference takes. -/
theorem gather_class {α : Type} (x : S4x100x80.Idx → α) (idx : IVec S4x20000x1 32) (b : Fin 4) (a : Fin 20000) (k : Fin 80) (n : Fin 100)
    (hn : idx (ix3 b a (0 : Fin 1)) = BitVec.ofNat 32 n.val) :
    Host.gather gather_S4x100x80_S4x20000x1_S4x20000x80_2_1_0_0_1_2_1180 x idx (ix3 b a k) = x (ix3 b n k) := by
  exact row_apply _ x idx b a k n hn
/-- The rows of the box array that the reference takes. -/
theorem gather_box {α : Type} (x : S4x100x4.Idx → α) (idx : IVec S4x20000x1 32) (b : Fin 4) (a : Fin 20000) (k : Fin 4) (n : Fin 100)
    (hn : idx (ix3 b a (0 : Fin 1)) = BitVec.ofNat 32 n.val) :
    Host.gather gather_S4x100x4_S4x20000x1_S4x20000x4_2_1_0_0_1_2_114 x idx (ix3 b a k) = x (ix3 b n k) := by
  exact row_apply _ x idx b a k n hn

variable (V0 : Vals Ideal)

/-- The reference's row of box numbers is that arg-max. -/
theorem v61_eq : (res_main_v61 V0 : IVec S4x20000 32) = fun j => (Host.argReduce (F := Ideal) reducer_argmax_f32_i32 (res_main_v59 V0)
    (res_main_call2_v0 V0) (res_main_call2_cst V0) (res_main_call2_c V0) Gen.reducesTo_S4x20000x100_S4x20000_d2 Gen.h_S_ j).2 := by
  exact rfl
/-- An arg-max of the overlaps, read at an index. -/
theorem argmax_read (u : IVec S4x20000 32) (v : FVec Ideal S4x20000x100 .f32) (y : IVec S4x20000x100 32) (c : FVec Ideal S_ .f32) (z : IVec S_ 32)
    (hu : u = fun j => (Host.argReduce (F := Ideal) reducer_argmax_f32_i32 v y c z Gen.reducesTo_S4x20000x100_S4x20000_d2 Gen.h_S_ j).2)
    (hy : y = iotaInDim S4x20000x100 32 2) (hc : c = constant S_ .f32 0xFF800000#32) (hz : z = constantI S_ 32 0#32)
    (b : Fin 4) (a : Fin 20000) (w : Fin 100 → EReal) (e : ∀ t, v (ix3 b a t) = w t) :
    ∃ n : Fin 100, u (ix2 b a) = BitVec.ofNat 32 n.val
      ∧ (⊥ < best w → w n = best w ∧ ∀ t, w t = best w → n ≤ t) := by
  subst hy hc hz
  obtain ⟨n, h1, h2⟩ := argmax_of v b a w e
  exact ⟨n, (congrFun hu (ix2 b a)).trans h1, h2⟩
/-- The box an anchor is given is the first of its best ones. -/
theorem v61_apply (b : Fin 4) (a : Fin 20000) :
    ∃ n : Fin 100, (res_main_v61 V0 : IVec S4x20000 32) (ix2 b a) = BitVec.ofNat 32 n.val
      ∧ (⊥ < best (ovl V0 b a) → ovl V0 b a n = best (ovl V0 b a) ∧ ∀ t, ovl V0 b a t = best (ovl V0 b a) → n ≤ t) := by
  exact argmax_read (res_main_v61 V0) (res_main_v59 V0) (res_main_call2_v0 V0) (res_main_call2_cst V0) (res_main_call2_c V0) (v61_eq V0)
    rfl rfl rfl b a (ovl V0 b a) (fun t => v59_apply V0 b a t)
/-- The number of the box the reference gives anchor `a`. -/
def arg (b : Fin 4) (a : Fin 20000) : Fin 100 := (v61_apply V0 b a).choose
/-- The reference's array of chosen boxes, as numbers. -/
theorem v61_arg (b : Fin 4) (a : Fin 20000) : (res_main_v61 V0 : IVec S4x20000 32) (ix2 b a) = BitVec.ofNat 32 (arg V0 b a).val := by
  exact (v61_apply V0 b a).choose_spec.1
/-- The chosen box has the best overlap, and is the first that has it. -/
theorem arg_best (b : Fin 4) (a : Fin 20000) (h : ⊥ < best (ovl V0 b a)) :
    ovl V0 b a (arg V0 b a) = best (ovl V0 b a) ∧ ∀ t, ovl V0 b a t = best (ovl V0 b a) → arg V0 b a ≤ t := by
  exact (v61_apply V0 b a).choose_spec.2 h
/-- A start index with a negative one counted from the end, at an index. -/
theorem wrap_apply (u : IVec S4x20000 32) (b : Fin 4) (a : Fin 20000) :
    broadcastInDim S4x20000x1 ![0, 1] Gen.bcast_S4x20000_S4x20000x1_0_1 (select (cmpi .slt u (broadcastInDim S4x20000 ![] Gen.bcast_S_S4x20000 (constantI S_ 32 0#32))) (addi u (broadcastInDim S4x20000 ![] Gen.bcast_S_S4x20000 (constantI S_ 32 100#32))) u) (ix3 b a (0 : Fin 1))
      = Scalar.select (IntOp.cmpi .slt (u (ix2 b a)) 0#32) (IntOp.addi (u (ix2 b a)) 100#32) (u (ix2 b a)) := by
  pointwise
/-- A box's number is not negative, so it is not counted from the end. -/
theorem wrap_arg (n : Fin 100) : Scalar.select (IntOp.cmpi .slt (BitVec.ofNat 32 n.val) 0#32) (IntOp.addi (BitVec.ofNat 32 n.val) 100#32) (BitVec.ofNat 32 n.val)
    = BitVec.ofNat 32 n.val := by
  revert n; decide
/-- A box's number lies between 0 and 99. -/
theorem inside_arg (n : Fin 100) : IntOp.andi (IntOp.cmpi .sge (BitVec.ofNat 32 n.val) 0#32) (IntOp.cmpi .sle (BitVec.ofNat 32 n.val) 99#32) = 1#1 := by
  revert n; decide
/-- Where the gather of the class rows starts. -/
theorem start_class (b : Fin 4) (a : Fin 20000) : (res_main_call5_v5 V0 : IVec S4x20000x1 32) (ix3 b a (0 : Fin 1)) = BitVec.ofNat 32 (arg V0 b a).val := by
  refine (wrap_apply (res_main_v61 V0) b a).trans ?_
  rw [v61_arg, wrap_arg]
/-- Where the gather of the boxes starts. -/
theorem start_box (b : Fin 4) (a : Fin 20000) : (res_main_call7_v5 V0 : IVec S4x20000x1 32) (ix3 b a (0 : Fin 1)) = BitVec.ofNat 32 (arg V0 b a).val := by
  refine (wrap_apply (res_main_v61 V0) b a).trans ?_
  rw [v61_arg, wrap_arg]
/-- Every start index lies inside the array, so the test for it comes out true everywhere. -/
theorem inside (u : IVec S4x20000x1 32) (h : ∀ b a, ∃ n : Fin 100, u (ix3 b a (0 : Fin 1)) = BitVec.ofNat 32 n.val) (j : S4x20000.Idx) :
    Host.reduce IntOp.andi (andi (cmpi .sge u (broadcastInDim S4x20000x1 ![] Gen.bcast_S_S4x20000x1 (constantI S_ 32 0#32))) (cmpi .sle u (broadcastInDim S4x20000x1 ![0, 1, 2] Gen.bcast_S1x1x1_S4x20000x1_0_1_2 (broadcastInDim S1x1x1 ![2] Gen.bcast_S1_S1x1x1_2 (constantI S1 32 99#32))))) (constantI S_ 1 1#1) Gen.reducesTo_S4x20000x1_S4x20000_d2 Gen.h_S_ j = 1#1 := by
  refine Host.reduce_andi_one _ _ _ _ _ rfl fun i => ?_
  obtain ⟨b, a, z, rfl⟩ : ∃ (b : Fin 4) (a : Fin 20000) (z : Fin 1), i = ix3 b a z := ⟨i 0, i 1, i 2, by
    refine funext fun c => ?_
    match c with
    | ⟨0, _⟩ => rfl
    | ⟨1, _⟩ => rfl
    | ⟨2, _⟩ => rfl⟩
  obtain rfl : z = 0 := Subsingleton.elim _ _
  obtain ⟨n, hn⟩ := h b a
  have e : andi (cmpi .sge u (broadcastInDim S4x20000x1 ![] Gen.bcast_S_S4x20000x1 (constantI S_ 32 0#32))) (cmpi .sle u (broadcastInDim S4x20000x1 ![0, 1, 2] Gen.bcast_S1x1x1_S4x20000x1_0_1_2 (broadcastInDim S1x1x1 ![2] Gen.bcast_S1_S1x1x1_2 (constantI S1 32 99#32)))) (ix3 b a (0 : Fin 1))
      = IntOp.andi (IntOp.cmpi .sge (u (ix3 b a (0 : Fin 1))) 0#32) (IntOp.cmpi .sle (u (ix3 b a (0 : Fin 1))) 99#32) := by
    pointwise
  rw [e, hn, inside_arg]
/-- The box an anchor is given, by coordinate. -/
theorem v76_apply (b : Fin 4) (a : Fin 20000) (k : Fin 4) :
    (res_main_v76 V0 : FVec Ideal S4x20000x4 .f32) (ix3 b a k) = tru V0 b (arg V0 b a) k := by
  unfold res_main_v76
  refine (ValueIdx.select_apply _ _ _ _).trans ?_
  rw [gather_box _ _ b a k _ (start_box V0 b a)]
  have h : ∀ j : S4x20000x4.Idx, broadcastInDim S4x20000x4 ![0, 1] Gen.bcast_S4x20000_S4x20000x4_0_1 (fun _ : S4x20000.Idx => 1#1) j = 1#1 := fun j => rfl
  rw [funext (inside (res_main_call7_v5 V0) fun b a => ⟨_, start_box V0 b a⟩), h]
  rfl
/-- The class rows, chosen where the anchor is positive and counted where it has weight. -/
theorem class_read (u : IVec S4x20000 1) (q : S4x20000.Idx → BitVec 1) (g n : FVec Ideal S4x20000x80 .f32) (r : FVec Ideal S20000x80 .f32) (p : FVec Ideal S4x20000x1 .f32)
    (b : Fin 4) (a : Fin 20000) (k : Fin 80) :
    mulf (select (broadcastInDim S4x20000x80 ![0, 1, 2] Gen.bcast_S4x20000x1_S4x20000x80_0_1_2 (broadcastInDim S4x20000x1 ![0, 1] Gen.bcast_S4x20000_S4x20000x1_0_1 u)) (select (broadcastInDim S4x20000x80 ![0, 1] Gen.bcast_S4x20000_S4x20000x80_0_1 q) g n) (broadcastInDim S4x20000x80 ![1, 2] Gen.bcast_S20000x80_S4x20000x80_1_2 r)) (broadcastInDim S4x20000x80 ![0, 1, 2] Gen.bcast_S4x20000x1_S4x20000x80_0_1_2 p) (ix3 b a k)
      = Scalar.select (u (ix2 b a)) (Scalar.select (q (ix2 b a)) (g (ix3 b a k)) (n (ix3 b a k))) (r (ix2 a k)) * p (ix3 b a (0 : Fin 1)) := by
  pointwise
/-- The class row of an anchor: that of its box where it is positive, and zero elsewhere. -/
theorem v174_apply (b : Fin 4) (a : Fin 20000) (k : Fin 80) :
    (res_main_v174 V0 : FVec Ideal S4x20000x80 .f32) (ix3 b a k)
      = if half ≤ best (ovl V0 b a) then rY V0 (ix3 b (arg V0 b a) k) else 0 := by
  unfold res_main_v174
  refine (class_read _ _ _ _ _ _ b a k).trans ?_
  rw [gather_class _ _ b a k _ (start_class V0 b a), inside (res_main_call5_v5 V0) fun b a => ⟨_, start_class V0 b a⟩, v163_apply, v63_apply]
  unfold posv
  by_cases h : half ≤ best (ovl V0 b a)
  · rw [if_pos h, if_pos h, if_pos h, mul_one]; rfl
  · rw [if_neg h, if_neg h, if_neg h, mul_zero]
end Cert.RefRun
-- ==== Proof.Ref.Terms.lean ====
/-
The reference's two losses, term by term.
-/
module

public import proofs.«01_k».proof.Proof.Ref.Arg

@[expose] public section
set_option maxRecDepth 10000
noncomputable section
open Idealize.ShloMosaic Idealize.ShloMosaic.TcCoe Idealize.SL.Sem
open scoped BigOperators
namespace Cert.RefRun
open Cert.ReferenceIdeal Cert.Loss

/-- The sigmoid of a logit. -/
def sig (l : EReal) : EReal := Ideal.div 1 (1 + Ideal.exp (-l))
/-- The focal loss of a logit against a label. -/
def focal (y l : EReal) : EReal :=
  (fc 0x3E800000#32 * y + fc 0x3F400000#32 * (1 - y))
    * Ideal.pow (1 - (sig l * y + (1 - sig l) * (1 - y))) (fc 0x40000000#32)
    * (max l 0 - l * y + Ideal.log1p (Ideal.exp (-abv l)))
/-- One at an anchor that is positive or background. -/
def seen {n : ℕ} (v : Fin n → EReal) : EReal := if half ≤ best v ∨ best v < thr then 1 else 0
/-- What the reference asks of an anchor's prediction for a box. -/
def target (A G : Box) (k : Fin 4) : EReal :=
  ![Ideal.div (Ideal.div (ctr (G 0) (G 2) - ctr (A 0) (A 2)) (wid (A 0) (A 2))) 1,
    Ideal.div (Ideal.div (ctr (G 1) (G 3) - ctr (A 1) (A 3)) (wid (A 1) (A 3))) 1,
    Ideal.div (Ideal.log (Ideal.div (wid (G 0) (G 2)) (wid (A 0) (A 2)))) 1,
    Ideal.div (Ideal.log (Ideal.div (wid (G 1) (G 3)) (wid (A 1) (A 3)))) 1] k

variable (V0 : Vals Ideal)

/-- The width of an anchor. -/
theorem v83_apply (a : Fin 20000) : (res_main_v83 V0 : FVec Ideal S20000 .f32) (ix1 a) = wid (box V0 a 0) (box V0 a 2) := by
  pointwise [res_main_v83]
  rfl
/-- The height of an anchor. -/
theorem v90_apply (a : Fin 20000) : (res_main_v90 V0 : FVec Ideal S20000 .f32) (ix1 a) = wid (box V0 a 1) (box V0 a 3) := by
  pointwise [res_main_v90]
  rfl
/-- The width of an anchor's box. -/
theorem v107_apply (b : Fin 4) (a : Fin 20000) : (res_main_v107 V0 : FVec Ideal S4x20000 .f32) (ix2 b a)
    = wid (tru V0 b (arg V0 b a) 0) (tru V0 b (arg V0 b a) 2) := by
  rw [← v76_apply V0 b a 0, ← v76_apply V0 b a 2]
  unfold wid
  pointwise [res_main_v107]
/-- The height of an anchor's box. -/
theorem v114_apply (b : Fin 4) (a : Fin 20000) : (res_main_v114 V0 : FVec Ideal S4x20000 .f32) (ix2 b a)
    = wid (tru V0 b (arg V0 b a) 1) (tru V0 b (arg V0 b a) 3) := by
  rw [← v76_apply V0 b a 1, ← v76_apply V0 b a 3]
  unfold wid
  pointwise [res_main_v114]
/-- The sigmoid of a logit. -/
theorem v189_apply (b : Fin 4) (a : Fin 20000) (l : Fin 80) : (res_main_v189 V0 : FVec Ideal S4x20000x80 .f32) (ix3 b a l)
    = sig (rL V0 (ix3 b a l)) := by
  unfold sig
  pointwise [res_main_v189]
/-- One where the state is not zero. -/
theorem ne_read (b : Fin 4) (a : Fin 20000) :
    (FloatOps.uitofp FTy.f32 (IntOp.cmpi CmpIPredicate.ne (if half ≤ best (ovl V0 b a) then 1#32 else if best (ovl V0 b a) < thr then 4294967295#32 else 0#32) 0#32) : Ideal .f32)
      = seen (ovl V0 b a) := by
  unfold seen
  by_cases h : half ≤ best (ovl V0 b a)
  · rw [if_pos h, if_pos (.inl h)]
    show ((((1#1 : BitVec 1).toNat : ℕ) : ℝ) : EReal) = _
    simp
  · by_cases h' : best (ovl V0 b a) < thr
    · rw [if_neg h, if_pos h', if_pos (.inr h')]
      show ((((1#1 : BitVec 1).toNat : ℕ) : ℝ) : EReal) = _
      simp
    · rw [if_neg h, if_neg h', if_neg (by tauto)]
      show ((((0#1 : BitVec 1).toNat : ℕ) : ℝ) : EReal) = _
      simp
/-- The focal loss of the reference, from its arrays. -/
theorem v213_read (v174 v189 L : FVec Ideal S4x20000x80 .f32) (v68 : IVec S4x20000 32) (v172 : FVec Ideal S_ .f32) :
    (Host.divf (Host.reduceAdd (mulf (mulf (mulf (addf (mulf (broadcastInDim S4x20000x80 ![] Gen.bcast_S_S4x20000x80 (constant S_ .f32 0x3E800000#32)) v174) (mulf (broadcastInDim S4x20000x80 ![] Gen.bcast_S_S4x20000x80 (constant S_ .f32 0x3F400000#32)) (subf (broadcastInDim S4x20000x80 ![] Gen.bcast_S_S4x20000x80 (constant S_ .f32 0x3F800000#32)) v174))) (Host.powf (subf (broadcastInDim S4x20000x80 ![] Gen.bcast_S_S4x20000x80 (constant S_ .f32 0x3F800000#32)) (addf (mulf v189 v174) (mulf (subf (broadcastInDim S4x20000x80 ![] Gen.bcast_S_S4x20000x80 (constant S_ .f32 0x3F800000#32)) v189) (subf (broadcastInDim S4x20000x80 ![] Gen.bcast_S_S4x20000x80 (constant S_ .f32 0x3F800000#32)) v174)))) (broadcastInDim S4x20000x80 ![] Gen.bcast_S_S4x20000x80 (constant S_ .f32 0x40000000#32)))) (addf (subf (maximumf L (broadcastInDim S4x20000x80 ![] Gen.bcast_S_S4x20000x80 (constant S_ .f32 0x00000000#32))) (mulf L v174)) (Host.log1p (Host.exp (Host.negf (Host.absf L)))))) (broadcastInDim S4x20000x80 ![0, 1, 2] Gen.bcast_S4x20000x1_S4x20000x80_0_1_2 (broadcastInDim S4x20000x1 ![0, 1] Gen.bcast_S4x20000_S4x20000x1_0_1 (uitofp .f32 (cmpi .ne v68 (broadcastInDim S4x20000 ![] Gen.bcast_S_S4x20000 (constantI S_ 32 0#32))))))) (constant S_ .f32 0x00000000#32) Gen.reducesTo_S4x20000x80_S_d0_1_2 Gen.h_S_) v172 : FVec Ideal S_ .f32) ix0
    = Ideal.div (∑ b : Fin 4, ∑ a : Fin 20000, ∑ l : Fin 80,
        (fc 0x3E800000#32 * v174 (ix3 b a l) + fc 0x3F400000#32 * (1 - v174 (ix3 b a l)))
        * Ideal.pow (1 - (v189 (ix3 b a l) * v174 (ix3 b a l) + (1 - v189 (ix3 b a l)) * (1 - v174 (ix3 b a l)))) (fc 0x40000000#32)
        * (max (L (ix3 b a l)) 0 - L (ix3 b a l) * v174 (ix3 b a l) + Ideal.log1p (Ideal.exp (-FloatOps.absf (L (ix3 b a l)))))
        * FloatOps.uitofp (F := Ideal) FTy.f32 (IntOp.cmpi CmpIPredicate.ne (v68 (ix2 b a)) 0#32))
      (v172 ix0) := by
  pointwise
/-- One term of it. -/
theorem focal_term (b : Fin 4) (a : Fin 20000) (l : Fin 80) (y p x : EReal) (u : BitVec 32)
    (hy : y = if half ≤ best (ovl V0 b a) then rY V0 (ix3 b (arg V0 b a) l) else 0) (hp : p = sig x)
    (hu : u = if half ≤ best (ovl V0 b a) then 1#32 else if best (ovl V0 b a) < thr then 4294967295#32 else 0#32) :
    (fc 0x3E800000#32 * y + fc 0x3F400000#32 * (1 - y)) * Ideal.pow (1 - (p * y + (1 - p) * (1 - y))) (fc 0x40000000#32)
        * (max x 0 - x * y + Ideal.log1p (Ideal.exp (-FloatOps.absf (F := Ideal) (φ := .f32) x)))
        * FloatOps.uitofp (F := Ideal) FTy.f32 (IntOp.cmpi CmpIPredicate.ne u 0#32)
      = focal (if half ≤ best (ovl V0 b a) then rY V0 (ix3 b (arg V0 b a) l) else 0) x * seen (ovl V0 b a) := by
  rw [← hy, hp, hu, ne_read V0 b a]
  rfl
/-- The reference's focal loss. -/
theorem v213_apply : (res_main_v213 V0 : FVec Ideal S_ .f32) ix0
    = Ideal.div (∑ b : Fin 4, ∑ a : Fin 20000, ∑ l : Fin 80,
        focal (if half ≤ best (ovl V0 b a) then rY V0 (ix3 b (arg V0 b a) l) else 0) (rL V0 (ix3 b a l)) * seen (ovl V0 b a))
      (∑ b, max (∑ a, posv (ovl V0 b a)) 1) := by
  refine (v213_read (res_main_v174 V0) (res_main_v189 V0) (rL V0) (res_main_v68 V0) (res_main_v172 V0)).trans ?_
  exact congrArg₂ Ideal.div (Finset.sum_congr rfl fun b _ => Finset.sum_congr rfl fun a _ => Finset.sum_congr rfl fun l _ =>
    focal_term V0 b a l _ _ _ _ (v174_apply V0 b a l) (v189_apply V0 b a l) (v68_apply V0 b a)) (v172_apply V0)
/-- The box loss of the reference, from its arrays. -/
theorem v227_read (v215 : FVec Ideal S4x20000x4 .f32) (v163 : FVec Ideal S4x20000x1 .f32) (v172 : FVec Ideal S_ .f32) :
    (Host.divf (Host.reduceAdd (mulf (select (cmpf .olt v215 (broadcastInDim S4x20000x4 ![] Gen.bcast_S_S4x20000x4 (constant S_ .f32 0x3F800000#32))) (mulf (mulf (broadcastInDim S4x20000x4 ![] Gen.bcast_S_S4x20000x4 (constant S_ .f32 0x3F000000#32)) v215) v215) (subf v215 (broadcastInDim S4x20000x4 ![] Gen.bcast_S_S4x20000x4 (constant S_ .f32 0x3F000000#32)))) (broadcastInDim S4x20000x4 ![0, 1, 2] Gen.bcast_S4x20000x1_S4x20000x4_0_1_2 v163)) (constant S_ .f32 0x00000000#32) Gen.reducesTo_S4x20000x4_S_d0_1_2 Gen.h_S_) v172 : FVec Ideal S_ .f32) ix0
    = Ideal.div (∑ b : Fin 4, ∑ a : Fin 20000, ∑ k : Fin 4,
        (if v215 (ix3 b a k) < 1 then half * v215 (ix3 b a k) * v215 (ix3 b a k) else v215 (ix3 b a k) - half) * v163 (ix3 b a (0 : Fin 1)))
      (v172 ix0) := by
  pointwise
/-- The arrays the targets are made of. -/
abbrev w76 : FVec Ideal S4x20000x4 .f32 := res_main_v76 V0
@[inherit_doc w76] abbrev w107 : FVec Ideal S4x20000 .f32 := res_main_v107 V0
@[inherit_doc w76] abbrev w114 : FVec Ideal S4x20000 .f32 := res_main_v114 V0
@[inherit_doc w76] abbrev w83 : FVec Ideal S20000 .f32 := res_main_v83 V0
@[inherit_doc w76] abbrev w90 : FVec Ideal S20000 .f32 := res_main_v90 V0
theorem v215_read0 (b : Fin 4) (a : Fin 20000) : (res_main_v215 V0 : FVec Ideal S4x20000x4 .f32) (ix3 b a (0 : Fin 4))
    = FloatOps.absf (F := Ideal) (φ := .f32) (rP V0 (ix3 b a (0 : Fin 4)) - Scalar.select ((res_main_v63 V0 : IVec S4x20000 1) (ix2 b a))
      (Ideal.div (Ideal.div ((w76 V0) (ix3 b a (0 : Fin 4)) + half * (w107 V0) (ix2 b a)
          - (rA V0 (ix2 a (0 : Fin 4)) + half * (w83 V0) (ix1 a))) ((w83 V0) (ix1 a))) 1) 0) := by
  pointwise [res_main_v215, id]
/-- How far a prediction is from its target in the second coordinate. -/
theorem v215_read1 (b : Fin 4) (a : Fin 20000) : (res_main_v215 V0 : FVec Ideal S4x20000x4 .f32) (ix3 b a (1 : Fin 4))
    = FloatOps.absf (F := Ideal) (φ := .f32) (rP V0 (ix3 b a (1 : Fin 4)) - Scalar.select ((res_main_v63 V0 : IVec S4x20000 1) (ix2 b a))
      (Ideal.div (Ideal.div ((w76 V0) (ix3 b a (1 : Fin 4)) + half * (w114 V0) (ix2 b a)
          - (rA V0 (ix2 a (1 : Fin 4)) + half * (w90 V0) (ix1 a))) ((w90 V0) (ix1 a))) 1) 0) := by
  pointwise [res_main_v215, id]
/-- How far a prediction is from its target in the third coordinate. -/
theorem v215_read2 (b : Fin 4) (a : Fin 20000) : (res_main_v215 V0 : FVec Ideal S4x20000x4 .f32) (ix3 b a (2 : Fin 4))
    = FloatOps.absf (F := Ideal) (φ := .f32) (rP V0 (ix3 b a (2 : Fin 4)) - Scalar.select ((res_main_v63 V0 : IVec S4x20000 1) (ix2 b a))
      (Ideal.div (Ideal.log (Ideal.div ((w107 V0) (ix2 b a)) ((w83 V0) (ix1 a)))) 1) 0) := by
  pointwise [res_main_v215, id]
/-- How far a prediction is from its target in the fourth coordinate. -/
theorem v215_read3 (b : Fin 4) (a : Fin 20000) : (res_main_v215 V0 : FVec Ideal S4x20000x4 .f32) (ix3 b a (3 : Fin 4))
    = FloatOps.absf (F := Ideal) (φ := .f32) (rP V0 (ix3 b a (3 : Fin 4)) - Scalar.select ((res_main_v63 V0 : IVec S4x20000 1) (ix2 b a))
      (Ideal.div (Ideal.log (Ideal.div ((w114 V0) (ix2 b a)) ((w90 V0) (ix1 a)))) 1) 0) := by
  pointwise [res_main_v215, id]
/-- A choice on the bit of a test is the choice on the test. -/
theorem select_if (p : Prop) [Decidable p] (x y : EReal) : Scalar.select (if p then 1#1 else 0#1) x y = if p then x else y := by
  by_cases h : p
  · rw [if_pos h, if_pos h]; rfl
  · rw [if_neg h, if_neg h]; rfl
/-- How far the prediction is from what is asked. -/
theorem v215_apply (b : Fin 4) (a : Fin 20000) (k : Fin 4) : (res_main_v215 V0 : FVec Ideal S4x20000x4 .f32) (ix3 b a k)
    = abv (rP V0 (ix3 b a k) - if half ≤ best (ovl V0 b a) then target (box V0 a) (tru V0 b (arg V0 b a)) k else 0) := by
  match k with
  | ⟨0, _⟩ =>
    refine (v215_read0 V0 b a).trans ?_
    rw [v63_apply, select_if, show w76 V0 (ix3 b a (0 : Fin 4)) = _ from v76_apply V0 b a 0, show w107 V0 (ix2 b a) = _ from v107_apply V0 b a, show w83 V0 (ix1 a) = _ from v83_apply V0 a]; rfl
  | ⟨1, _⟩ =>
    refine (v215_read1 V0 b a).trans ?_
    rw [v63_apply, select_if, show w76 V0 (ix3 b a (1 : Fin 4)) = _ from v76_apply V0 b a 1, show w114 V0 (ix2 b a) = _ from v114_apply V0 b a, show w90 V0 (ix1 a) = _ from v90_apply V0 a]; rfl
  | ⟨2, _⟩ =>
    refine (v215_read2 V0 b a).trans ?_
    rw [v63_apply, select_if, show w107 V0 (ix2 b a) = _ from v107_apply V0 b a, show w83 V0 (ix1 a) = _ from v83_apply V0 a]; rfl
  | ⟨3, _⟩ =>
    refine (v215_read3 V0 b a).trans ?_
    rw [v63_apply, select_if, show w114 V0 (ix2 b a) = _ from v114_apply V0 b a, show w90 V0 (ix1 a) = _ from v90_apply V0 a]; rfl
/-- The reference's box loss. -/
theorem v227_apply : (res_main_v227 V0 : FVec Ideal S_ .f32) ix0
    = Ideal.div (∑ b : Fin 4, ∑ a : Fin 20000, ∑ k : Fin 4,
        smooth (abv (rP V0 (ix3 b a k) - if half ≤ best (ovl V0 b a) then target (box V0 a) (tru V0 b (arg V0 b a)) k else 0)) * posv (ovl V0 b a))
      (∑ b, max (∑ a, posv (ovl V0 b a)) 1) := by
  refine (v227_read (res_main_v215 V0) (res_main_v163 V0) (res_main_v172 V0)).trans ?_
  exact congrArg₂ Ideal.div (Finset.sum_congr rfl fun b _ => Finset.sum_congr rfl fun a _ => Finset.sum_congr rfl fun k _ =>
    congrArg₂ (· * ·) (congrArg smooth (v215_apply V0 b a k)) (v163_apply V0 b a)) (v172_apply V0)
end Cert.RefRun
-- ==== Proof.Eq.Focal.lean ====
/-
The two writings of the focal loss of one finite logit agree.
-/
module

public import proofs.«01_k».proof.Proof.Ref.Terms

@[expose] public section
noncomputable section
open Idealize.ShloMosaic
open scoped BigOperators
namespace Cert.Eq
open Cert.Loss Cert.RefRun

/-- The weight of a positive label is one quarter. -/
theorem quarter_eq : fc 0x3E800000#32 = ((1/4 : ℝ) : EReal) := by
  simp [Ideal.ofBits, Ideal.ieee]
  rw [← EReal.coe_mul]
  norm_num
/-- The weight of a zero label is three quarters. -/
theorem threeq_eq : fc 0x3F400000#32 = ((3/4 : ℝ) : EReal) := by
  simp [Ideal.ofBits, Ideal.ieee]
  rw [← EReal.coe_mul]
  norm_num
/-- The exponent is two. -/
theorem two_eq : fc 0x40000000#32 = ((2 : ℝ) : EReal) := by
  simp [Ideal.ofBits, Ideal.ieee]
  rw [← EReal.coe_mul]
  norm_num
/-- One half. -/
theorem half_eq : half = ((1/2 : ℝ) : EReal) := by
  simp [Ideal.ofBits, Ideal.ieee]
  rw [← EReal.coe_mul]
  norm_num
/-- The background threshold does not exceed one half. -/
theorem thr_le_half : thr ≤ half := by
  rw [half_eq]
  simp [Ideal.ofBits, Ideal.ieee]
  rw [← EReal.coe_mul]
  norm_cast
  norm_num
/-- The smallest width is a positive number. -/
theorem tiny_eq : ∃ r : ℝ, 0 < r ∧ tiny = ((r : ℝ) : EReal) := by
  refine ⟨8796093 * ((2 : ℝ) ^ 43)⁻¹, by positivity, ?_⟩
  simp [Ideal.ofBits, Ideal.ieee]
/-- A padding box has overlap minus one. -/
theorem neg1_eq : neg1 = ((-1 : ℝ) : EReal) := by
  simp [Ideal.ofBits, Ideal.ieee]
  rw [← EReal.coe_mul]
  norm_num
/-- The larger of two numbers. -/
theorem max_real (x y : ℝ) : ((max x y : ℝ) : EReal) = max (x : EReal) (y : EReal) := by
  exact EReal.coe_strictMono.monotone.map_max

/-- The absolute value of a number. -/
theorem abv_real (x : ℝ) : abv (x : EReal) = ((|x| : ℝ) : EReal) := by
  unfold abv
  rw [← EReal.coe_neg, ← max_real]
  rfl
/-- The reciprocal of a positive number. -/
theorem inv_real (x : ℝ) (h : 0 < x) : Ideal.div 1 (x : EReal) = ((1 / x : ℝ) : EReal) := by
  rw [Ideal.div_coe h.ne', one_mul]
/-- The sigmoid of a number. -/
theorem sig_real (x : ℝ) : sig (x : EReal) = ((1 / (1 + Real.exp (-x)) : ℝ) : EReal) := by
  unfold sig
  rw [← EReal.coe_neg, Ideal.exp_coe, ← EReal.coe_one, ← EReal.coe_add, EReal.coe_one]
  exact inv_real _ (by positivity)
/-- The decay of a number. -/
theorem decay_real (x : ℝ) : decay (x : EReal) = ((Real.exp (-|x|) : ℝ) : EReal) := by
  unfold decay
  rw [abv_real, zer, zero_sub, ← EReal.coe_neg, Ideal.exp_coe]
/-- The kernel's probability is the sigmoid. -/
theorem prob_real (x : ℝ) : prob (x : EReal) = ((1 / (1 + Real.exp (-x)) : ℝ) : EReal) := by
  unfold prob
  rw [decay_real, one, ← EReal.coe_one, ← EReal.coe_add, EReal.coe_one, inv_real _ (by positivity)]
  by_cases h : 0 ≤ x
  · rw [if_pos (by rw [zer]; exact_mod_cast h), abs_of_nonneg h]
  · rw [if_neg (by rw [zer]; exact_mod_cast h), abs_of_neg (not_le.1 h), neg_neg, ← EReal.coe_mul]
    congr 1
    have e : Real.exp x * Real.exp (-x) = 1 := by rw [← Real.exp_add]; simp
    have h1 : 0 < Real.exp x := Real.exp_pos x
    have h2 : 0 < Real.exp (-x) := Real.exp_pos _
    field_simp
    nlinarith
/-- The logarithm of one plus the decay. -/
theorem log1p_real (x : ℝ) : Ideal.log1p (Ideal.exp (-abv (x : EReal))) = ((Real.log (1 + Real.exp (-|x|)) : ℝ) : EReal) := by
  unfold Ideal.log1p
  rw [abv_real, ← EReal.coe_neg, Ideal.exp_coe, ← EReal.coe_one, ← EReal.coe_add, Ideal.log_coe, if_neg (by have := Real.exp_pos (-|x|); linarith)]
/-- The soft plus of a number. -/
theorem soft_real (x : ℝ) : soft (x : EReal) = ((max x 0 + Real.log (1 + Real.exp (-|x|)) : ℝ) : EReal) := by
  have e : decay (x : EReal) = Ideal.exp (-abv (x : EReal)) := by unfold decay; rw [zer, zero_sub]
  unfold soft
  rw [e, log1p_real, zer, ← EReal.coe_zero, ← max_real, ← EReal.coe_add]
/-- The square of a number. -/
theorem pow_two_real (x : ℝ) : Ideal.pow (x : EReal) (fc 0x40000000#32) = ((x * x : ℝ) : EReal) := by
  rw [two_eq, Ideal.pow_coe_coe]
  congr 1
  show x ^ (2 : ℝ) = x * x
  rw [Real.rpow_two, sq]

/-- The focal loss of a zero label, of a number. -/
theorem fneg_real (x : ℝ) : fneg (x : EReal) = ((3/4 * ((1 / (1 + Real.exp (-x))) * (1 / (1 + Real.exp (-x)))) * (max x 0 + Real.log (1 + Real.exp (-|x|))) : ℝ) : EReal) := by
  unfold fneg
  rw [prob_real, soft_real, threeq_eq]
  norm_cast
/-- The focal loss of a label of one, of a number. -/
theorem fpos_real (x : ℝ) : fpos (x : EReal) = ((1/4 * ((1 - 1 / (1 + Real.exp (-x))) * (1 - 1 / (1 + Real.exp (-x)))) * (max x 0 + Real.log (1 + Real.exp (-|x|)) - x) : ℝ) : EReal) := by
  unfold fpos
  rw [prob_real, soft_real, quarter_eq, one, ← EReal.coe_one]
  norm_cast
/-- The reference's focal loss of a number label. -/
theorem focal_real (y x : ℝ) : focal (y : EReal) (x : EReal)
    = (((1/4 * y + 3/4 * (1 - y)) * ((1 - (1 / (1 + Real.exp (-x)) * y + (1 - 1 / (1 + Real.exp (-x))) * (1 - y))) * (1 - (1 / (1 + Real.exp (-x)) * y + (1 - 1 / (1 + Real.exp (-x))) * (1 - y))))
      * (max x 0 - x * y + Real.log (1 + Real.exp (-|x|))) : ℝ) : EReal) := by
  unfold focal
  rw [log1p_real, sig_real, quarter_eq, threeq_eq, ← EReal.coe_one, ← EReal.coe_zero]
  simp only [← EReal.coe_mul, ← EReal.coe_sub, ← EReal.coe_add, ← max_real, pow_two_real]
/-- For a zero label the two writings agree. -/
theorem focal_zero (x : ℝ) : focal 0 (x : EReal) = fneg (x : EReal) := by
  rw [fneg_real, ← EReal.coe_zero, focal_real]
  congr 1
  ring
/-- For a label of one the two writings agree. -/
theorem focal_one (x : ℝ) : focal 1 (x : EReal) = fpos (x : EReal) := by
  rw [fpos_real, ← EReal.coe_one, focal_real]
  congr 1
  ring

/-- The decay of a logit of minus infinity. -/
theorem decay_bot : decay ⊥ = 0 := by
  unfold decay abv
  rw [EReal.neg_bot, max_eq_right bot_le, EReal.sub_top, Ideal.exp_bot]
/-- The logarithm of one. -/
theorem log1p_zero : Ideal.log1p 0 = 0 := by
  unfold Ideal.log1p
  rw [add_zero, ← EReal.coe_one, Ideal.log_coe, if_neg (by norm_num), Real.log_one, EReal.coe_zero]
/-- The soft plus of minus infinity. -/
theorem soft_bot : soft ⊥ = 0 := by
  unfold soft
  rw [decay_bot, log1p_zero, max_eq_right bot_le, zer, add_zero]
/-- The kernel's probability at minus infinity. -/
theorem prob_bot : prob ⊥ = 0 := by
  unfold prob
  rw [decay_bot, zer, if_neg (by simp), zero_mul]
/-- The focal loss of a zero label at minus infinity. -/
theorem fneg_bot : fneg ⊥ = 0 := by
  unfold fneg
  rw [soft_bot, mul_zero]
/-- The focal loss of a label of one at minus infinity. -/
theorem fpos_bot : fpos ⊥ = ⊤ := by
  unfold fpos
  rw [prob_bot, soft_bot, one, sub_zero, mul_one, mul_one, quarter_eq, sub_eq_add_neg, EReal.neg_bot, zero_add]
  exact EReal.coe_mul_top_of_pos (by norm_num)
/-- The sigmoid of minus infinity. -/
theorem sig_bot : sig ⊥ = 0 := by
  unfold sig
  rw [EReal.neg_bot, Ideal.exp_top]
  have e : (1 : EReal) + ⊤ = ⊤ := by rw [← EReal.coe_one, EReal.coe_add_top]
  rw [e]
  unfold Ideal.div
  rw [if_neg EReal.top_ne_zero, EReal.inv_top, mul_zero]
/-- The reference's logarithm at minus infinity. -/
theorem log1p_bot : Ideal.log1p (Ideal.exp (-abv ⊥)) = 0 := by
  unfold abv
  rw [EReal.neg_bot, max_eq_right bot_le, EReal.neg_top, Ideal.exp_bot, log1p_zero]
/-- For a zero label the two writings agree at any logit but infinity. -/
theorem focal_zero_of (l : EReal) (h : l ≠ ⊤) : focal 0 l = fneg l := by
  induction l with
  | top => exact absurd rfl h
  | coe x => exact focal_zero x
  | bot =>
    have e : (0 : EReal) - ⊥ * 0 + 0 = 0 := by rw [mul_zero, sub_zero, add_zero]
    unfold focal
    rw [fneg_bot, log1p_bot, max_eq_right bot_le, e, mul_zero]
/-- For a label of one the two writings agree at any logit but infinity. -/
theorem focal_one_of (l : EReal) (h : l ≠ ⊤) : focal 1 l = fpos l := by
  induction l with
  | top => exact absurd rfl h
  | coe x => exact focal_one x
  | bot =>
    have e : (1 : EReal) - 1 = 0 := by rw [← EReal.coe_one, ← EReal.coe_sub, sub_self, EReal.coe_zero]
    have e1 : (1 : EReal) - (0 * 1 + (1 - 0) * 0) = ((1 : ℝ) : EReal) := by rw [zero_mul, mul_zero, add_zero, sub_zero, EReal.coe_one]
    have e2 : (0 : EReal) - ⊥ * 1 + 0 = ⊤ := by rw [mul_one, add_zero, sub_eq_add_neg, EReal.neg_bot, zero_add]
    unfold focal
    rw [fpos_bot, log1p_bot, sig_bot, e, e1, max_eq_right bot_le, e2, mul_zero, mul_one, add_zero, pow_two_real, quarter_eq, ← EReal.coe_mul]
    exact EReal.coe_mul_top_of_pos (by norm_num)
/-- The loss of a zero label, corrected to that of a label of one, at any logit but infinity. -/
theorem correct_of (l : EReal) (h : l ≠ ⊤) : fpos l - fneg l + fneg l = fpos l := by
  induction l with
  | top => exact absurd rfl h
  | coe x => rw [fpos_real, fneg_real, ← EReal.coe_sub, ← EReal.coe_add, sub_add_cancel]
  | bot => rw [fneg_bot, sub_zero, add_zero]
end Cert.Eq
-- ==== Proof.Eq.Best.lean ====
/-
The best box of an anchor: among the hundred boxes the reference looks at it is one of the first sixty-four, and there
the two programs take the same one.
-/
module

public import proofs.«01_k».proof.Proof.Eq.Focal

@[expose] public section
noncomputable section
open Idealize.ShloMosaic
open scoped BigOperators
namespace Cert.Eq
open Cert.Loss Cert.RefRun

/-- The smallest width is positive. -/
theorem tiny_pos : 0 < tiny := by
  obtain ⟨r, hr, e⟩ := tiny_eq
  rw [e]
  exact_mod_cast hr
/-- An overlap is at least minus one. -/
theorem neg1_le_iou (A G : Box) : neg1 ≤ iou A G := by
  unfold iou
  split_ifs with h
  · have h0 : (0 : EReal) ≤ inter A G := by
      unfold inter shared
      exact mul_nonneg (le_max_right _ _) (le_max_right _ _)
    have h1 : 0 < max (area A + area G - inter A G) tiny := tiny_pos.trans_le (le_max_right _ _)
    have h2 : neg1 ≤ 0 := by
      rw [neg1_eq, ← EReal.coe_zero]
      exact_mod_cast (by norm_num : (-1 : ℝ) ≤ 0)
    refine h2.trans ?_
    unfold Ideal.div
    rw [if_neg h1.ne']
    exact mul_nonneg h0 (EReal.inv_nonneg_of_nonneg h1.le)
  · exact le_rfl
/-- The overlap with a box that has no positive coordinate is minus one. -/
theorem iou_pad (A G : Box) (h : ∀ k, G k ≤ 0) : iou A G = neg1 := by
  unfold iou
  rw [if_neg]
  rintro ⟨k, hk⟩
  exact absurd hk (not_lt.2 (h k))
/-- Every overlap is at most the best. -/
theorem le_best {n : ℕ} (v : Fin n → EReal) (t : Fin n) : v t ≤ best v := by
  unfold best
  rw [Finset.le_fold_max]
  exact .inr ⟨t, Finset.mem_univ _, le_rfl⟩
/-- The best is at most a bound of them all. -/
theorem best_le {n : ℕ} (v : Fin n → EReal) (x : EReal) (h : ∀ t, v t ≤ x) : best v ≤ x := by
  unfold best
  rw [Finset.fold_max_le]
  exact ⟨bot_le, fun t _ => h t⟩

/-- The first sixty-four of a hundred boxes. -/
abbrev first (t : Fin 64) : Fin 100 := ⟨t.val, by omega⟩

/-- Padding the overlaps with minus one does not change the best. -/
theorem best_first (w : Fin 100 → EReal) (hge : ∀ t, neg1 ≤ w t) (hpad : ∀ t : Fin 100, 64 ≤ t.val → w t = neg1) :
    best w = best fun t : Fin 64 => w (first t) := by
  apply le_antisymm
  · refine best_le _ _ fun t => ?_
    by_cases h : t.val < 64
    · exact le_best (fun t : Fin 64 => w (first t)) ⟨t.val, h⟩
    · rw [hpad t (by omega)]
      exact (hge (first 0)).trans (le_best (fun t : Fin 64 => w (first t)) 0)
  · exact best_le _ _ fun t => le_best w (first t)
/-- The number of the best box, from a box that is best and first. -/
theorem argv_eq (v : Fin 64 → EReal) (n : Fin 64) (hn : v n = best v) (hmin : ∀ t, v t = best v → n ≤ t) :
    argv v = ((n.val : ℝ) : EReal) := by
  have h64 : fc 0x42800000#32 = ((64 : ℝ) : EReal) := by
    simp [Ideal.ofBits, Ideal.ieee]
    rw [← EReal.coe_mul]
    norm_num
  unfold argv
  apply le_antisymm
  · rw [Finset.fold_min_le]
    refine .inr ⟨n, Finset.mem_univ _, ?_⟩
    rw [if_pos hn]
  · rw [Finset.le_fold_min]
    refine ⟨le_top, fun t _ => ?_⟩
    split_ifs with h
    · exact_mod_cast hmin t h
    · rw [h64]
      have := n.isLt
      exact_mod_cast (by omega : n.val ≤ 64)
/-- The choice of the best box is its value there. -/
theorem pick_eq (v f : Fin 64 → EReal) (n : Fin 64) (hn : argv v = ((n.val : ℝ) : EReal)) : pick v f = f n := by
  unfold pick
  rw [Finset.sum_eq_single n]
  · unfold hot
    rw [hn, if_pos rfl, one_mul]
  · intro t _ ht
    unfold hot
    rw [hn, if_neg, zero_mul]
    intro e
    apply ht
    exact Fin.ext (by exact_mod_cast e)
  · intro h; exact absurd (Finset.mem_univ _) h
/-- A box best among a hundred and first there is one of the first sixty-four when the best is at least one half, and is
    best and first among those. -/
theorem arg_first (w : Fin 100 → EReal) (hge : ∀ t, neg1 ≤ w t) (hpad : ∀ t : Fin 100, 64 ≤ t.val → w t = neg1) (hpos : half ≤ best w)
    (m : Fin 100) (hm : w m = best w) (hmin : ∀ t, w t = best w → m ≤ t) :
    ∃ n : Fin 64, m = first n ∧ argv (fun t => w (first t)) = ((n.val : ℝ) : EReal) := by
  have hlt : m.val < 64 := by
    by_contra h
    rw [← hm, hpad m (by omega), half_eq, neg1_eq] at hpos
    have : (1 / 2 : ℝ) ≤ -1 := by exact_mod_cast hpos
    norm_num at this
  have hb := best_first w hge hpad
  refine ⟨⟨m.val, hlt⟩, rfl, argv_eq _ _ (hm.trans hb) fun t ht => ?_⟩
  exact hmin (first t) (ht.trans hb.symm)
end Cert.Eq
-- ==== Proof.Eq.Anchor.lean ====
/-
The two losses of one anchor: the reference's and the kernel's agree.
-/
module

public import proofs.«01_k».proof.Proof.Eq.Best

@[expose] public section
noncomputable section
open Idealize.ShloMosaic
open scoped BigOperators
namespace Cert.Eq
open Cert.Loss Cert.RefRun

/-- A width is positive. -/
theorem wid_pos (lo hi : EReal) : 0 < wid lo hi := by
  exact tiny_pos.trans_le (le_max_right _ _)
/-- Dividing by one changes nothing. -/
theorem div_one (x : EReal) : Ideal.div x 1 = x := by
  rw [← EReal.coe_one, Ideal.div_coe one_ne_zero, div_self one_ne_zero, EReal.coe_one, mul_one]
/-- The logarithm of a quotient of positive values. -/
theorem log_div (g a : EReal) (hg : 0 < g) (ha : 0 < a) : Ideal.log (Ideal.div g a) = Ideal.log g - Ideal.log a := by
  induction a with
  | bot => exact absurd ha (by simp)
  | top =>
    have e : Ideal.div g ⊤ = 0 := by
      unfold Ideal.div
      rw [if_neg EReal.top_ne_zero, EReal.inv_top, mul_zero]
    rw [e, Ideal.log_top, ← EReal.coe_zero, Ideal.log_coe, if_pos le_rfl, EReal.sub_top]
  | coe a =>
    have ha' : 0 < a := by exact_mod_cast ha
    rw [Ideal.div_coe ha'.ne', Ideal.log_coe, if_neg (not_le.2 ha')]
    induction g with
    | bot => exact absurd hg (by simp)
    | top =>
      rw [EReal.top_mul_coe_of_pos (by positivity), Ideal.log_top, EReal.top_sub_coe]
    | coe g =>
      have hg' : 0 < g := by exact_mod_cast hg
      rw [← EReal.coe_mul, Ideal.log_coe, Ideal.log_coe, if_neg (not_le.2 hg'), if_neg (not_le.2 (by positivity)), ← EReal.coe_sub,
        mul_one_div, Real.log_div hg'.ne' ha'.ne']

/-- The box losses of one anchor agree. -/
theorem box_term (A : Box) (G : Fin 100 → Box) (P : Fin 4 → EReal) (m : Fin 100) (w : Fin 100 → EReal) (hw : ∀ t, w t = iou A (G t))
    (hpad : ∀ t : Fin 100, 64 ≤ t.val → ∀ k, G t k ≤ 0)
    (hm : half ≤ best w → w m = best w ∧ ∀ t, w t = best w → m ≤ t) :
    ∑ k, smooth (abv (P k - if half ≤ best w then target A (G m) k else 0)) * posv w = boxv A (fun t => G (first t)) P := by
  have hge : ∀ t, neg1 ≤ w t := fun t => by rw [hw]; exact neg1_le_iou _ _
  have hp : ∀ t : Fin 100, 64 ≤ t.val → w t = neg1 := fun t ht => by rw [hw]; exact iou_pad _ _ (hpad t ht)
  have hv : (fun t : Fin 64 => iou A (G (first t))) = fun t => w (first t) := funext fun t => (hw _).symm
  have hb := best_first w hge hp
  unfold boxv
  simp only [hv]
  by_cases h : half ≤ best w
  · obtain ⟨h1, h2⟩ := hm h
    obtain ⟨n, rfl, hn⟩ := arg_first w hge hp h m h1 h2
    have h3 : posv w = 1 := by unfold posv; rw [if_pos h]
    have h4 : posv (fun t : Fin 64 => w (first t)) = 1 := by unfold posv; rw [← hb, if_pos h]
    rw [h3, h4, one_mul]
    unfold shift stretch
    simp only [if_pos h, mul_one, pick_eq _ _ n hn, Fin.sum_univ_four, target, Matrix.cons_val_zero, Matrix.cons_val_one, Matrix.cons_val_two,
      Matrix.cons_val_three, Matrix.cons_val, Matrix.head_cons, Matrix.tail_cons, div_one, log_div _ _ (wid_pos _ _) (wid_pos _ _)]
  · have h3 : posv w = 0 := by unfold posv; rw [if_neg h]
    have h4 : posv (fun t : Fin 64 => w (first t)) = 0 := by unfold posv; rw [← hb, if_neg h]
    rw [h3, h4, zero_mul]
    simp only [mul_zero, Finset.sum_const_zero]

/-- One class of one anchor: the reference's focal loss is the kernel's two shares. -/
theorem class_term (w : Fin 100 → EReal) (hge : ∀ t, neg1 ≤ w t) (hp : ∀ t : Fin 100, 64 ≤ t.val → w t = neg1)
    (Y : Fin 100 → Fin 80 → EReal) (hY : ∀ t : Fin 64, ∃ c0 : Fin 80, ∀ c, Y (first t) c = if c = c0 then 1 else 0)
    (L : Fin 80 → EReal) (hL : ∀ l, L l ≠ ⊤) (m : Fin 100)
    (hm : half ≤ best w → w m = best w ∧ ∀ t, w t = best w → m ≤ t) (l : Fin 80) :
    focal (if half ≤ best w then Y m l else 0) (L l) * seen w
      = clsv (fun t => w (first t)) (fun t => Y (first t)) L l
        + (posv (fun t : Fin 64 => w (first t)) + negv (fun t : Fin 64 => w (first t))) * fneg (L l) := by
  have hb := best_first w hge hp
  unfold clsv
  by_cases h : half ≤ best w
  · obtain ⟨h1, h2⟩ := hm h
    obtain ⟨n, rfl, hn⟩ := arg_first w hge hp h m h1 h2
    have h3 : seen w = 1 := by unfold seen; rw [if_pos (.inl h)]
    have h4 : posv (fun t : Fin 64 => w (first t)) = 1 := by unfold posv; rw [← hb, if_pos h]
    have h5 : negv (fun t : Fin 64 => w (first t)) = 0 := by
      unfold negv; rw [← hb, if_neg (not_lt.2 (thr_le_half.trans h))]
    obtain ⟨c0, hc⟩ := hY n
    have hlab : label (fun t => w (first t)) (fun t => Y (first t)) = ((c0.val : ℝ) : EReal) := by
      unfold label
      rw [pick_eq _ _ n hn, Finset.sum_eq_single c0]
      · show Y (first n) c0 * _ = _
        rw [hc, if_pos rfl, one_mul]
      · intro c _ h'
        show Y (first n) c * _ = _
        rw [hc, if_neg h', zero_mul]
      · intro h'; exact absurd (Finset.mem_univ _) h'
    rw [h3, h4, h5, hlab, if_pos h, hc, add_zero, one_mul, one_mul, mul_one]
    by_cases hl : l = c0
    · subst hl
      rw [if_pos rfl, if_pos rfl, focal_one_of _ (hL l), one_mul, correct_of _ (hL l)]
    · rw [if_neg hl, if_neg, focal_zero_of _ (hL l), zero_mul, zero_add]
      intro e
      exact hl (Fin.ext (by exact_mod_cast e))
  · have h4 : posv (fun t : Fin 64 => w (first t)) = 0 := by unfold posv; rw [← hb, if_neg h]
    have h5 : seen w = negv (fun t : Fin 64 => w (first t)) := by
      unfold seen negv; rw [← hb]
      by_cases h' : best w < thr
      · rw [if_pos h', if_pos (.inr h')]
      · rw [if_neg h', if_neg (by tauto)]
    rw [h4, h5, if_neg h, focal_zero_of _ (hL l), zero_mul, zero_mul, zero_add, zero_add, mul_comm]
/-- The focal losses of one anchor agree. -/
theorem focal_term (w : Fin 100 → EReal) (hge : ∀ t, neg1 ≤ w t) (hp : ∀ t : Fin 100, 64 ≤ t.val → w t = neg1)
    (Y : Fin 100 → Fin 80 → EReal) (hY : ∀ t : Fin 64, ∃ c0 : Fin 80, ∀ c, Y (first t) c = if c = c0 then 1 else 0)
    (L : Fin 80 → EReal) (hL : ∀ l, L l ≠ ⊤) (m : Fin 100)
    (hm : half ≤ best w → w m = best w ∧ ∀ t, w t = best w → m ≤ t) :
    ∑ l, focal (if half ≤ best w then Y m l else 0) (L l) * seen w
      = (∑ l, clsv (fun t => w (first t)) (fun t => Y (first t)) L l) + backv (fun t => w (first t)) L := by
  rw [Finset.sum_congr rfl fun l _ => class_term w hge hp Y hY L hL m hm l, Finset.sum_add_distrib]
  refine congrArg₂ (· + ·) rfl ?_
  unfold backv
  have hb : posv (fun t : Fin 64 => w (first t)) + negv (fun t : Fin 64 => w (first t)) = 0
      ∨ posv (fun t : Fin 64 => w (first t)) + negv (fun t : Fin 64 => w (first t)) = 1 := by
    unfold posv negv
    by_cases h : half ≤ best fun t : Fin 64 => w (first t)
    · right; rw [if_pos h, if_neg (not_lt.2 (thr_le_half.trans h)), add_zero]
    · rw [if_neg h, zero_add]
      by_cases h' : (best fun t : Fin 64 => w (first t)) < thr
      · right; rw [if_pos h']
      · left; rw [if_neg h']
  rcases hb with hb | hb
  · rw [hb, zero_mul]
    exact Finset.sum_eq_zero fun l _ => zero_mul _
  · rw [hb, one_mul]
    exact Finset.sum_congr rfl fun l _ => one_mul _
/-- The positive anchors of the two programs are the same. -/
theorem posv_term (w : Fin 100 → EReal) (hge : ∀ t, neg1 ≤ w t) (hp : ∀ t : Fin 100, 64 ≤ t.val → w t = neg1) :
    posv w = posv fun t : Fin 64 => w (first t) := by
  unfold posv
  rw [best_first w hge hp]
end Cert.Eq
-- ==== Proof.Eq.Pre.lean ====
/-
What the precondition says of the arguments.
-/
module

public import proofs.«01_k».proof.Pre_inputs_ok
public import proofs.«01_k».proof.Proof.Eq.Anchor
public import Idealize.ShloMosaic.Lib.ReduceAll

@[expose] public section
noncomputable section
open Idealize.ShloMosaic
open scoped BigOperators
namespace Cert.Eq
open Cert.Loss Cert.Pre_inputs_ok Cert.Pre_inputs_ok.Facts

/-- The side conditions of the precondition's operations. -/
theorem pre_facts : Facts where
  slices_S4x100x80_S4x64x80_0_0_0 := by decide
  bcast_S_S4x64x80 := by decide
  reducesTo_S4x64x80_S_d0_1_2 := by decide
  h_S_ := by decide
  reducesTo_S4x64x80_S4x64_d2 := by decide
  bcast_S_S4x64 := by decide
  reducesTo_S4x64_S_d0_1 := by decide
  slices_S4x100x4_S4x36x4_0_64_0 := by decide
  bcast_S_S4x36x4 := by decide
  reducesTo_S4x36x4_S_d0_1_2 := by decide
  bcast_S_S4x20000x80 := by decide
  reducesTo_S4x20000x80_S_d0_1_2 := by decide

/-- A row of zeros and ones whose sum is one has a single one. -/
theorem one_hot {n : ℕ} (y : Fin n → EReal) (h : ∀ c, y c = 0 ∨ y c = 1) (hs : ∑ c, y c = 1) :
    ∃ c0, ∀ c, y c = if c = c0 then 1 else 0 := by
  classical
  have e : ∀ c, y c = if y c = 1 then 1 else 0 := by
    intro c
    rcases h c with h | h
    · rw [h, if_neg (by simp)]
    · rw [h, if_pos rfl]
  rw [Finset.sum_congr rfl fun c _ => e c, Finset.sum_boole] at hs
  have hc : (Finset.univ.filter fun c => y c = 1).card = 1 := by exact_mod_cast hs
  obtain ⟨c0, h0⟩ := Finset.card_eq_one.1 hc
  refine ⟨c0, fun c => ?_⟩
  have hm : c ∈ (Finset.univ.filter fun c => y c = 1) ↔ c = c0 := by rw [h0, Finset.mem_singleton]
  rw [Finset.mem_filter] at hm
  rw [e c]
  by_cases h1 : y c = 1
  · rw [if_pos h1, if_pos (hm.1 ⟨Finset.mem_univ _, h1⟩)]
  · rw [if_neg h1, if_neg fun h2 => h1 (hm.2 h2).2]

/-- Both of two bits. -/
theorem both {a b : BitVec 1} (h : IntOp.andi a b = 1#1) : a = 1#1 ∧ b = 1#1 := by
  revert h; revert a b; decide
/-- One of two bits. -/
theorem either {a b : BitVec 1} (h : IntOp.ori a b = 1#1) : a = 1#1 ∨ b = 1#1 := by
  revert h; revert a b; decide

/-- The constant of infinity. -/
theorem inf_eq : fc 0x7F800000#32 = ⊤ := by
  simp [Ideal.ofBits, Ideal.ieee]
/-- The constant zero. -/
theorem zero_eq : fc 0x00000000#32 = 0 := by
  simp [Ideal.ofBits, Ideal.ieee]
/-- The constant one. -/
theorem one_eq : fc 0x3F800000#32 = 1 := by
  simp [Ideal.ofBits, Ideal.ieee]

variable [Facts] (y : FVec Ideal S4x100x80 .f32) (g : FVec Ideal S4x100x4 .f32) (l : FVec Ideal S4x20000x80 .f32)
  (p : FVec Ideal S4x20000x4 .f32) (a : FVec Ideal S20000x4 .f32)

instance : Subsingleton S_.Idx := ⟨fun i j => funext fun k => k.elim0⟩

/-- The classes of the first 64 boxes of each image. -/
abbrev lead : FVec Ideal S4x64x80 .f32 := extractStridedSlice S4x64x80 ![0, 0, 0] y slices_S4x100x80_S4x64x80_0_0_0

/-- The precondition's parts, each at every index. -/
theorem parts (h : fn (F := Ideal) y g l p a = fun _ => 1#1) :
    (∀ i, IntOp.ori (Ideal.cmp .oeq (lead y i) (fc 0x00000000#32)) (Ideal.cmp .oeq (lead y i) (fc 0x3F800000#32)) = 1#1)
    ∧ (∀ i, Ideal.cmp .oeq (Host.reduceAdd (lead y) (constant S_ .f32 0x00000000#32) reducesTo_S4x64x80_S4x64_d2 h_S_ i) (fc 0x3F800000#32) = 1#1)
    ∧ (∀ i, Ideal.cmp .ole (extractStridedSlice S4x36x4 ![0, 64, 0] g slices_S4x100x4_S4x36x4_0_64_0 i) (fc 0x00000000#32) = 1#1)
    ∧ (∀ i, Ideal.cmp .olt (l i) (fc 0x7F800000#32) = 1#1) := by
  have h0 := congrFun h ix0
  obtain ⟨h1, h2⟩ := both h0
  obtain ⟨h3, h4⟩ := both h1
  obtain ⟨h5, h6⟩ := both h3
  exact ⟨fun i => Host.reduce_andi_all _ _ _ _ _ h5 i, fun i => Host.reduce_andi_all _ _ _ _ _ h6 i,
    fun i => Host.reduce_andi_all _ _ _ _ _ h4 i, fun i => Host.reduce_andi_all _ _ _ _ _ h2 i⟩

/-- A class of one of the first 64 boxes. -/
theorem lead_apply (b : Fin 4) (t : Fin 64) (c : Fin 80) : lead y (ix3 b t c) = y (ix3 b (first t) c) := by
  show y _ = y _
  congr 1
  funext d
  apply Fin.ext
  fin_cases d
  · show 0 + b.val = b.val; omega
  · show 0 + t.val = t.val; omega
  · show 0 + c.val = c.val; omega

/-- A row's sum. -/
theorem row_sum (z : FVec Ideal S4x64x80 .f32) (b : Fin 4) (t : Fin 64) :
    (Host.reduceAdd z (constant S_ .f32 0x00000000#32) reducesTo_S4x64x80_S4x64_d2 h_S_ : FVec Ideal S4x64 .f32) (ix2 b t) = ∑ c : Fin 80, z (ix3 b t c) := by
  pointwise []

/-- The classes of the first 64 boxes are one-hot. -/
theorem classes_one_hot (h : fn (F := Ideal) y g l p a = fun _ => 1#1) (b : Fin 4) (t : Fin 64) :
    ∃ c0 : Fin 80, ∀ c, y (ix3 b (first t) c) = if c = c0 then 1 else 0 := by
  obtain ⟨h1, h2, -, -⟩ := parts y g l p a h
  refine one_hot (fun c => y (ix3 b (first t) c)) (fun c => ?_) ?_
  · rcases either (h1 (ix3 b t c)) with e | e
    · exact .inl ((lead_apply y b t c).symm.trans (((Ideal.cmp_oeq_eq_one _ _).1 e).trans zero_eq))
    · exact .inr ((lead_apply y b t c).symm.trans (((Ideal.cmp_oeq_eq_one _ _).1 e).trans one_eq))
  · refine (Finset.sum_congr rfl fun c _ => (lead_apply y b t c).symm).trans ?_
    rw [← row_sum]
    exact ((Ideal.cmp_oeq_eq_one _ _).1 (h2 (ix2 b t))).trans one_eq
/-- The boxes from the 64th on are padding. -/
theorem padding (h : fn (F := Ideal) y g l p a = fun _ => 1#1) (b : Fin 4) (t : Fin 100) (ht : 64 ≤ t.val) (k : Fin 4) :
    g (ix3 b t k) ≤ 0 := by
  obtain ⟨-, -, h3, -⟩ := parts y g l p a h
  have e : (extractStridedSlice S4x36x4 ![0, 64, 0] g slices_S4x100x4_S4x36x4_0_64_0 : FVec Ideal S4x36x4 .f32)
      (ix3 b (⟨t.val - 64, by omega⟩ : Fin 36) k) = g (ix3 b t k) := by
    show g _ = g _
    congr 1
    funext d
    apply Fin.ext
    fin_cases d
    · show 0 + b.val = b.val; omega
    · show 64 + (t.val - 64) = t.val; omega
    · show 0 + k.val = k.val; omega
  rw [← e, ← zero_eq]
  exact (Ideal.cmp_ole_eq_one _ _).1 (h3 _)
/-- No logit is infinity. -/
theorem logits_below (h : fn (F := Ideal) y g l p a = fun _ => 1#1) (b : Fin 4) (x : Fin 20000) (c : Fin 80) :
    l (ix3 b x c) ≠ ⊤ := by
  obtain ⟨-, -, -, h4⟩ := parts y g l p a h
  refine ne_of_lt ?_
  rw [← inf_eq]
  exact (Ideal.cmp_olt_eq_one _ _).1 (h4 _)
end Cert.Eq
-- ==== Proof.Val.Pay.lean ====
/-
What one point of the grid computes: each pure value of the kernel read at an index, over the extended reals, ending in
what the point adds to each running sum.
-/
module

public import proofs.«01_k».proof.Proof.Gen.KernelIdeal.Skeleton
public import proofs.«01_k».proof.Proof.Loss
public import Idealize.ShloMosaic.Lib.Pointwise

@[expose] public section
noncomputable section
open Idealize.ShloMosaic Idealize.SL.Sem
open scoped BigOperators
namespace Cert.KernelIdeal.Val
open Cert.KernelIdeal Cert.KernelIdeal.Gen Cert.Loss

/-! ### Numbers -/

/-- The float of a truth value. -/
theorem sitofp_bit (p : Prop) [Decidable p] :
    FloatOps.sitofp (F := Ideal) .f32 (BitVec.setWidth 32 (BitVec.ofBool (decide p))) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 by decide]; norm_num
  · simp only [h, decide_false, if_false]
    show (((BitVec.setWidth 32 (BitVec.ofBool false)).toInt : ℝ) : EReal) = 0
    rw [show (BitVec.setWidth 32 (BitVec.ofBool false)).toInt = 0 by decide]; norm_num

/-- The float of a small number. -/
theorem sitofp_nat (n : ℕ) (h : n < 1000) :
    FloatOps.sitofp (F := Ideal) .f32 (BitVec.ofNat 32 n) = ((n : ℝ) : EReal) := by
  have : (BitVec.ofNat 32 n).toInt = n := by
    rw [BitVec.toInt_eq_toNat_of_lt (by simp; omega)]; simp; omega
  show (((BitVec.ofNat 32 n).toInt : ℝ) : EReal) = _
  rw [this]; norm_num

/-- The absolute value. -/
theorem absf_eq (x : EReal) : FloatOps.absf (F := Ideal) (φ := .f32) x = abv x := rfl

/-- The constant of minus infinity. -/
theorem ofBits_bot : Ideal.ofBits .f32 0xFF800000#32 = ⊥ := by simp [Ideal.ofBits, Ideal.ieee]
/-- The constant of infinity. -/
theorem ofBits_top : Ideal.ofBits .f32 0x7F800000#32 = ⊤ := by simp [Ideal.ofBits, Ideal.ieee]

/-- The diagonal of a square of classes. -/
theorem select_eq (c d : Fin 80) (x y : EReal) :
    Scalar.select (IntOp.cmpi CmpIPredicate.eq (BitVec.ofNat 32 d.val) (BitVec.ofNat 32 c.val)) x y = if d = c then x else y := by
  have h : BitVec.ofNat 32 d.val = BitVec.ofNat 32 c.val ↔ d = c := by
    rw [← BitVec.toNat_inj]; simp only [BitVec.toNat_ofNat]
    rw [Nat.mod_eq_of_lt (by omega), Nat.mod_eq_of_lt (by omega), Fin.val_inj]
  by_cases e : d = c
  · simp [Scalar.select, IntOp.cmpi, e]
  · have h' : ¬BitVec.ofNat 32 d.val = BitVec.ofNat 32 c.val := fun q => e (h.1 q)
    have : (BitVec.ofNat 32 d.val == BitVec.ofNat 32 c.val) = false := by simpa using h'
    simp only [Scalar.select, IntOp.cmpi, e, this, if_false]; rfl

/-- A largest value is positive exactly when one of the values is. -/
theorem fold_max_pos {n : ℕ} (f : Fin n → EReal) : 0 < Finset.univ.fold max ⊥ f ↔ ∃ k, 0 < f k := by
  simp [Finset.lt_fold_max]

/-! ### Reading the blocks -/

/-- Anchor `a` of a block. -/
def anc (x0 : FVec Ideal S1x8x2000 .f32) (a : Fin 2000) : Box := fun k => x0 (ix3 0 ⟨k.val, by omega⟩ a)
/-- Box `t` of a block. -/
def gt (x1 : FVec Ideal S1x64x4 .f32) (t : Fin 64) : Box := fun k => x1 (ix3 0 t k)
/-- The overlaps of anchor `a`. -/
def ov (x0 : FVec Ideal S1x8x2000 .f32) (x1 : FVec Ideal S1x64x4 .f32) (a : Fin 2000) (t : Fin 64) : EReal :=
  iou (anc x0 a) (gt x1 t)
/-- The classes of the boxes. -/
def cl (x2 : FVec Ideal S1x64x80 .f32) (t : Fin 64) (c : Fin 80) : EReal := x2 (ix3 0 t c)
/-- The logits of anchor `a`. -/
def lg (x3 : FVec Ideal S1x2000x80 .f32) (a : Fin 2000) (c : Fin 80) : EReal := x3 (ix3 0 a c)
/-- The predicted box of anchor `a`. -/
def bp (x4 : FVec Ideal S1x1x8x2000 .f32) (a : Fin 2000) (k : Fin 4) : EReal := x4 (ix4 0 0 ⟨k.val, by omega⟩ a)

variable (x0 : FVec Ideal S1x8x2000 .f32) (x1 : FVec Ideal S1x64x4 .f32) (x2 : FVec Ideal S1x64x80 .f32)
  (x3 : FVec Ideal S1x2000x80 .f32) (x4 : FVec Ideal S1x1x8x2000 .f32)

/-- The left side of an anchor. -/
theorem pay12_apply (a : Fin 2000) : k0_pay12 (F := Ideal) x0 (ix2 0 a) = anc x0 a 0 := by
  unfold anc; pointwise [k0_pay12, k0_pay11]
/-- The upper side of an anchor. -/
theorem pay13_apply (a : Fin 2000) : k0_pay13 (F := Ideal) x0 (ix2 0 a) = anc x0 a 1 := by
  unfold anc; pointwise [k0_pay13, k0_pay11]
/-- The right side of an anchor. -/
theorem pay14_apply (a : Fin 2000) : k0_pay14 (F := Ideal) x0 (ix2 0 a) = anc x0 a 2 := by
  unfold anc; pointwise [k0_pay14, k0_pay11]
/-- The lower side of an anchor. -/
theorem pay15_apply (a : Fin 2000) : k0_pay15 (F := Ideal) x0 (ix2 0 a) = anc x0 a 3 := by
  unfold anc; pointwise [k0_pay15, k0_pay11]
/-- A coordinate of a box. -/
theorem pay16_apply (t : Fin 64) (k : Fin 4) : k0_pay16 (F := Ideal) x1 (ix2 t k) = gt x1 t k := by
  unfold gt; pointwise [k0_pay16]
/-- The left side of a box. -/
theorem pay17_apply (t : Fin 64) : k0_pay17 (F := Ideal) x1 (ix2 t 0) = gt x1 t 0 := by
  unfold gt; pointwise [k0_pay17, k0_pay16]
/-- The upper side of a box. -/
theorem pay18_apply (t : Fin 64) : k0_pay18 (F := Ideal) x1 (ix2 t 0) = gt x1 t 1 := by
  unfold gt; pointwise [k0_pay18, k0_pay16]
/-- The right side of a box. -/
theorem pay19_apply (t : Fin 64) : k0_pay19 (F := Ideal) x1 (ix2 t 0) = gt x1 t 2 := by
  unfold gt; pointwise [k0_pay19, k0_pay16]
/-- The lower side of a box. -/
theorem pay20_apply (t : Fin 64) : k0_pay20 (F := Ideal) x1 (ix2 t 0) = gt x1 t 3 := by
  unfold gt; pointwise [k0_pay20, k0_pay16]

/-! ### The overlaps -/

/-- The area an anchor and a box share. -/
theorem pay21_apply (t : Fin 64) (a : Fin 2000) :
    k0_pay21 (F := Ideal) x0 x1 (ix2 t a) = inter (anc x0 a) (gt x1 t) := by
  pointwise [k0_pay21]
  simp only [pay12_apply, pay13_apply, pay14_apply, pay15_apply, pay17_apply, pay18_apply, pay19_apply, pay20_apply]
  simp [inter, shared]

/-- The area of an anchor. -/
theorem pay22_apply (a : Fin 2000) : k0_pay22 (F := Ideal) x0 (ix2 0 a) = area (anc x0 a) := by
  pointwise [k0_pay22]
  simp only [pay12_apply, pay13_apply, pay14_apply, pay15_apply, area]

/-- The width of a box, as its area takes it. -/
theorem pay23_apply (t : Fin 64) : k0_pay23 (F := Ideal) x1 (ix2 t 0) = gt x1 t 2 - gt x1 t 0 := by
  pointwise [k0_pay23]
  simp only [pay17_apply, pay19_apply]

/-- The overlaps the kernel computes at a point. -/
abbrev IOU : FVec Ideal S64x2000 .f32 :=
  k0_pay24 (k0_pay16 x1) (k0_pay18 x1) (k0_pay20 x1) (k0_pay21 x0 x1) (k0_pay22 x0) (k0_pay23 x1)
/-- The one-hot choice of a box for each anchor. -/
abbrev HOT : FVec Ideal S64x2000 .f32 :=
  k0_pay26 (k0_pay16 x1) (k0_pay18 x1) (k0_pay20 x1) (k0_pay21 x0 x1) (k0_pay22 x0) (k0_pay23 x1)
/-- The weight of the positive anchors. -/
abbrev POS : FVec Ideal S1x2000 .f32 :=
  k0_pay27 (k0_pay16 x1) (k0_pay18 x1) (k0_pay20 x1) (k0_pay21 x0 x1) (k0_pay22 x0) (k0_pay23 x1)
/-- The weight of the anchors that are positive or background. -/
abbrev TW : FVec Ideal S1x2000 .f32 :=
  k0_pay28 (k0_pay16 x1) (k0_pay18 x1) (k0_pay20 x1) (k0_pay21 x0 x1) (k0_pay22 x0) (k0_pay23 x1)

/-- The overlap of an anchor with a box. -/
theorem iou_apply (t : Fin 64) (a : Fin 2000) : IOU x0 x1 (ix2 t a) = ov x0 x1 a t := by
  unfold IOU; pointwise [k0_pay24]
  simp only [pay16_apply, pay18_apply, pay20_apply, pay21_apply, pay22_apply, pay23_apply, ofBits_bot, fold_max_pos, ov, iou, area]
  congr 1

section raw
variable (v15 : FVec Ideal S64x4 .f32) (v17 v19 v42 : FVec Ideal S64x1 .f32) (v38 : FVec Ideal S64x2000 .f32)
    (v41 : FVec Ideal S1x2000 .f32) (a : Fin 2000)

/-- The best overlap of an anchor. -/
theorem pay25_raw : k0_pay25 v15 v17 v19 v38 v41 v42 (ix2 0 a) = best fun t => k0_pay24 v15 v17 v19 v38 v41 v42 (ix2 t a) := by
  pointwise [k0_pay25]
  rw [ofBits_bot]; rfl

/-- One at the first best box of an anchor, zero elsewhere. -/
theorem pay26_raw (t : Fin 64) :
    k0_pay26 v15 v17 v19 v38 v41 v42 (ix2 t a) = hot (fun t => k0_pay24 v15 v17 v19 v38 v41 v42 (ix2 t a)) t := by
  pointwise [k0_pay26]
  simp only [pay25_raw, sitofp_bit, sitofp_nat _ (Nat.lt_trans (Fin.isLt _) (by norm_num : 64 < 1000)), ofBits_top]
  rfl

/-- One at a positive anchor. -/
theorem pay27_raw : k0_pay27 v15 v17 v19 v38 v41 v42 (ix2 0 a) = posv fun t => k0_pay24 v15 v17 v19 v38 v41 v42 (ix2 t a) := by
  pointwise [k0_pay27]
  simp only [pay25_raw, sitofp_bit]
  rfl

/-- One at a positive or background anchor. -/
theorem pay28_raw : k0_pay28 v15 v17 v19 v38 v41 v42 (ix2 0 a)
    = posv (fun t => k0_pay24 v15 v17 v19 v38 v41 v42 (ix2 t a)) + negv fun t => k0_pay24 v15 v17 v19 v38 v41 v42 (ix2 t a) := by
  pointwise [k0_pay28]
  simp only [pay25_raw, pay27_raw, sitofp_bit]
  rfl
end raw

/-- One at the first best box, from the blocks. -/
theorem hot_apply (t : Fin 64) (a : Fin 2000) : HOT x0 x1 (ix2 t a) = hot (ov x0 x1 a) t := by
  rw [HOT, pay26_raw]; exact congrArg (hot · t) (funext fun t => iou_apply x0 x1 t a)
/-- One at a positive anchor, from the blocks. -/
theorem pos_apply (a : Fin 2000) : POS x0 x1 (ix2 0 a) = posv (ov x0 x1 a) := by
  rw [POS, pay27_raw]; exact congrArg posv (funext fun t => iou_apply x0 x1 t a)
/-- One at a positive or background anchor, from the blocks. -/
theorem tw_apply (a : Fin 2000) : TW x0 x1 (ix2 0 a) = posv (ov x0 x1 a) + negv (ov x0 x1 a) := by
  rw [TW, pay28_raw]
  exact congrArg (fun v : Fin 64 → EReal => posv v + negv v) (funext fun t => iou_apply x0 x1 t a)

/-! ### The label and the picked boxes -/

section pick
variable (h : FVec Ideal S64x2000 .f32) (p q : FVec Ideal S64x1 .f32) (a : Fin 2000)

/-- The label of an anchor's box. -/
theorem pay31_raw : k0_pay31 h (k0_pay29 x2) (k0_pay30 (F := Ideal)) (ix2 0 a)
    = ∑ t, h (ix2 t a) * ∑ c : Fin 80, cl x2 t c * ((c.val : ℝ) : EReal) := by
  pointwise [k0_pay31, k0_pay29, k0_pay30]
  simp only [sitofp_nat _ (Nat.lt_trans (Fin.isLt _) (by norm_num : 80 < 1000)), cl]

/-- The first coordinate of the centre of an anchor's box. -/
theorem pay34_raw : k0_pay34 p q h (ix2 0 a) = ∑ t, h (ix2 t a) * ctr (p (ix2 t 0)) (q (ix2 t 0)) := by
  pointwise [k0_pay34, k0_pay32]; rfl
/-- The second coordinate of the centre of an anchor's box. -/
theorem pay35_raw : k0_pay35 p q h (ix2 0 a) = ∑ t, h (ix2 t a) * ctr (p (ix2 t 0)) (q (ix2 t 0)) := by
  pointwise [k0_pay35, k0_pay33]; rfl
/-- The logarithm of the width of an anchor's box. -/
theorem pay36_raw : k0_pay36 p q h (ix2 0 a) = ∑ t, h (ix2 t a) * Ideal.log (wid (p (ix2 t 0)) (q (ix2 t 0))) := by
  pointwise [k0_pay36, k0_pay32]; rfl
/-- The logarithm of the height of an anchor's box. -/
theorem pay37_raw : k0_pay37 p q h (ix2 0 a) = ∑ t, h (ix2 t a) * Ideal.log (wid (p (ix2 t 0)) (q (ix2 t 0))) := by
  pointwise [k0_pay37, k0_pay33]; rfl
end pick

section widths
variable (p q : FVec Ideal S1x2000 .f32) (a : Fin 2000)
/-- The width of an anchor. -/
theorem pay38_raw : k0_pay38 p q (ix2 0 a) = wid (p (ix2 0 a)) (q (ix2 0 a)) := by pointwise [k0_pay38]; rfl
/-- The height of an anchor. -/
theorem pay39_raw : k0_pay39 p q (ix2 0 a) = wid (p (ix2 0 a)) (q (ix2 0 a)) := by pointwise [k0_pay39]; rfl
/-- The first coordinate of the centre of an anchor. -/
theorem pay40_raw : k0_pay40 p q (ix2 0 a) = ctr (p (ix2 0 a)) (q (ix2 0 a)) := by
  pointwise [k0_pay40, k0_pay38]; rfl
end widths

/-! ### What a point adds -/

/-- What a point adds to the box loss. -/
theorem box_apply (old : FVec Ideal S1x1 .f32) :
    k0_pay45 (POS x0 x1) (k0_pay41 (k0_pay37 (k0_pay18 x1) (k0_pay20 x1) (HOT x0 x1)) (k0_pay39 (k0_pay13 x0) (k0_pay15 x0)))
      (k0_pay42 x4)
      (k0_pay43 (k0_pay13 x0) (k0_pay34 (k0_pay17 x1) (k0_pay19 x1) (HOT x0 x1)) (k0_pay35 (k0_pay18 x1) (k0_pay20 x1) (HOT x0 x1))
        (k0_pay38 (k0_pay12 x0) (k0_pay14 x0)) (k0_pay39 (k0_pay13 x0) (k0_pay15 x0)) (k0_pay40 (k0_pay12 x0) (k0_pay14 x0))
        (FloatOps.ofBits .f32 0x3F000000#32) x4)
      (k0_pay44 (k0_pay36 (k0_pay17 x1) (k0_pay19 x1) (HOT x0 x1)) (k0_pay38 (k0_pay12 x0) (k0_pay14 x0)) x4) old (ix2 0 0)
    = old (ix2 0 0) + ∑ a, boxv (anc x0 a) (gt x1) (bp x4 a) := by
  pointwise [k0_pay45, k0_pay41, k0_pay42, k0_pay43, k0_pay44]
  simp only [pos_apply, hot_apply, pay34_raw, pay35_raw, pay36_raw, pay37_raw, pay38_raw, pay39_raw, pay40_raw,
    pay12_apply, pay13_apply, pay14_apply, pay15_apply, pay17_apply, pay18_apply, pay19_apply, pay20_apply, absf_eq,
    Finset.univ_unique, Finset.sum_singleton]
  rfl

/-- What a point adds to the number of positive anchors. -/
theorem count_apply (old : FVec Ideal S1x1 .f32) :
    k0_pay46 (POS x0 x1) old (ix2 0 0) = old (ix2 0 0) + ∑ a, posv (ov x0 x1 a) := by
  pointwise [k0_pay46]
  simp only [pos_apply, Finset.univ_unique, Finset.sum_singleton]

/-- A logit. -/
theorem lg_raw (a : Fin 2000) (c : Fin 80) : k0_pay47 (F := Ideal) x3 (ix2 a c) = lg x3 a c := by
  pointwise [k0_pay47]; rfl
/-- The soft plus of a logit. -/
theorem soft_raw (a : Fin 2000) (c : Fin 80) :
    k0_pay49 (F := Ideal) (k0_pay47 x3) (k0_pay48 x3) (0 : EReal) (ix2 a c) = soft (lg x3 a c) := by
  pointwise [k0_pay49, k0_pay47, k0_pay48]
  simp [soft, decay, absf_eq, lg]
/-- The probability of a logit. -/
theorem prob_raw (a : Fin 2000) (c : Fin 80) :
    k0_pay50 (F := Ideal) (k0_pay47 x3) (k0_pay48 x3) (ix2 a c) = prob (lg x3 a c) := by
  pointwise [k0_pay50, k0_pay47, k0_pay48]
  simp [prob, decay, absf_eq, lg]
/-- The focal loss of a logit whose label is zero. -/
theorem fneg_raw (a : Fin 2000) (c : Fin 80) :
    k0_pay51 (F := Ideal) (k0_pay47 x3) (k0_pay48 x3) (0 : EReal) (ix2 a c) = fneg (lg x3 a c) := by
  pointwise [k0_pay51]
  simp only [soft_raw, prob_raw]; rfl

/-- What a point adds to the background sum. -/
theorem back_apply (old : FVec Ideal S1x1 .f32) :
    k0_pay2 (TW x0 x1) (k0_pay52 (k0_pay47 x3) (k0_pay48 x3) (FloatOps.ofBits .f32 0x00000000#32)) old (ix2 0 0)
    = old (ix2 0 0) + ∑ a, backv (ov x0 x1 a) (lg x3 a) := by
  pointwise [k0_pay2, k0_pay52]
  simp only [tw_apply, fneg_raw]; rfl

/-- What a point adds to the sum of class `c`. -/
theorem cls_apply (old : FVec Ideal S1x80 .f32) (c : Fin 80) :
    k0_pay1 (k0_pay53 (POS x0 x1) (k0_pay31 (HOT x0 x1) (k0_pay29 x2) (k0_pay30 (F := Ideal))) (k0_pay47 x3) (k0_pay48 x3)
      (FloatOps.ofBits .f32 0x00000000#32) old) (ix2 0 c)
    = old (ix2 0 c) + ∑ a, clsv (ov x0 x1 a) (cl x2) (lg x3 a) c := by
  pointwise [k0_pay1, k0_pay53]
  simp only [pos_apply, fneg_raw, soft_raw, prob_raw, pay31_raw, hot_apply, sitofp_bit,
    lg_raw, sitofp_nat _ (Nat.lt_trans (Fin.isLt _) (by norm_num : 80 < 1000)), select_eq c, Finset.sum_ite_eq', Finset.mem_univ, if_true]
  rfl

end Cert.KernelIdeal.Val
-- ==== Proof.Val.Cases.lean ====
/-
What the running sums hold after one point of the grid, in each of the five ways a point goes: the first point, an
ordinary point, the last point of an image, the first point of a later image, and the last point of all.
-/
module

public import proofs.«01_k».proof.Proof.Gen.KernelIdeal.Frame
public import proofs.«01_k».proof.Proof.Val.Pay
public import Idealize.ShloMosaic.Lib.Pipeline.Value
public import Idealize.ShloMosaic.Lib.WritesUnit
public import Idealize.ShloMosaic.Lib.Tactic

@[expose] public section
set_option maxRecDepth 10000
noncomputable section
open Idealize.ShloMosaic Idealize.ShloMosaic.TcCoe Idealize.SL.Sem
open scoped BigOperators
namespace Cert.KernelIdeal.Val
open Cert.KernelIdeal Cert.KernelIdeal.Gen Cert.Loss

/-- The zero offsets of two axes. -/
theorem hz2 : (![0, 0] : Fin 2 → Nat) = fun _ => 0 := funext fun a => by fin_cases a <;> rfl
/-- The zero offsets of three axes. -/
theorem hz3 : (![0, 0, 0] : Fin 3 → Nat) = fun _ => 0 := funext fun a => by fin_cases a <;> rfl
/-- The zero offsets of four axes. -/
theorem hz4 : (![0, 0, 0, 0] : Fin 4 → Nat) = fun _ => 0 := funext fun a => by fin_cases a <;> rfl

/-! ### Where a load reads -/

/-- The one position of a cell. -/
theorem idx_cell {r : ℕ} (inb : ∀ a, (![r, 0] : Fin 2 → ℕ) a + (![1, 1] : Fin 2 → ℕ) a ≤ S8x128.size a) (h : r < 8) :
    (Rect.unit (s := S8x128) ![r, 0] ![1, 1] inb).idx (ix2 (0 : Fin 1) (0 : Fin 1)) = ix2 (⟨r, h⟩ : Fin 8) (0 : Fin 128) :=
  funext (Fin.forall_fin_two.mpr ⟨Fin.ext rfl, Fin.ext rfl⟩)
/-- A position in the first eighty lanes of row 0. -/
theorem idx_row (inb : ∀ a, (![0, 0] : Fin 2 → ℕ) a + (![1, 80] : Fin 2 → ℕ) a ≤ S8x128.size a) (l : Fin 80) :
    (Rect.unit (s := S8x128) ![0, 0] ![1, 80] inb).idx (ix2 (0 : Fin 1) l) = ix2 (0 : Fin 8) (⟨l.val, by omega⟩ : Fin 128) :=
  funext (Fin.forall_fin_two.mpr ⟨Fin.ext rfl, Fin.ext (by show 0 + 1 * l.val = l.val; omega)⟩)
/-- A position in row 0. -/
theorem idx_row' (inb : ∀ a, (![0, 0] : Fin 2 → ℕ) a + (![1, 128] : Fin 2 → ℕ) a ≤ S8x128.size a) (l : Fin 128) :
    (Rect.unit (s := S8x128) ![0, 0] ![1, 128] inb).idx (ix2 (0 : Fin 1) l) = ix2 (0 : Fin 8) l :=
  funext (Fin.forall_fin_two.mpr ⟨Fin.ext rfl, Fin.ext (by show 0 + 1 * l.val = l.val; omega)⟩)

/-! ### Reading the scratch block after a list of stores -/

section read
variable {sg : RefSig} {κ : Kind} {sp : Space} (v : View sg κ sp S8x128 .f32) (f : v.ty.Contents (Elt Ideal))
  (L : List (View.Piece (Elt Ideal) S8x128 .f32))

/-- A store to the first lane of row `r` seen there. -/
theorem cell_hit {r : ℕ} (inb : ∀ a, (![r, 0] : Fin 2 → ℕ) a + (![1, 1] : Fin 2 → ℕ) a ≤ S8x128.size a)
    (w : S1x1.Idx → EReal) (q : Fin 8) (h : q.val = r) :
    v.read (Elt Ideal) (v.writes (Elt Ideal) f (⟨Rect.unit (s := S8x128) ![r, 0] ![1, 1] inb, w⟩ :: L)) (ix2 q (0 : Fin 128))
      = w (ix2 0 0) :=
  View.read_writes_cons_unit_of_mem v f inb w L _ (ix2 (0 : Fin 1) (0 : Fin 1)) rfl
    (Fin.forall_fin_two.mpr ⟨by show q.val = r + 0; omega, rfl⟩)

/-- A store to another row is not seen. -/
theorem cell_miss {r : ℕ} (inb : ∀ a, (![r, 0] : Fin 2 → ℕ) a + (![1, 1] : Fin 2 → ℕ) a ≤ S8x128.size a)
    (w : S1x1.Idx → EReal) (q : Fin 8) (l : Fin 128) (h : q.val ≠ r) :
    v.read (Elt Ideal) (v.writes (Elt Ideal) f (⟨Rect.unit (s := S8x128) ![r, 0] ![1, 1] inb, w⟩ :: L)) (ix2 q l)
      = v.read (Elt Ideal) (v.writes (Elt Ideal) f L) (ix2 q l) :=
  View.read_writes_cons_unit_of_not_mem v f inb w L _ rfl 0 (by
    show q.val < r ∨ r + 1 ≤ q.val
    omega)

/-- A store to the first eighty lanes of row 0 seen there. -/
theorem row_hit (inb : ∀ a, (![0, 0] : Fin 2 → ℕ) a + (![1, 80] : Fin 2 → ℕ) a ≤ S8x128.size a)
    (w : S1x80.Idx → EReal) (l : Fin 80) :
    v.read (Elt Ideal) (v.writes (Elt Ideal) f (⟨Rect.unit (s := S8x128) ![0, 0] ![1, 80] inb, w⟩ :: L))
      (ix2 (0 : Fin 8) (⟨l.val, by omega⟩ : Fin 128)) = w (ix2 0 l) :=
  View.read_writes_cons_unit_of_mem v f inb w L _ (ix2 (0 : Fin 1) l) rfl
    (Fin.forall_fin_two.mpr ⟨rfl, by show l.val = 0 + l.val; omega⟩)

/-- A store to the first eighty lanes of row 0 is not seen in another row. -/
theorem row_miss (inb : ∀ a, (![0, 0] : Fin 2 → ℕ) a + (![1, 80] : Fin 2 → ℕ) a ≤ S8x128.size a)
    (w : S1x80.Idx → EReal) (q : Fin 8) (l : Fin 128) (h : q.val ≠ 0) :
    v.read (Elt Ideal) (v.writes (Elt Ideal) f (⟨Rect.unit (s := S8x128) ![0, 0] ![1, 80] inb, w⟩ :: L)) (ix2 q l)
      = v.read (Elt Ideal) (v.writes (Elt Ideal) f L) (ix2 q l) :=
  View.read_writes_cons_unit_of_not_mem v f inb w L _ rfl 0 (by
    show q.val < 0 ∨ 0 + 1 ≤ q.val
    omega)

/-- A store to the first eighty lanes of row 0 is not seen in a later lane. -/
theorem row_past (inb : ∀ a, (![0, 0] : Fin 2 → ℕ) a + (![1, 80] : Fin 2 → ℕ) a ≤ S8x128.size a)
    (w : S1x80.Idx → EReal) (q : Fin 8) (l : Fin 128) (h : 80 ≤ l.val) :
    v.read (Elt Ideal) (v.writes (Elt Ideal) f (⟨Rect.unit (s := S8x128) ![0, 0] ![1, 80] inb, w⟩ :: L)) (ix2 q l)
      = v.read (Elt Ideal) (v.writes (Elt Ideal) f L) (ix2 q l) :=
  View.read_writes_cons_unit_of_not_mem v f inb w L _ rfl 1 (by
    show l.val < 0 ∨ 0 + 80 ≤ l.val
    omega)

/-- A store of the whole block is seen everywhere. -/
theorem all_hit (inb : ∀ a, (![0, 0] : Fin 2 → ℕ) a + (![8, 128] : Fin 2 → ℕ) a ≤ S8x128.size a)
    (w : S8x128.Idx → EReal) (q : Fin 8) (l : Fin 128) :
    v.read (Elt Ideal) (v.writes (Elt Ideal) f (⟨Rect.unit (s := S8x128) ![0, 0] ![8, 128] inb, w⟩ :: L)) (ix2 q l)
      = w (ix2 q l) :=
  View.read_writes_cons_unit_of_mem v f inb w L _ (ix2 q l) rfl
    (Fin.forall_fin_two.mpr ⟨by show q.val = 0 + q.val; omega, by show l.val = 0 + l.val; omega⟩)

/-- A load of one cell out of the stores that cover it. -/
theorem cov_cell {r : ℕ} (inb : ∀ a, (![r, 0] : Fin 2 → ℕ) a + (![1, 1] : Fin 2 → ℕ) a ≤ S8x128.size a) (h : r < 8) :
    (v.readCov L (Rect.unit (s := S8x128) ![r, 0] ![1, 1] inb).toLoadRect : S1x1.Idx → EReal) (ix2 0 0)
      = v.read (Elt Ideal) (v.writes (Elt Ideal) v.junk L) (ix2 (⟨r, h⟩ : Fin 8) (0 : Fin 128)) := by
  unfold View.readCov
  rw [View.readAt_eq_ld]
  exact congrArg _ (idx_cell inb h)

/-- A load of the first eighty lanes of row 0 out of the stores that cover it. -/
theorem cov_row (inb : ∀ a, (![0, 0] : Fin 2 → ℕ) a + (![1, 80] : Fin 2 → ℕ) a ≤ S8x128.size a) (l : Fin 80) :
    (v.readCov L (Rect.unit (s := S8x128) ![0, 0] ![1, 80] inb).toLoadRect : S1x80.Idx → EReal) (ix2 0 l)
      = v.read (Elt Ideal) (v.writes (Elt Ideal) v.junk L) (ix2 (0 : Fin 8) (⟨l.val, by omega⟩ : Fin 128)) := by
  unfold View.readCov
  rw [View.readAt_eq_ld]
  exact congrArg _ (idx_row inb l)
end read

/-! ### The small stores -/

/-- The denominator after an image: its count of positive anchors, at least one, is added. -/
theorem den_apply (p q : FVec Ideal S1x1 .f32) : k0_pay3 p q (ix2 0 0) = p (ix2 0 0) + max (q (ix2 0 0)) 1 := by
  pointwise [k0_pay3]
/-- The count of positive anchors starts at zero. -/
theorem zero_apply : k0_pay10 (F := Ideal) (ix2 0 0) = (0 : EReal) := by pointwise [k0_pay10]
/-- The accumulator starts at zero. -/
theorem zeros_apply (q : Fin 8) (l : Fin 128) : k0_pay8 (F := Ideal) (ix2 q l) = (0 : EReal) := by pointwise [k0_pay8]

variable (x0 : Vec Ideal S1x8x2000 .f32) (x1 : Vec Ideal S1x64x4 .f32) (x2 : Vec Ideal S1x64x80 .f32)
    (x3 : Vec Ideal S1x2000x80 .f32) (x4 : Vec Ideal S1x1x8x2000 .f32)

/-- What a point makes of the running sums: `n` is the count it starts from and `d` the denominator it leaves. -/
structure Adds (xs S : S8x128.Idx → EReal) (n d : EReal) : Prop where
  cls : ∀ l : Fin 80, S (ix2 (0 : Fin 8) (⟨l.val, by omega⟩ : Fin 128))
    = xs (ix2 (0 : Fin 8) (⟨l.val, by omega⟩ : Fin 128)) + ∑ a, clsv (ov x0 x1 a) (cl x2) (lg x3 a) l
  pad : ∀ l : Fin 128, 80 ≤ l.val → S (ix2 (0 : Fin 8) l) = xs (ix2 (0 : Fin 8) l)
  box : S (ix2 (1 : Fin 8) (0 : Fin 128)) = xs (ix2 (1 : Fin 8) (0 : Fin 128)) + ∑ a, boxv (anc x0 a) (gt x1) (bp x4 a)
  cnt : S (ix2 (2 : Fin 8) (0 : Fin 128)) = n + ∑ a, posv (ov x0 x1 a)
  den : S (ix2 (3 : Fin 8) (0 : Fin 128)) = d
  back : S (ix2 (4 : Fin 8) (0 : Fin 128)) = xs (ix2 (4 : Fin 8) (0 : Fin 128)) + ∑ a, backv (ov x0 x1 a) (lg x3 a)

variable (c : Dev nD) (i : grid0.Coords) (a2 : Memref sig .tc .vmem S1x8x2000 .f32) (h2 : a2.IsWhole)
    (a3 : Memref sig .tc .vmem S1x64x4 .f32) (h3 : a3.IsWhole) (a4 : Memref sig .tc .vmem S1x64x80 .f32) (h4 : a4.IsWhole)
    (a5 : Memref sig .tc .vmem S1x2000x80 .f32) (h5 : a5.IsWhole) (a6 : Memref sig .tc .vmem S1x1x8x2000 .f32) (h6 : a6.IsWhole)
    (a7 : Memref sig .tc .vmem S8x128 .f32) (h7 : a7.IsWhole) (a8 : Memref sig .tc .vmem S8x128 .f32) (h8 : a8.IsWhole)
    (xs : Vec Ideal S8x128 .f32)

/-- The first point: every sum starts from zero. -/
theorem adds_A (hc0 : cond0_0 i) (hc1 : cond0_1 i) (hc2 : ¬cond0_2 i) (hc3 : ¬cond0_3 i) :
    Adds x0 x1 x2 x3 x4 (fun _ => 0)
      (sout0_A_0 c i a2 h2 a3 h3 a4 h4 a5 h5 a6 h6 a7 h7 a8 h8 hc0 hc1 hc2 hc3 x0 x1 x2 x3 x4) 0 0 := by
  unfold sout0_A_0
  unfold kernelRun0_A
  dsimp only
  sl_unfold_words
  simp only [View.readAt_eq_ld, h2.read_unread, h3.read_unread, h4.read_unread, h5.read_unread, h6.read_unread,
    h8.read_unread, View.ld_unit_zero (S := S1x8x2000) hz3, View.ld_unit_zero (S := S1x64x4) hz3,
    View.ld_unit_zero (S := S1x64x80) hz3, View.ld_unit_zero (S := S1x2000x80) hz3, View.ld_unit_zero (S := S1x1x8x2000) hz4,
    View.ld_unit_zero (S := S8x128) hz2]
  refine ⟨fun l => ?_, fun l hl => ?_, ?_, ?_, ?_, ?_⟩
  case refine_2 => simp (decide := true) only [cell_miss, row_past _ _ _ _ _ _ _ hl, all_hit, zeros_apply, View.writes_nil, h8.read_unread]
  all_goals
    simp (decide := true) only [cell_hit, cell_miss, row_hit, row_miss, all_hit, cov_cell, cov_row, View.ld, idx_cell, idx_row, box_apply, count_apply,
      back_apply, cls_apply, den_apply, zero_apply, zeros_apply, View.writes_nil, h8.read_unread, zero_add]
  all_goals rfl
/-- An ordinary point adds to every sum and leaves the denominator. -/
theorem adds_B (hc0 : ¬cond0_0 i) (hc1 : ¬cond0_1 i) (hc2 : ¬cond0_2 i) (hc3 : ¬cond0_3 i) :
    Adds x0 x1 x2 x3 x4 xs
      (sout0_B_0 c i a2 h2 a3 h3 a4 h4 a5 h5 a6 h6 a7 h7 a8 h8 hc0 hc1 hc2 hc3 x0 x1 x2 x3 x4 xs) (xs (ix2 (2 : Fin 8) (0 : Fin 128))) (xs (ix2 (3 : Fin 8) (0 : Fin 128))) := by
  unfold sout0_B_0
  unfold kernelRun0_B
  dsimp only
  sl_unfold_words
  simp only [View.readAt_eq_ld, h2.read_unread, h3.read_unread, h4.read_unread, h5.read_unread, h6.read_unread,
    h8.read_unread, View.ld_unit_zero (S := S1x8x2000) hz3, View.ld_unit_zero (S := S1x64x4) hz3,
    View.ld_unit_zero (S := S1x64x80) hz3, View.ld_unit_zero (S := S1x2000x80) hz3, View.ld_unit_zero (S := S1x1x8x2000) hz4,
    View.ld_unit_zero (S := S8x128) hz2]
  refine ⟨fun l => ?_, fun l hl => ?_, ?_, ?_, ?_, ?_⟩
  case refine_2 => simp (decide := true) only [cell_miss, row_past _ _ _ _ _ _ _ hl, all_hit, zeros_apply, View.writes_nil, h8.read_unread]
  all_goals
    simp (decide := true) only [cell_hit, cell_miss, row_hit, row_miss, all_hit, cov_cell, cov_row, View.ld, idx_cell, idx_row, box_apply, count_apply,
      back_apply, cls_apply, den_apply, zero_apply, zeros_apply, View.writes_nil, h8.read_unread, zero_add]
  all_goals rfl
/-- The last point of an image adds the count of its positive anchors, at least one, to the denominator. -/
theorem adds_C (hc0 : ¬cond0_0 i) (hc1 : ¬cond0_1 i) (hc2 : cond0_2 i) (hc3 : ¬cond0_3 i) :
    Adds x0 x1 x2 x3 x4 xs
      (sout0_C_0 c i a2 h2 a3 h3 a4 h4 a5 h5 a6 h6 a7 h7 a8 h8 hc0 hc1 hc2 hc3 x0 x1 x2 x3 x4 xs) (xs (ix2 (2 : Fin 8) (0 : Fin 128))) (xs (ix2 (3 : Fin 8) (0 : Fin 128)) + max (xs (ix2 (2 : Fin 8) (0 : Fin 128)) + ∑ a, posv (ov x0 x1 a)) 1) := by
  unfold sout0_C_0
  unfold kernelRun0_C
  dsimp only
  sl_unfold_words
  simp only [View.readAt_eq_ld, h2.read_unread, h3.read_unread, h4.read_unread, h5.read_unread, h6.read_unread,
    h8.read_unread, View.ld_unit_zero (S := S1x8x2000) hz3, View.ld_unit_zero (S := S1x64x4) hz3,
    View.ld_unit_zero (S := S1x64x80) hz3, View.ld_unit_zero (S := S1x2000x80) hz3, View.ld_unit_zero (S := S1x1x8x2000) hz4,
    View.ld_unit_zero (S := S8x128) hz2]
  refine ⟨fun l => ?_, fun l hl => ?_, ?_, ?_, ?_, ?_⟩
  case refine_2 => simp (decide := true) only [cell_miss, row_past _ _ _ _ _ _ _ hl, all_hit, zeros_apply, View.writes_nil, h8.read_unread]
  all_goals
    simp (decide := true) only [cell_hit, cell_miss, row_hit, row_miss, all_hit, cov_cell, cov_row, View.ld, idx_cell, idx_row, box_apply, count_apply,
      back_apply, cls_apply, den_apply, zero_apply, zeros_apply, View.writes_nil, h8.read_unread, zero_add]
  all_goals rfl
/-- The first point of a later image starts the count from zero. -/
theorem adds_D (hc0 : ¬cond0_0 i) (hc1 : cond0_1 i) (hc2 : ¬cond0_2 i) (hc3 : ¬cond0_3 i) :
    Adds x0 x1 x2 x3 x4 xs
      (sout0_D_0 c i a2 h2 a3 h3 a4 h4 a5 h5 a6 h6 a7 h7 a8 h8 hc0 hc1 hc2 hc3 x0 x1 x2 x3 x4 xs) 0 (xs (ix2 (3 : Fin 8) (0 : Fin 128))) := by
  unfold sout0_D_0
  unfold kernelRun0_D
  dsimp only
  sl_unfold_words
  simp only [View.readAt_eq_ld, h2.read_unread, h3.read_unread, h4.read_unread, h5.read_unread, h6.read_unread,
    h8.read_unread, View.ld_unit_zero (S := S1x8x2000) hz3, View.ld_unit_zero (S := S1x64x4) hz3,
    View.ld_unit_zero (S := S1x64x80) hz3, View.ld_unit_zero (S := S1x2000x80) hz3, View.ld_unit_zero (S := S1x1x8x2000) hz4,
    View.ld_unit_zero (S := S8x128) hz2]
  refine ⟨fun l => ?_, fun l hl => ?_, ?_, ?_, ?_, ?_⟩
  case refine_2 => simp (decide := true) only [cell_miss, row_past _ _ _ _ _ _ _ hl, all_hit, zeros_apply, View.writes_nil, h8.read_unread]
  all_goals
    simp (decide := true) only [cell_hit, cell_miss, row_hit, row_miss, all_hit, cov_cell, cov_row, View.ld, idx_cell, idx_row, box_apply, count_apply,
      back_apply, cls_apply, den_apply, zero_apply, zeros_apply, View.writes_nil, h8.read_unread, zero_add]
  all_goals rfl
/-- The last point of all ends its image. -/
theorem adds_E (hc0 : ¬cond0_0 i) (hc1 : ¬cond0_1 i) (hc2 : cond0_2 i) (hc3 : cond0_3 i) :
    Adds x0 x1 x2 x3 x4 xs
      (sout0_E_0 c i a2 h2 a3 h3 a4 h4 a5 h5 a6 h6 a7 h7 a8 h8 hc0 hc1 hc2 hc3 x0 x1 x2 x3 x4 xs) (xs (ix2 (2 : Fin 8) (0 : Fin 128))) (xs (ix2 (3 : Fin 8) (0 : Fin 128)) + max (xs (ix2 (2 : Fin 8) (0 : Fin 128)) + ∑ a, posv (ov x0 x1 a)) 1) := by
  unfold sout0_E_0
  unfold kernelRun0_E
  dsimp only
  sl_unfold_words
  simp only [View.readAt_eq_ld, h2.read_unread, h3.read_unread, h4.read_unread, h5.read_unread, h6.read_unread,
    h8.read_unread, View.ld_unit_zero (S := S1x8x2000) hz3, View.ld_unit_zero (S := S1x64x4) hz3,
    View.ld_unit_zero (S := S1x64x80) hz3, View.ld_unit_zero (S := S1x2000x80) hz3, View.ld_unit_zero (S := S1x1x8x2000) hz4,
    View.ld_unit_zero (S := S8x128) hz2]
  refine ⟨fun l => ?_, fun l hl => ?_, ?_, ?_, ?_, ?_⟩
  case refine_2 => simp (decide := true) only [cell_miss, row_past _ _ _ _ _ _ _ hl, all_hit, zeros_apply, View.writes_nil, h8.read_unread]
  all_goals
    simp (decide := true) only [cell_hit, cell_miss, row_hit, row_miss, all_hit, cov_cell, cov_row, View.ld, idx_cell, idx_row, box_apply, count_apply,
      back_apply, cls_apply, den_apply, zero_apply, zeros_apply, View.writes_nil, h8.read_unread, zero_add]
  all_goals rfl
end Cert.KernelIdeal.Val
-- ==== Proof.Val.Last.lean ====
/-
What the last point of the grid stores as the kernel's result, in terms of the running sums it leaves.
-/
module

public import proofs.«01_k».proof.Proof.Val.Cases

@[expose] public section
set_option maxRecDepth 10000
noncomputable section
open Idealize.ShloMosaic Idealize.ShloMosaic.TcCoe Idealize.SL.Sem
open scoped BigOperators
namespace Cert.KernelIdeal.Val
open Cert.KernelIdeal Cert.KernelIdeal.Gen Cert.Loss

/-- A loss, or zero where it is not finite: the kernel's own test. -/
def guard (x : EReal) : EReal :=
  if IntOp.ori (Ideal.cmp .one x x) (Ideal.cmp .oeq (abv x) ⊤) = 1#1 then 0 else x

/-- The first two lanes of the result. -/
theorem out_apply (p q r : FVec Ideal S1x1 .f32) (row : FVec Ideal S1x128 .f32) :
    k0_pay4 (F := Ideal) (k0_pay5 p q) (k0_pay6 p row r) k0_pay7 (ix2 (0 : Fin 8) (0 : Fin 128))
      = guard (Ideal.div ((∑ l, row (ix2 0 l)) + r (ix2 0 0)) (p (ix2 0 0)))
    ∧ k0_pay4 (F := Ideal) (k0_pay5 p q) (k0_pay6 p row r) k0_pay7 (ix2 (0 : Fin 8) (1 : Fin 128))
      = guard (Ideal.div (q (ix2 0 0)) (p (ix2 0 0))) := by
  have e1 : IntOp.andi 1#1 1#1 = 1#1 := by decide
  have e2 : IntOp.andi 1#1 (IntOp.cmpi CmpIPredicate.eq 0#32 1#32) = 0#1 := by decide
  have e3 : IntOp.andi 1#1 (IntOp.cmpi CmpIPredicate.eq 1#32 0#32) = 0#1 := by decide
  have sel1 : ∀ x y : EReal, Scalar.select 1#1 x y = x := fun x y => rfl
  have sel0 : ∀ x y : EReal, Scalar.select 0#1 x y = y := fun x y => rfl
  constructor
  · pointwise [k0_pay4, k0_pay5, k0_pay6, k0_pay7]
    simp only [Finset.univ_unique, Finset.sum_singleton, absf_eq, ofBits_top, e1, e2, sel1, sel0, add_zero]
    rfl
  · pointwise [k0_pay4, k0_pay5, k0_pay6, k0_pay7]
    simp only [Finset.univ_unique, Finset.sum_singleton, absf_eq, ofBits_top, e1, e3, sel1, sel0, zero_add]
    rfl

variable (x0 : Vec Ideal S1x8x2000 .f32) (x1 : Vec Ideal S1x64x4 .f32) (x2 : Vec Ideal S1x64x80 .f32)
    (x3 : Vec Ideal S1x2000x80 .f32) (x4 : Vec Ideal S1x1x8x2000 .f32)
variable (c : Dev nD) (i : grid0.Coords) (a2 : Memref sig .tc .vmem S1x8x2000 .f32) (h2 : a2.IsWhole)
    (a3 : Memref sig .tc .vmem S1x64x4 .f32) (h3 : a3.IsWhole) (a4 : Memref sig .tc .vmem S1x64x80 .f32) (h4 : a4.IsWhole)
    (a5 : Memref sig .tc .vmem S1x2000x80 .f32) (h5 : a5.IsWhole) (a6 : Memref sig .tc .vmem S1x1x8x2000 .f32) (h6 : a6.IsWhole)
    (a7 : Memref sig .tc .vmem S8x128 .f32) (h7 : a7.IsWhole) (a8 : Memref sig .tc .vmem S8x128 .f32) (h8 : a8.IsWhole)
    (xs : Vec Ideal S8x128 .f32)

/-- The last point's result is the two guarded quotients of the sums it leaves. -/
theorem out_E (hc0 : ¬cond0_0 i) (hc1 : ¬cond0_1 i) (hc2 : cond0_2 i) (hc3 : cond0_3 i) (S : S8x128.Idx → EReal)
    (hS : S = sout0_E_0 c i a2 h2 a3 h3 a4 h4 a5 h5 a6 h6 a7 h7 a8 h8 hc0 hc1 hc2 hc3 x0 x1 x2 x3 x4 xs) :
    out0_E_5 c i a2 h2 a3 h3 a4 h4 a5 h5 a6 h6 a7 h7 a8 h8 hc0 hc1 hc2 hc3 x0 x1 x2 x3 x4 xs (ix2 (0 : Fin 8) (0 : Fin 128))
      = guard (Ideal.div ((∑ l : Fin 128, S (ix2 (0 : Fin 8) l)) + S (ix2 (4 : Fin 8) (0 : Fin 128))) (S (ix2 (3 : Fin 8) (0 : Fin 128))))
    ∧ out0_E_5 c i a2 h2 a3 h3 a4 h4 a5 h5 a6 h6 a7 h7 a8 h8 hc0 hc1 hc2 hc3 x0 x1 x2 x3 x4 xs (ix2 (0 : Fin 8) (1 : Fin 128))
      = guard (Ideal.div (S (ix2 (1 : Fin 8) (0 : Fin 128))) (S (ix2 (3 : Fin 8) (0 : Fin 128)))) := by
  unfold out0_E_5
  rw [View.read_writes_eq_canon _ _ _ (cover0_E_5 c i a2 h2 a3 h3 a4 h4 a5 h5 a6 h6 a7 h7 a8 h8 hc0 hc1 hc2 hc3 x0 x1 x2 x3 x4 xs)]
  unfold sout0_E_0 at hS
  unfold kernelRun0_E at hS ⊢
  dsimp only at hS ⊢
  rw [View.canon_unit_zero hz2]
  unfold kernelRun0_E.sl.r_32 kernelRun0_E.sl.r_33
  rw [(out_apply _ _ _ _).1, (out_apply _ _ _ _).2]
  unfold kernelRun0_E.sl.v288_1 kernelRun0_E.sl.v298 kernelRun0_E.sl.v289_1 kernelRun0_E.sl.v295
  have row : ∀ l : Fin 128, View.readAt (Elt Ideal) a8.view (Rect.unit (s := S8x128) ![0, 0] S1x128.size inb_S8x128_S1x128_0_0).toLoadRect
      (a8.view.writes (Elt Ideal) (h8.unread xs)
        (kernelRun0_E.sl.HS0_5 c a2 h2 a3 h3 a4 h4 a5 h5 a6 h6 a8 h8 x0 x1 x2 x3 x4 xs)) (ix2 (0 : Fin 1) l)
      = S (ix2 (0 : Fin 8) l) := fun l => by
    rw [View.readAt_eq_ld, ← hS]
    exact congrArg S (idx_row' _ l)
  have c1 : (a8.view.readCov (kernelRun0_E.sl.HS0_5 c a2 h2 a3 h3 a4 h4 a5 h5 a6 h6 a8 h8 x0 x1 x2 x3 x4 xs)
      (Rect.unit (s := S8x128) ![1, 0] S1x1.size inb_S8x128_S1x1_1_0).toLoadRect : S1x1.Idx → EReal) (ix2 0 0) = S (ix2 (1 : Fin 8) (0 : Fin 128)) := by
    rw [hS]
    refine (cov_cell _ _ _ (by decide)).trans ?_
    unfold kernelRun0_E.sl.HS0_5 kernelRun0_E.sl.HS0_4
    simp (decide := true) only [cell_hit, cell_miss, row_miss]
  have c3 : (a8.view.readCov (kernelRun0_E.sl.HS0_5 c a2 h2 a3 h3 a4 h4 a5 h5 a6 h6 a8 h8 x0 x1 x2 x3 x4 xs)
      (Rect.unit (s := S8x128) ![3, 0] S1x1.size inb_S8x128_S1x1_3_0).toLoadRect : S1x1.Idx → EReal) (ix2 0 0) = S (ix2 (3 : Fin 8) (0 : Fin 128)) := by
    rw [hS]
    refine (cov_cell _ _ _ (by decide)).trans ?_
    unfold kernelRun0_E.sl.HS0_5 kernelRun0_E.sl.HS0_4
    simp (decide := true) only [cell_hit, cell_miss, row_miss]
  have c4 : (a8.view.readCov (kernelRun0_E.sl.HS0_5 c a2 h2 a3 h3 a4 h4 a5 h5 a6 h6 a8 h8 x0 x1 x2 x3 x4 xs)
      (Rect.unit (s := S8x128) ![4, 0] S1x1.size inb_S8x128_S1x1_4_0).toLoadRect : S1x1.Idx → EReal) (ix2 0 0) = S (ix2 (4 : Fin 8) (0 : Fin 128)) := by
    rw [hS]
    refine (cov_cell _ _ _ (by decide)).trans ?_
    unfold kernelRun0_E.sl.HS0_5 kernelRun0_E.sl.HS0_4
    simp (decide := true) only [cell_hit, cell_miss, row_miss]
  rw [c1, c3, c4, Finset.sum_congr rfl fun l _ => row l]
  exact ⟨rfl, rfl⟩
end Cert.KernelIdeal.Val
-- ==== Proof.Val.Sums.lean ====
/-
The running sums along the grid: what each of them holds after the last point, and the result the last point stores.
-/
module

public import proofs.«01_k».proof.Proof.Val.Last

@[expose] public section
set_option maxRecDepth 10000
noncomputable section
open Idealize.ShloMosaic Idealize.ShloMosaic.TcCoe Idealize.SL.Sem
open scoped BigOperators
namespace Cert.KernelIdeal.Val
open Cert.KernelIdeal Cert.KernelIdeal.Gen Cert.Loss

/-! ### Sums along the points, with no program in sight -/

/-- A quantity that starts from zero and grows by `f n` at point `n` is the sum of `f`. -/
theorem run_sum (s f : ℕ → EReal) (h0 : s 0 = f 0) (hs : ∀ n, n + 1 < 40 → s (n + 1) = s n + f (n + 1)) (n : ℕ) (hn : n < 40) :
    s n = ∑ k ∈ Finset.range (n + 1), f k := by
  induction n with
  | zero => rw [h0]; simp
  | succ n ih => rw [hs n hn, ih (by omega), Finset.sum_range_succ _ (n + 1)]

/-- The count of the current image: it starts afresh at every tenth point. -/
theorem run_count (p f : ℕ → EReal) (h0 : p 0 = f 0)
    (hs : ∀ n, n + 1 < 40 → p (n + 1) = (if (n + 1) % 10 = 0 then 0 else p n) + f (n + 1)) (n : ℕ) (hn : n < 40) :
    p n = ∑ k ∈ Finset.range (n % 10 + 1), f (n / 10 * 10 + k) := by
  induction n with
  | zero => rw [h0]; simp
  | succ n ih =>
    rw [hs n hn]
    by_cases h : (n + 1) % 10 = 0
    · rw [if_pos h, h, zero_add, zero_add, Finset.sum_range_one, show (n + 1) / 10 * 10 + 0 = n + 1 by omega]
    · rw [if_neg h, ih (by omega), show (n + 1) % 10 + 1 = (n % 10 + 1) + 1 by omega, Finset.sum_range_succ _ (n % 10 + 1),
        show (n + 1) / 10 = n / 10 by omega, show n / 10 * 10 + (n % 10 + 1) = n + 1 by omega]

/-- The denominator: every tenth point adds its image's count, or one. -/
theorem run_den (d p f : ℕ → EReal) (hp : ∀ n, n < 40 → p n = ∑ k ∈ Finset.range (n % 10 + 1), f (n / 10 * 10 + k))
    (h0 : d 0 = 0) (hs : ∀ n, n + 1 < 40 → d (n + 1) = d n + if (n + 1) % 10 = 9 then max (p (n + 1)) 1 else 0) (n : ℕ) (hn : n < 40) :
    d n = ∑ b ∈ Finset.range ((n + 1) / 10), max (∑ k ∈ Finset.range 10, f (b * 10 + k)) 1 := by
  induction n with
  | zero => rw [h0]; simp
  | succ n ih =>
    rw [hs n hn, ih (by omega)]
    by_cases h : (n + 1) % 10 = 9
    · rw [if_pos h, hp _ hn, h, show (n + 1 + 1) / 10 = (n + 1) / 10 + 1 by omega, Finset.sum_range_succ _ ((n + 1) / 10)]
    · rw [if_neg h, add_zero, show (n + 1 + 1) / 10 = (n + 1) / 10 by omega]

/-! ### The points -/

variable (m : (ℓ : Loc nD τ sig) → Buf (Elt Ideal) ℓ) (c : Dev nD)

/-- The running sums after point `n`. -/
def run (n : ℕ) (i : S8x128.Idx) : EReal := if h : n < cfg0.N then (outsAt0 m c n h).2 i else 0
/-- The running sums a point starts from. -/
def pre (n : ℕ) (i : S8x128.Idx) : EReal := if n = 0 then 0 else run m c (n - 1) i

/-- The accumulator after a point. -/
theorem run_eq (t : Fin cfg0.N) : run m c t.val = (outsAt0 m c t.val t.isLt).2 := by
  funext i
  unfold run
  rw [dif_pos t.isLt]
/-- The accumulator before a point is the one after the point before. -/
theorem pre_eq (t : Fin cfg0.N) (h : t.val ≠ 0) :
    pre m c t.val = (outsAt0 m c (t.val - 1) (Nat.lt_of_le_of_lt (Nat.sub_le _ _) t.isLt)).2 := by
  funext i
  unfold pre run
  rw [if_neg h, dif_pos]

/-- What one point makes of the running sums. -/
theorem step (t : Fin cfg0.N) :
    Adds (iblk m c 0 t) (iblk m c 1 t) (iblk m c 2 t) (iblk m c 3 t) (iblk m c 4 t) (pre m c t.val) (run m c t.val)
      (if t.val % 10 = 0 then 0 else pre m c t.val (ix2 (2 : Fin 8) (0 : Fin 128)))
      (pre m c t.val (ix2 (3 : Fin 8) (0 : Fin 128)) + if t.val % 10 = 9 then max (run m c t.val (ix2 (2 : Fin 8) (0 : Fin 128))) 1 else 0) := by
  have hN : cfg0.N = 40 := N_0
  have ht := t.isLt
  have ad := adds_A (iblk m c 0 t) (iblk m c 1 t) (iblk m c 2 t) (iblk m c 3 t) (iblk m c 4 t) c (grid0.coords t) (ms0_0 t) (hs0_0 t) (ms0_1 t) (hs0_1 t)
        (ms0_2 t) (hs0_2 t) (ms0_3 t) (hs0_3 t) (ms0_4 t) (hs0_4 t) (ms0_5 t) (hs0_5 t) scM0_0 (Memref.isWhole_whole _)
  have bd := adds_B (iblk m c 0 t) (iblk m c 1 t) (iblk m c 2 t) (iblk m c 3 t) (iblk m c 4 t) c (grid0.coords t) (ms0_0 t) (hs0_0 t) (ms0_1 t) (hs0_1 t)
        (ms0_2 t) (hs0_2 t) (ms0_3 t) (hs0_3 t) (ms0_4 t) (hs0_4 t) (ms0_5 t) (hs0_5 t) scM0_0 (Memref.isWhole_whole _)
        (outsAt0 m c (t.val - 1) (Nat.lt_of_le_of_lt (Nat.sub_le _ _) t.isLt)).2
  have cd := adds_C (iblk m c 0 t) (iblk m c 1 t) (iblk m c 2 t) (iblk m c 3 t) (iblk m c 4 t) c (grid0.coords t) (ms0_0 t) (hs0_0 t) (ms0_1 t) (hs0_1 t)
        (ms0_2 t) (hs0_2 t) (ms0_3 t) (hs0_3 t) (ms0_4 t) (hs0_4 t) (ms0_5 t) (hs0_5 t) scM0_0 (Memref.isWhole_whole _)
        (outsAt0 m c (t.val - 1) (Nat.lt_of_le_of_lt (Nat.sub_le _ _) t.isLt)).2
  have dd := adds_D (iblk m c 0 t) (iblk m c 1 t) (iblk m c 2 t) (iblk m c 3 t) (iblk m c 4 t) c (grid0.coords t) (ms0_0 t) (hs0_0 t) (ms0_1 t) (hs0_1 t)
        (ms0_2 t) (hs0_2 t) (ms0_3 t) (hs0_3 t) (ms0_4 t) (hs0_4 t) (ms0_5 t) (hs0_5 t) scM0_0 (Memref.isWhole_whole _)
        (outsAt0 m c (t.val - 1) (Nat.lt_of_le_of_lt (Nat.sub_le _ _) t.isLt)).2
  have ed := adds_E (iblk m c 0 t) (iblk m c 1 t) (iblk m c 2 t) (iblk m c 3 t) (iblk m c 4 t) c (grid0.coords t) (ms0_0 t) (hs0_0 t) (ms0_1 t) (hs0_1 t)
        (ms0_2 t) (hs0_2 t) (ms0_3 t) (hs0_3 t) (ms0_4 t) (hs0_4 t) (ms0_5 t) (hs0_5 t) scM0_0 (Memref.isWhole_whole _)
        (outsAt0 m c (t.val - 1) (Nat.lt_of_le_of_lt (Nat.sub_le _ _) t.isLt)).2
  by_cases h0 : t.val % 40 = 0
  · have hz : t.val = 0 := by omega
    have hp : pre m c t.val = fun _ => 0 := by funext i; unfold pre; rw [if_pos hz]
    have e := (run_eq m c t).trans (congrArg Prod.snd (outsAt0_A m c t h0 (by omega) (by omega) (by omega)))
    rw [if_pos (by omega), if_neg (by omega), hp, add_zero, e]
    exact ad ((hcond0_0 t).mpr h0) ((hcond0_1 t).mpr (by omega)) (fun h => (by omega : ¬t.val % 10 = 9) ((hcond0_2 t).mp h)) (fun h => (by omega : ¬t.val % 40 = 39) ((hcond0_3 t).mp h))
  · have hz : t.val ≠ 0 := by omega
    rw [pre_eq m c t hz]
    by_cases h1 : t.val % 10 = 0
    · have e := (run_eq m c t).trans (congrArg Prod.snd (outsAt0_D m c t h0 h1 (by omega) (by omega)))
      rw [if_pos h1, if_neg (by omega), add_zero, e]
      exact dd (fun h => h0 ((hcond0_0 t).mp h)) ((hcond0_1 t).mpr h1) (fun h => (by omega : ¬t.val % 10 = 9) ((hcond0_2 t).mp h)) (fun h => (by omega : ¬t.val % 40 = 39) ((hcond0_3 t).mp h))
    · rw [if_neg h1]
      by_cases h2 : t.val % 10 = 9
      · rw [if_pos h2]
        by_cases h3 : t.val % 40 = 39
        · have e := (run_eq m c t).trans (congrArg Prod.snd (outsAt0_E m c t h0 h1 h2 h3))
          dsimp only at e
          have a := ed (fun h => h0 ((hcond0_0 t).mp h)) (fun h => h1 ((hcond0_1 t).mp h)) ((hcond0_2 t).mpr h2) ((hcond0_3 t).mpr h3)
          rw [← e] at a
          have k := a.cnt
          rw [k]
          exact a
        · have e := (run_eq m c t).trans (congrArg Prod.snd (outsAt0_C m c t h0 h1 h2 h3))
          dsimp only at e
          have a := cd (fun h => h0 ((hcond0_0 t).mp h)) (fun h => h1 ((hcond0_1 t).mp h)) ((hcond0_2 t).mpr h2) (fun h => h3 ((hcond0_3 t).mp h))
          rw [← e] at a
          have k := a.cnt
          rw [k]
          exact a
      · have e := (run_eq m c t).trans (congrArg Prod.snd (outsAt0_B m c t h0 h1 h2 (by omega)))
        rw [if_neg h2, add_zero, e]
        exact bd (fun h => h0 ((hcond0_0 t).mp h)) (fun h => h1 ((hcond0_1 t).mp h)) (fun h => h2 ((hcond0_2 t).mp h)) (fun h => (by omega : ¬t.val % 40 = 39) ((hcond0_3 t).mp h))

/-- A quantity of every point's blocks, as a function of the point's number. -/
def along (f : Fin cfg0.N → EReal) (n : ℕ) : EReal := if h : n < cfg0.N then f ⟨n, h⟩ else 0
/-- A value along the grid, at a point of it. -/
theorem along_eq (f : Fin cfg0.N → EReal) (n : ℕ) (h : n < cfg0.N) : along f n = f ⟨n, h⟩ := dif_pos h

/-- What point `t` adds to class `l`. -/
def clsB (l : Fin 80) (t : Fin cfg0.N) : EReal := ∑ a, clsv (ov (iblk m c 0 t) (iblk m c 1 t) a) (cl (iblk m c 2 t)) (lg (iblk m c 3 t) a) l
/-- What point `t` adds to the box loss. -/
def boxB (t : Fin cfg0.N) : EReal := ∑ a, boxv (anc (iblk m c 0 t) a) (gt (iblk m c 1 t)) (bp (iblk m c 4 t) a)
/-- The positive anchors of point `t`. -/
def posB (t : Fin cfg0.N) : EReal := ∑ a, posv (ov (iblk m c 0 t) (iblk m c 1 t) a)
/-- What point `t` adds to the focal loss of the unlabelled. -/
def backB (t : Fin cfg0.N) : EReal := ∑ a, backv (ov (iblk m c 0 t) (iblk m c 1 t) a) (lg (iblk m c 3 t) a)

/-- The accumulator before the next point. -/
theorem pre_succ (n : ℕ) : pre m c (n + 1) = run m c n := by
  funext i
  unfold pre
  rw [if_neg (by omega)]; rfl
/-- The accumulator before the first point is zero. -/
theorem pre_zero (i : S8x128.Idx) : pre m c 0 i = 0 := if_pos rfl

/-- A cell to which every point adds holds the sum. -/
theorem cell_sum (i : S8x128.Idx) (f : Fin cfg0.N → EReal) (h : ∀ t : Fin cfg0.N, run m c t.val i = pre m c t.val i + f t) :
    run m c 39 i = ∑ k ∈ Finset.range 40, along f k := by
  have hN : cfg0.N = 40 := N_0
  refine run_sum (fun n => run m c n i) (along f) ?_ (fun n hn => ?_) 39 (by omega)
  · rw [along_eq f 0 (by omega)]
    have := h ⟨0, by omega⟩
    rwa [pre_zero, zero_add] at this
  · rw [along_eq f (n + 1) (by omega)]
    have := h ⟨n + 1, by omega⟩
    rwa [pre_succ] at this

/-- The accumulator's class entries at the end. -/
theorem sum_cls (l : Fin 80) : run m c 39 (ix2 (0 : Fin 8) (⟨l.val, by omega⟩ : Fin 128)) = ∑ k ∈ Finset.range 40, along (clsB m c l) k :=
  cell_sum m c _ _ fun t => (step m c t).cls l
/-- The accumulator's entries past the classes at the end. -/
theorem sum_pad (l : Fin 128) (h : 80 ≤ l.val) : run m c 39 (ix2 (0 : Fin 8) l) = 0 := by
  have hN : cfg0.N = 40 := N_0
  rw [cell_sum m c _ (fun _ => 0) fun t => ((step m c t).pad l h).trans (add_zero _).symm]
  exact Finset.sum_eq_zero fun k hk => along_eq _ k (by rw [Finset.mem_range] at hk; omega)
/-- The accumulator's box loss at the end. -/
theorem sum_box : run m c 39 (ix2 (1 : Fin 8) (0 : Fin 128)) = ∑ k ∈ Finset.range 40, along (boxB m c) k :=
  cell_sum m c _ _ fun t => (step m c t).box
/-- The accumulator's loss of zero labels at the end. -/
theorem sum_back : run m c 39 (ix2 (4 : Fin 8) (0 : Fin 128)) = ∑ k ∈ Finset.range 40, along (backB m c) k :=
  cell_sum m c _ _ fun t => (step m c t).back

/-- The accumulator's count of positive anchors after a point. -/
theorem cnt_run (n : ℕ) (hn : n < 40) :
    run m c n (ix2 (2 : Fin 8) (0 : Fin 128)) = ∑ k ∈ Finset.range (n % 10 + 1), along (posB m c) (n / 10 * 10 + k) := by
  have hN : cfg0.N = 40 := N_0
  refine run_count (fun n => run m c n (ix2 (2 : Fin 8) (0 : Fin 128))) (along (posB m c)) ?_ (fun n hn => ?_) n hn
  · rw [along_eq _ 0 (by omega)]
    have := (step m c ⟨0, by omega⟩).cnt
    rwa [if_pos (by rfl), zero_add] at this
  · rw [along_eq _ (n + 1) (by omega)]
    have := (step m c ⟨n + 1, by omega⟩).cnt
    rwa [pre_succ] at this

/-- The denominator after the last point. -/
theorem sum_den : run m c 39 (ix2 (3 : Fin 8) (0 : Fin 128))
    = ∑ b ∈ Finset.range 4, max (∑ k ∈ Finset.range 10, along (posB m c) (b * 10 + k)) 1 := by
  have hN : cfg0.N = 40 := N_0
  refine run_den (fun n => run m c n (ix2 (3 : Fin 8) (0 : Fin 128))) (fun n => run m c n (ix2 (2 : Fin 8) (0 : Fin 128)))
    (along (posB m c)) (cnt_run m c) ?_ (fun n hn => ?_) 39 (by omega)
  · have := (step m c ⟨0, by omega⟩).den
    rwa [pre_zero, if_neg (by show ¬ 0 % 10 = 9; decide), add_zero] at this
  · have := (step m c ⟨n + 1, by omega⟩).den
    rwa [pre_succ] at this

/-- The last point of the grid. -/
abbrev tl : Fin cfg0.N := ⟨39, by have hN : cfg0.N = 40 := N_0; omega⟩

/-- The two lanes of the result that the last point stores. -/
theorem out_last :
    (outsAt0 m c tl.val tl.isLt).1 (ix2 (0 : Fin 8) (0 : Fin 128))
      = guard (Ideal.div ((∑ l : Fin 128, run m c 39 (ix2 (0 : Fin 8) l)) + run m c 39 (ix2 (4 : Fin 8) (0 : Fin 128)))
          (run m c 39 (ix2 (3 : Fin 8) (0 : Fin 128))))
    ∧ (outsAt0 m c tl.val tl.isLt).1 (ix2 (0 : Fin 8) (1 : Fin 128))
      = guard (Ideal.div (run m c 39 (ix2 (1 : Fin 8) (0 : Fin 128))) (run m c 39 (ix2 (3 : Fin 8) (0 : Fin 128)))) := by
  have e := (run_eq m c tl).trans (congrArg Prod.snd (outsAt0_E m c tl (by decide) (by decide) (by decide) (by decide)))
  have o := congrArg Prod.fst (outsAt0_E m c tl (by decide) (by decide) (by decide) (by decide))
  dsimp only at e o
  rw [o]
  exact out_E (iblk m c 0 tl) (iblk m c 1 tl) (iblk m c 2 tl) (iblk m c 3 tl) (iblk m c 4 tl) c (grid0.coords tl) (ms0_0 tl) (hs0_0 tl) (ms0_1 tl) (hs0_1 tl)
        (ms0_2 tl) (hs0_2 tl) (ms0_3 tl) (hs0_3 tl) (ms0_4 tl) (hs0_4 tl) (ms0_5 tl) (hs0_5 tl) scM0_0 (Memref.isWhole_whole _)
        (outsAt0 m c (tl.val - 1) (Nat.lt_of_le_of_lt (Nat.sub_le _ _) tl.isLt)).2 (fun h => absurd ((hcond0_0 tl).mp h) (by decide)) (fun h => absurd ((hcond0_1 tl).mp h) (by decide)) ((hcond0_2 tl).mpr (by decide)) ((hcond0_3 tl).mpr (by decide)) _ e

/-- The whole of row 0 is its first eighty lanes. -/
theorem sum_row : (∑ l : Fin 128, run m c 39 (ix2 (0 : Fin 8) l)) = ∑ l : Fin 80, ∑ k ∈ Finset.range 40, along (clsB m c l) k := by
  rw [show (∑ l : Fin 128, run m c 39 (ix2 (0 : Fin 8) l)) = ∑ l : Fin (80 + 48), run m c 39 (ix2 (0 : Fin 8) l) from rfl, Fin.sum_univ_add,
    Finset.sum_eq_zero (s := Finset.univ) (f := fun l : Fin 48 => run m c 39 (ix2 (0 : Fin 8) (Fin.natAdd 80 l)))
      fun l _ => sum_pad m c (Fin.natAdd 80 l) (by show 80 ≤ 80 + l.val; omega), add_zero]
  exact Finset.sum_congr rfl fun l _ => sum_cls m c l

/-- The first lane of the result: the focal loss. -/
theorem out_cls : (outsAt0 m c tl.val tl.isLt).1 (ix2 (0 : Fin 8) (0 : Fin 128))
    = guard (Ideal.div ((∑ l : Fin 80, ∑ k ∈ Finset.range 40, along (clsB m c l) k) + ∑ k ∈ Finset.range 40, along (backB m c) k)
        (∑ b ∈ Finset.range 4, max (∑ k ∈ Finset.range 10, along (posB m c) (b * 10 + k)) 1)) := by
  rw [(out_last m c).1, sum_row, sum_back, sum_den]
/-- The second lane of the result: the box loss. -/
theorem out_box : (outsAt0 m c tl.val tl.isLt).1 (ix2 (0 : Fin 8) (1 : Fin 128))
    = guard (Ideal.div (∑ k ∈ Finset.range 40, along (boxB m c) k)
        (∑ b ∈ Finset.range 4, max (∑ k ∈ Finset.range 10, along (posB m c) (b * 10 + k)) 1)) := by
  rw [(out_last m c).2, sum_box, sum_den]
end Cert.KernelIdeal.Val
-- ==== Proof.Val.Blocks.lean ====
/-
The blocks a point works on, in terms of the launch's arguments.
-/
module

public import proofs.«01_k».proof.Proof.Gen.KernelIdeal.Frame
public import proofs.«01_k».proof.Proof.Val.Pay
public import Idealize.ShloMosaic.Lib.Pipeline.Value
public import Idealize.ShloMosaic.Lib.Tactic

@[expose] public section
set_option maxRecDepth 10000
noncomputable section
open Idealize.ShloMosaic Idealize.ShloMosaic.TcCoe Idealize.SL.Sem
open scoped BigOperators
namespace Cert.KernelIdeal.Val
open Cert.KernelIdeal Cert.KernelIdeal.Gen Cert.Loss

variable (m : (ℓ : Loc nD τ sig) → Buf (Elt Ideal) ℓ) (c : Dev nD)

/-- The five arguments. -/
abbrev aY : FVec Ideal S4x100x80 .f32 := m ((c : Thread nD τ).loc main_arg0)
@[inherit_doc aY] abbrev aG : FVec Ideal S4x100x4 .f32 := m ((c : Thread nD τ).loc main_arg1)
@[inherit_doc aY] abbrev aL : FVec Ideal S4x20000x80 .f32 := m ((c : Thread nD τ).loc main_arg2)
@[inherit_doc aY] abbrev aP : FVec Ideal S4x20000x4 .f32 := m ((c : Thread nD τ).loc main_arg3)
@[inherit_doc aY] abbrev aA : FVec Ideal S20000x4 .f32 := m ((c : Thread nD τ).loc main_arg4)

/-! ### The arrays the host prepares -/

/-- The class rows the kernel is given: those of the first 64 boxes. -/
theorem V_v0 : (V m c main_v0 : FVec Ideal S4x64x80 .f32) = extractStridedSlice S4x64x80 ![0, 0, 0] (aY m c) slices_S4x100x80_S4x64x80_0_0_0 := by
  dsimp only [V, V0, hostOps0, hostOps0_1, hostOps0_2, hostOps0_3, hostOps0_4, List.flatten_cons, List.flatten_nil, List.cons_append, List.nil_append]
  after_results
/-- The boxes the kernel is given: the first 64. -/
theorem V_v1 : (V m c main_v1 : FVec Ideal S4x64x4 .f32) = extractStridedSlice S4x64x4 ![0, 0, 0] (aG m c) slices_S4x100x4_S4x64x4_0_0_0 := by
  dsimp only [V, V0, hostOps0, hostOps0_1, hostOps0_2, hostOps0_3, hostOps0_4, List.flatten_cons, List.flatten_nil, List.cons_append, List.nil_append]
  after_results
/-- The logits the kernel is given. -/
theorem V_arg2 : (V m c main_arg2 : FVec Ideal S4x20000x80 .f32) = aL m c := by
  dsimp only [V, V0, hostOps0, hostOps0_1, hostOps0_2, hostOps0_3, hostOps0_4, List.flatten_cons, List.flatten_nil, List.cons_append, List.nil_append]
  after_results
/-- The anchors the kernel is given: transposed, padded to eight rows and cut into ten blocks. -/
theorem V_v5 : (V m c main_v5 : FVec Ideal S10x8x2000 .f32)
    = transpose S10x8x2000 [1, 0, 2] (shapeCast S8x10x2000 (pad S8x20000 ![0, 0] ![4, 0] ![0, 0]
        (transpose S4x20000 [1, 0] (aA m c) transposes_S20000x4_S4x20000_1_0) (sitofp .f32 (constantI S_ 32 0#32))
        pads_S4x20000_S8x20000_040_000 h_S_) shapeCasts_S8x20000_S8x10x2000) transposes_S8x10x2000_S10x8x2000_1_0_2 := by
  dsimp only [V, V0, hostOps0, hostOps0_1, hostOps0_2, hostOps0_3, hostOps0_4, List.flatten_cons, List.flatten_nil, List.cons_append, List.nil_append]
  after_results
  rfl
/-- The predictions the kernel is given: transposed, padded to eight rows and cut into ten blocks. -/
theorem V_v9 : (V m c main_v9 : FVec Ideal S4x10x8x2000 .f32)
    = transpose S4x10x8x2000 [0, 2, 1, 3] (shapeCast S4x8x10x2000 (pad S4x8x20000 ![0, 0, 0] ![0, 4, 0] ![0, 0, 0]
        (transpose S4x4x20000 [0, 2, 1] (aP m c) transposes_S4x20000x4_S4x4x20000_0_2_1) (sitofp .f32 (constantI S_ 32 0#32))
        pads_S4x4x20000_S4x8x20000_000_040_000 h_S_) shapeCasts_S4x8x20000_S4x8x10x2000) transposes_S4x8x10x2000_S4x10x8x2000_0_2_1_3 := by
  dsimp only [V, V0, hostOps0, hostOps0_1, hostOps0_2, hostOps0_3, hostOps0_4, List.flatten_cons, List.flatten_nil, List.cons_append, List.nil_append]
  after_results
  rfl

/-- A class row the kernel is given. -/
theorem v0_apply (b : Fin 4) (t : Fin 64) (k : Fin 80) :
    (V m c main_v0 : FVec Ideal S4x64x80 .f32) (ix3 b t k) = aY m c (ix3 b (⟨t.val, by omega⟩ : Fin 100) k) := by
  rw [V_v0]
  pointwise []
/-- A box the kernel is given. -/
theorem v1_apply (b : Fin 4) (t : Fin 64) (k : Fin 4) :
    (V m c main_v1 : FVec Ideal S4x64x4 .f32) (ix3 b t k) = aG m c (ix3 b (⟨t.val, by omega⟩ : Fin 100) k) := by
  rw [V_v1]
  pointwise []
/-- The anchor `a` of block `j`. -/
abbrev anchor (j : Fin 10) (a : Fin 2000) : Fin 20000 := ⟨j.val * 2000 + a.val, by omega⟩
/-- An anchor the kernel is given. -/
theorem v5_apply (j : Fin 10) (k : Fin 4) (a : Fin 2000) :
    (V m c main_v5 : FVec Ideal S10x8x2000 .f32) (ix3 j (⟨k.val, by omega⟩ : Fin 8) a) = aA m c (ix2 (anchor j a) k) := by
  rw [V_v5]
  pointwise []
  rw [dif_pos (anchor j a).isLt]
/-- A prediction the kernel is given. -/
theorem v9_apply (b : Fin 4) (j : Fin 10) (k : Fin 4) (a : Fin 2000) :
    (V m c main_v9 : FVec Ideal S4x10x8x2000 .f32) (ix4 b j (⟨k.val, by omega⟩ : Fin 8) a) = aP m c (ix3 b (anchor j a) k) := by
  rw [V_v9]
  pointwise []
  rw [dif_pos (anchor j a).isLt]

/-! ### The blocks -/

/-- The image of a point. -/
abbrev im (t : Fin cfg0.N) : Fin 4 := ⟨t.val / 10, by have hN : cfg0.N = 40 := N_0; omega⟩
/-- The block of anchors of a point. -/
abbrev bl (t : Fin cfg0.N) : Fin 10 := ⟨t.val % 10, by omega⟩

/-- Which block of anchors a point reads. -/
theorem ix_0 : ∀ t : Fin cfg0.N, win0_0.index t 0 = t.val % 10 ∧ win0_0.index t 1 = 0 ∧ win0_0.index t 2 = 0 := by decide +kernel
/-- Which block of boxes a point reads. -/
theorem ix_1 : ∀ t : Fin cfg0.N, win0_1.index t 0 = t.val / 10 ∧ win0_1.index t 1 = 0 ∧ win0_1.index t 2 = 0 := by decide +kernel
/-- Which block of class rows a point reads. -/
theorem ix_2 : ∀ t : Fin cfg0.N, win0_2.index t 0 = t.val / 10 ∧ win0_2.index t 1 = 0 ∧ win0_2.index t 2 = 0 := by decide +kernel
/-- Which block of logits a point reads. -/
theorem ix_3 : ∀ t : Fin cfg0.N, win0_3.index t 0 = t.val / 10 ∧ win0_3.index t 1 = t.val % 10 ∧ win0_3.index t 2 = 0 := by decide +kernel
/-- Which block of predictions a point reads. -/
theorem ix_4 : ∀ t : Fin cfg0.N, win0_4.index t 0 = t.val / 10 ∧ win0_4.index t 1 = t.val % 10 ∧ win0_4.index t 2 = 0 ∧ win0_4.index t 3 = 0 := by
  decide +kernel

/-- A point's block of anchors. -/
theorem blk0 (t : Fin cfg0.N) (k : Fin 8) (a : Fin 2000) :
    (iblk m c 0 t : Vec Ideal S1x8x2000 .f32) (ix3 (0 : Fin 1) k a) = (V m c main_v5 : FVec Ideal S10x8x2000 .f32) (ix3 (bl t) k a) := by
  unfold iblk
  rw [View.read_apply]
  show V m c main_v5 _ = V m c main_v5 _
  congr 1
  funext x
  apply Fin.ext
  match x with
  | ⟨0, _⟩ => show win0_0.index t 0 * 1 + 1 * 0 = t.val % 10; rw [(ix_0 t).1]; omega
  | ⟨1, _⟩ => show win0_0.index t 1 * 8 + 1 * k.val = k.val; rw [(ix_0 t).2.1]; omega
  | ⟨2, _⟩ => show win0_0.index t 2 * 2000 + 1 * a.val = a.val; rw [(ix_0 t).2.2]; omega
/-- A point's block of boxes. -/
theorem blk1 (t : Fin cfg0.N) (g : Fin 64) (k : Fin 4) :
    (iblk m c 1 t : Vec Ideal S1x64x4 .f32) (ix3 (0 : Fin 1) g k) = (V m c main_v1 : FVec Ideal S4x64x4 .f32) (ix3 (im t) g k) := by
  unfold iblk
  rw [View.read_apply]
  show V m c main_v1 _ = V m c main_v1 _
  congr 1
  funext x
  apply Fin.ext
  match x with
  | ⟨0, _⟩ => show win0_1.index t 0 * 1 + 1 * 0 = t.val / 10; rw [(ix_1 t).1]; omega
  | ⟨1, _⟩ => show win0_1.index t 1 * 64 + 1 * g.val = g.val; rw [(ix_1 t).2.1]; omega
  | ⟨2, _⟩ => show win0_1.index t 2 * 4 + 1 * k.val = k.val; rw [(ix_1 t).2.2]; omega
/-- A point's block of class rows. -/
theorem blk2 (t : Fin cfg0.N) (g : Fin 64) (k : Fin 80) :
    (iblk m c 2 t : Vec Ideal S1x64x80 .f32) (ix3 (0 : Fin 1) g k) = (V m c main_v0 : FVec Ideal S4x64x80 .f32) (ix3 (im t) g k) := by
  unfold iblk
  rw [View.read_apply]
  show V m c main_v0 _ = V m c main_v0 _
  congr 1
  funext x
  apply Fin.ext
  match x with
  | ⟨0, _⟩ => show win0_2.index t 0 * 1 + 1 * 0 = t.val / 10; rw [(ix_2 t).1]; omega
  | ⟨1, _⟩ => show win0_2.index t 1 * 64 + 1 * g.val = g.val; rw [(ix_2 t).2.1]; omega
  | ⟨2, _⟩ => show win0_2.index t 2 * 80 + 1 * k.val = k.val; rw [(ix_2 t).2.2]; omega
/-- A point's block of logits. -/
theorem blk3 (t : Fin cfg0.N) (a : Fin 2000) (k : Fin 80) :
    (iblk m c 3 t : Vec Ideal S1x2000x80 .f32) (ix3 (0 : Fin 1) a k) = (V m c main_arg2 : FVec Ideal S4x20000x80 .f32) (ix3 (im t) (anchor (bl t) a) k) := by
  unfold iblk
  rw [View.read_apply]
  show V m c main_arg2 _ = V m c main_arg2 _
  congr 1
  funext x
  apply Fin.ext
  match x with
  | ⟨0, _⟩ => show win0_3.index t 0 * 1 + 1 * 0 = t.val / 10; rw [(ix_3 t).1]; omega
  | ⟨1, _⟩ => show win0_3.index t 1 * 2000 + 1 * a.val = t.val % 10 * 2000 + a.val; rw [(ix_3 t).2.1]; omega
  | ⟨2, _⟩ => show win0_3.index t 2 * 80 + 1 * k.val = k.val; rw [(ix_3 t).2.2]; omega
/-- A point's block of predictions. -/
theorem blk4 (t : Fin cfg0.N) (k : Fin 8) (a : Fin 2000) :
    (iblk m c 4 t : Vec Ideal S1x1x8x2000 .f32) (ix4 (0 : Fin 1) (0 : Fin 1) k a) = (V m c main_v9 : FVec Ideal S4x10x8x2000 .f32) (ix4 (im t) (bl t) k a) := by
  unfold iblk
  rw [View.read_apply]
  show V m c main_v9 _ = V m c main_v9 _
  congr 1
  funext x
  apply Fin.ext
  match x with
  | ⟨0, _⟩ => show win0_4.index t 0 * 1 + 1 * 0 = t.val / 10; rw [(ix_4 t).1]; omega
  | ⟨1, _⟩ => show win0_4.index t 1 * 1 + 1 * 0 = t.val % 10; rw [(ix_4 t).2.1]; omega
  | ⟨2, _⟩ => show win0_4.index t 2 * 8 + 1 * k.val = k.val; rw [(ix_4 t).2.2.1]; omega
  | ⟨3, _⟩ => show win0_4.index t 3 * 2000 + 1 * a.val = a.val; rw [(ix_4 t).2.2.2]; omega

/-! ### The anchors, boxes, labels, logits and box predictions that a point sees -/

/-- Anchor `a`. -/
def anchorBox (a : Fin 20000) : Box := fun k => aA m c (ix2 a k)
/-- Box `t` of image `b`. -/
def trueBox (b : Fin 4) (t : Fin 64) : Box := fun k => aG m c (ix3 b (⟨t.val, by omega⟩ : Fin 100) k)
/-- The overlaps of anchor `a` with the boxes of image `b`. -/
def over (b : Fin 4) (a : Fin 20000) (t : Fin 64) : EReal := iou (anchorBox m c a) (trueBox m c b t)
/-- The class indicators of box `t` of image `b`. -/
def classes (b : Fin 4) (t : Fin 64) (k : Fin 80) : EReal := aY m c (ix3 b (⟨t.val, by omega⟩ : Fin 100) k)
/-- The logits of anchor `a` in image `b`. -/
def logits (b : Fin 4) (a : Fin 20000) (k : Fin 80) : EReal := aL m c (ix3 b a k)
/-- The predicted box of anchor `a` in image `b`. -/
def boxPred (b : Fin 4) (a : Fin 20000) (k : Fin 4) : EReal := aP m c (ix3 b a k)

/-- An anchor of a point's block. -/
theorem anc_eq (t : Fin cfg0.N) (a : Fin 2000) : anc (iblk m c 0 t) a = anchorBox m c (anchor (bl t) a) := by
  funext k
  exact (blk0 m c t _ a).trans (v5_apply m c (bl t) k a)
/-- The boxes of a point's block. -/
theorem gt_eq (t : Fin cfg0.N) : gt (iblk m c 1 t) = trueBox m c (im t) := by
  funext g k
  exact (blk1 m c t g k).trans (v1_apply m c (im t) g k)
/-- The overlaps of an anchor of a point's block. -/
theorem ov_eq (t : Fin cfg0.N) (a : Fin 2000) : ov (iblk m c 0 t) (iblk m c 1 t) a = over m c (im t) (anchor (bl t) a) := by
  funext g
  show iou (anc (iblk m c 0 t) a) (gt (iblk m c 1 t) g) = _
  rw [anc_eq, gt_eq]; rfl
/-- The class rows of a point's block. -/
theorem cl_eq (t : Fin cfg0.N) : cl (iblk m c 2 t) = classes m c (im t) := by
  funext g k
  exact (blk2 m c t g k).trans (v0_apply m c (im t) g k)
/-- The logits of an anchor of a point's block. -/
theorem lg_eq (t : Fin cfg0.N) (a : Fin 2000) : lg (iblk m c 3 t) a = logits m c (im t) (anchor (bl t) a) := by
  funext k
  exact (blk3 m c t a k).trans (congrFun (V_arg2 m c) _)
/-- The prediction of an anchor of a point's block. -/
theorem bp_eq (t : Fin cfg0.N) (a : Fin 2000) : bp (iblk m c 4 t) a = boxPred m c (im t) (anchor (bl t) a) := by
  funext k
  exact (blk4 m c t _ a).trans (v9_apply m c (im t) (bl t) k a)
end Cert.KernelIdeal.Val
-- ==== Proof.Val.Result.lean ====
/-
What the kernel returns: the two losses, as sums over the images and the anchors.
-/
module

public import proofs.«01_k».proof.Proof.Val.Sums
public import proofs.«01_k».proof.Proof.Val.Blocks

@[expose] public section
set_option maxRecDepth 10000
noncomputable section
open Idealize.ShloMosaic Idealize.ShloMosaic.TcCoe Idealize.SL.Sem
open scoped BigOperators
namespace Cert.KernelIdeal.Val
open Cert.KernelIdeal Cert.KernelIdeal.Gen Cert.Loss

/-! ### From points to images and anchors -/

/-- Two counts in one: `n` groups of `k`. -/
theorem sum_groups (n k : ℕ) (f : Fin (n * k) → EReal) :
    ∑ x, f x = ∑ i : Fin n, ∑ j : Fin k, f ⟨i.val * k + j.val, by
      have h := Nat.mul_le_mul_right k (Nat.succ_le_of_lt i.isLt)
      have := j.isLt
      rw [Nat.succ_mul] at h; omega⟩ := by
  rw [← Equiv.sum_comp finProdFinEquiv f, Fintype.sum_prod_type]
  refine Finset.sum_congr rfl fun i _ => Finset.sum_congr rfl fun j _ => congrArg f (Fin.ext ?_)
  show j.val + k * i.val = i.val * k + j.val
  rw [Nat.mul_comm, Nat.add_comm]

variable (m : (ℓ : Loc nD τ sig) → Buf (Elt Ideal) ℓ) (c : Dev nD)

/-- The ten points of an image see all of its anchors. -/
theorem sum_image (f : Fin cfg0.N → EReal) (g : Fin 4 → Fin 20000 → EReal) (h : ∀ t, f t = ∑ a : Fin 2000, g (im t) (anchor (bl t) a)) (b : Fin 4) :
    ∑ k ∈ Finset.range 10, along f (b.val * 10 + k) = ∑ x, g b x := by
  have hN : cfg0.N = 40 := N_0
  rw [Finset.sum_range, show (∑ x, g b x) = _ from sum_groups 10 2000 (g b)]
  refine Finset.sum_congr rfl fun j _ => ?_
  have hj := j.isLt
  have hb := b.isLt
  rw [along_eq f _ (by omega), h]
  refine Finset.sum_congr rfl fun a _ => ?_
  congr 1
  · exact Fin.ext (by show (b.val * 10 + j.val) / 10 = b.val; omega)
  · exact Fin.ext (by show (b.val * 10 + j.val) % 10 * 2000 + a.val = j.val * 2000 + a.val; omega)

/-- The forty points see every anchor of every image. -/
theorem sum_all (f : Fin cfg0.N → EReal) (g : Fin 4 → Fin 20000 → EReal) (h : ∀ t, f t = ∑ a : Fin 2000, g (im t) (anchor (bl t) a)) :
    ∑ k ∈ Finset.range 40, along f k = ∑ b, ∑ x, g b x := by
  rw [Finset.sum_range, show (∑ k : Fin 40, along f k) = _ from sum_groups 4 10 fun k => along f k.val]
  refine Finset.sum_congr rfl fun b _ => ?_
  rw [← sum_image f g h b, Finset.sum_range]

/-- The number of positive anchors, an image without any counting as one. -/
def total : EReal := ∑ b : Fin 4, max (∑ a : Fin 20000, posv (over m c b a)) 1
/-- The sum of the focal losses. -/
def focal : EReal := (∑ l : Fin 80, ∑ b : Fin 4, ∑ a : Fin 20000, clsv (over m c b a) (classes m c b) (logits m c b a) l)
  + ∑ b : Fin 4, ∑ a : Fin 20000, backv (over m c b a) (logits m c b a)
/-- The sum of the box losses. -/
def boxes : EReal := ∑ b : Fin 4, ∑ a : Fin 20000, boxv (anchorBox m c a) (trueBox m c b) (boxPred m c b a)

/-- The denominator is the number of positive anchors. -/
theorem total_eq : ∑ b ∈ Finset.range 4, max (∑ k ∈ Finset.range 10, along (posB m c) (b * 10 + k)) 1 = total m c := by
  have h := Finset.sum_range (n := 4) fun b => max (∑ k ∈ Finset.range 10, along (posB m c) (b * 10 + k)) 1
  have e : ∀ b : Fin 4, ∑ k ∈ Finset.range 10, along (posB m c) (b.val * 10 + k) = ∑ a : Fin 20000, posv (over m c b a) :=
    sum_image (posB m c) (fun b a => posv (over m c b a)) fun t => Finset.sum_congr rfl fun a _ => congrArg posv (ov_eq m c t a)
  have e' : (∑ b : Fin 4, max (∑ k ∈ Finset.range 10, along (posB m c) (b.val * 10 + k)) 1) = total m c :=
    Finset.sum_congr rfl fun b _ => congrArg (max · 1) (e b)
  exact h.trans e'
/-- The two running sums of the focal loss are the sum over images and anchors. -/
theorem focal_eq : (∑ l : Fin 80, ∑ k ∈ Finset.range 40, along (clsB m c l) k) + ∑ k ∈ Finset.range 40, along (backB m c) k = focal m c := by
  have h1 : ∀ l : Fin 80, ∑ k ∈ Finset.range 40, along (clsB m c l) k
      = ∑ b : Fin 4, ∑ a : Fin 20000, clsv (over m c b a) (classes m c b) (logits m c b a) l := fun l =>
    sum_all (clsB m c l) (fun b a => clsv (over m c b a) (classes m c b) (logits m c b a) l)
      fun t => Finset.sum_congr rfl fun a _ => by rw [ov_eq, cl_eq, lg_eq]
  have h2 : ∑ k ∈ Finset.range 40, along (backB m c) k = ∑ b : Fin 4, ∑ a : Fin 20000, backv (over m c b a) (logits m c b a) :=
    sum_all (backB m c) (fun b a => backv (over m c b a) (logits m c b a)) fun t => Finset.sum_congr rfl fun a _ => by rw [ov_eq, lg_eq]
  exact congrArg₂ (· + ·) (Finset.sum_congr rfl fun l _ => h1 l) h2
/-- The running sum of the box loss is the sum over images and anchors. -/
theorem boxes_eq : ∑ k ∈ Finset.range 40, along (boxB m c) k = boxes m c :=
  sum_all (boxB m c) (fun b a => boxv (anchorBox m c a) (trueBox m c b) (boxPred m c b a))
    fun t => Finset.sum_congr rfl fun a _ => by rw [anc_eq, gt_eq, bp_eq]

/-! ### The array the kernel leaves -/

/-- The block that the last point stores. -/
abbrev stored : Buf (Elt Ideal) ((c : Thread nD τ).loc main_v10) := (outsAt0 m c tl.val tl.isLt).1

/-- What a point writes back is the final block. -/
theorem flushed_eq (t : Fin cfg0.N) (hf : (cfg0.win 5).flush t = true) :
    (dats m 0 c).flushed 5 t = ((cfg0.win 5).blk t).view.read (Elt Ideal) (stored m c) := by
  have hN : cfg0.N = 40 := N_0
  have h3 : t.val = 39 := by have := (flush0_5 t).mp hf; have := t.isLt; omega
  obtain rfl : t = tl := Fin.ext h3
  show (cfg0.win 5).cut (grid0.coords tl) ((dats m 0 c).after 5 tl) = _
  rw [after0_5]
  have hz' : (fun a => win0_5.index tl a * main_v10.ty.shape.size a) = fun _ => 0 := funext fun a => by fin_cases a <;> decide +kernel
  exact (Memref.read_access_unit_zero (Elt Ideal) main_v10 hz' (fun a => by rw [congrFun hz' a]; simp) (stored m c)).symm

/-- The output array at the end of the grid. -/
theorem final : (dats m 0 c).arrAt 5 cfg0.N = stored m c :=
  (dats m 0 c).arrAt_eq_of_cover 5 (stored m c) (flushed_eq m c) fun i =>
    ⟨tl, (flush0_5 tl).mpr rfl, by
      show i ∈ ((View.whole main_v10).slice (win0_5.rect tl)).set
      rw [View.set_slice_whole, Rect.mem_set_unit]
      intro a
      have h0 : (i 0 : Nat) < 8 := (i 0).isLt
      have h1 : (i 1 : Nat) < 128 := (i 1).isLt
      match a with
      | ⟨0, _⟩ => show win0_5.index tl 0 * win0_5.size 0 ≤ (i 0 : Nat) ∧ (i 0 : Nat) < win0_5.index tl 0 * win0_5.size 0 + win0_5.xsize (grid0.coords tl) 0
                  rw [show win0_5.index tl 0 * win0_5.size 0 = 0 from by decide +kernel, show win0_5.xsize (grid0.coords tl) 0 = 8 from by decide +kernel]; omega
      | ⟨1, _⟩ => show win0_5.index tl 1 * win0_5.size 1 ≤ (i 1 : Nat) ∧ (i 1 : Nat) < win0_5.index tl 1 * win0_5.size 1 + win0_5.xsize (grid0.coords tl) 1
                  rw [show win0_5.index tl 1 * win0_5.size 1 = 0 from by decide +kernel, show win0_5.xsize (grid0.coords tl) 1 = 128 from by decide +kernel]; omega⟩

/-- The kernel's arrays are different buffers. -/
theorem arr_inj : Function.Injective (Pipeline.arrRef (cfgs 0).spec) := by decide

/-- The host keeps the first two lanes of row 0. -/
theorem tail_eq : (Pipeline.afterTail₀ cfgs (dats m) 0 (V0 m) [hostOps1] c main_v12 : FVec Ideal S2 .f32)
    = shapeCast S2 (extractStridedSlice S1x2 ![0, 0] (stored m c : FVec Ideal S8x128 .f32) slices_S8x128_S1x2_0_0) shapeCasts_S1x2_S2 := by
  unfold Pipeline.afterTail₀
  dsimp only [hostOps1, List.flatten_cons, List.flatten_nil, List.cons_append, List.nil_append]
  after_results
  have e : Pipeline.withArrays (τ := τ) (cfgs 0).spec c (V0 m c) (fun w => (dats m 0 c).arrAt w (cfgs 0).N) (Proc.devRef .tc main_v10) = stored m c :=
    (Pipeline.withArrays_arr (cfgs 0).spec arr_inj c (V0 m c) (fun w => (dats m 0 c).arrAt w (cfgs 0).N) 5).trans (final m c)
  rw [e]
  rfl

/-- The kernel's result. -/
def result : FVec Ideal S2 .f32 := fun i =>
  if (i 0).val = 0 then guard (Ideal.div (focal m c) (total m c)) else guard (Ideal.div (boxes m c) (total m c))

/-- The kernel's result is the first two entries of the output array. -/
theorem tail_result : (Pipeline.afterTail₀ cfgs (dats m) 0 (V0 m) [hostOps1] c main_v12 : FVec Ideal S2 .f32) = result m c := by
  rw [tail_eq]
  funext i
  obtain ⟨j, rfl⟩ : ∃ j : Fin 2, i = ix1 j := ⟨i 0, funext fun a => by fin_cases a; rfl⟩
  match j with
  | 0 =>
    have e := out_cls m c
    rw [focal_eq, total_eq] at e
    pointwise []
    exact e
  | 1 =>
    have e := out_box m c
    rw [boxes_eq, total_eq] at e
    pointwise []
    exact e

/-- The kernel runs, leaves the two losses in its result and its arguments as they were. -/
theorem run_kernel (ρ : Dev nD → PrngReg) : θ_run (defs (F := Ideal)) (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v12 (Pipeline.mem_restRefs_of main_v12 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)
end Cert.KernelIdeal.Val
-- ==== Proof.Eq.Sums.lean ====
/-
The reference's two losses are the kernel's, when the arguments are the same and as the precondition says.
-/
module

public import proofs.«01_k».proof.Proof.Eq.Pre
public import proofs.«01_k».proof.Proof.Ref.Terms
public import proofs.«01_k».proof.Proof.Val.Result

@[expose] public section
noncomputable section
open Idealize.ShloMosaic Idealize.ShloMosaic.TcCoe Idealize.SL.Sem
open scoped BigOperators
namespace Cert.Eq
open Cert.Loss Cert.KernelIdeal.Val

/-- Sums over images, anchors and classes in the two orders. -/
theorem exchange (n k p : ℕ) (f : Fin n → Fin k → Fin p → EReal) (g : Fin n → Fin k → EReal) :
    ∑ b, ∑ a, ((∑ l, f b a l) + g b a) = (∑ l, ∑ b, ∑ a, f b a l) + ∑ b, ∑ a, g b a := by
  simp only [Finset.sum_add_distrib]
  refine congrArg₂ (· + ·) ?_ rfl
  rw [Finset.sum_comm (s := (Finset.univ : Finset (Fin p)))]
  exact Finset.sum_congr rfl fun b _ => Finset.sum_comm

/-- The arguments of the two programs are the same and meet the precondition. -/
structure Same [Cert.Pre_inputs_ok.Facts] (m : (ℓ : Loc Cert.KernelIdeal.nD Cert.KernelIdeal.τ Cert.KernelIdeal.sig) → Buf (Elt Ideal) ℓ) (c : Dev Cert.KernelIdeal.nD)
    (V0 : RefRun.Vals Ideal) : Prop where
  eY : RefRun.rY V0 = aY m c
  eG : RefRun.rG V0 = aG m c
  eL : RefRun.rL V0 = aL m c
  eP : RefRun.rP V0 = aP m c
  eA : RefRun.rA V0 = aA m c
  ok : Cert.Pre_inputs_ok.fn (F := Ideal) (aY m c) (aG m c) (aL m c) (aP m c) (aA m c) = fun _ => 1#1

variable [Cert.Pre_inputs_ok.Facts] {m : (ℓ : Loc Cert.KernelIdeal.nD Cert.KernelIdeal.τ Cert.KernelIdeal.sig) → Buf (Elt Ideal) ℓ} {c : Dev Cert.KernelIdeal.nD}
  {V0 : RefRun.Vals Ideal} (s : Same m c V0)

include s

/-- The anchors agree. -/
theorem box_same (a : Fin 20000) : RefRun.box V0 a = anchorBox m c a := by
  funext k
  exact congrFun s.eA (ix2 a k)
/-- The boxes agree. -/
theorem tru_same (b : Fin 4) (t : Fin 64) : RefRun.tru V0 b (first t) = trueBox m c b t := by
  funext k
  exact congrFun s.eG (ix3 b (first t) k)
/-- The overlaps agree. -/
theorem ovl_same (b : Fin 4) (a : Fin 20000) : (fun t : Fin 64 => RefRun.ovl V0 b a (first t)) = over m c b a := by
  funext t
  unfold RefRun.ovl over
  rw [box_same s, tru_same s]
/-- Padding boxes have no positive coordinate. -/
theorem tru_pad (b : Fin 4) (t : Fin 100) (ht : 64 ≤ t.val) (k : Fin 4) : RefRun.tru V0 b t k ≤ 0 := by
  have e : RefRun.tru V0 b t k = aG m c (ix3 b t k) := congrFun s.eG (ix3 b t k)
  rw [e]
  exact padding _ _ _ _ _ s.ok b t ht k
/-- An overlap is at least that with padding. -/
theorem ovl_ge (b : Fin 4) (a : Fin 20000) (t : Fin 100) : neg1 ≤ RefRun.ovl V0 b a t := by
  exact neg1_le_iou _ _
/-- The overlap with padding. -/
theorem ovl_pad (b : Fin 4) (a : Fin 20000) (t : Fin 100) (ht : 64 ≤ t.val) : RefRun.ovl V0 b a t = neg1 := by
  exact iou_pad _ _ (tru_pad s b t ht)
/-- The box an anchor over the threshold goes to. -/
theorem arg_spec (b : Fin 4) (a : Fin 20000) (h : half ≤ best (RefRun.ovl V0 b a)) :
    RefRun.ovl V0 b a (RefRun.arg V0 b a) = best (RefRun.ovl V0 b a)
    ∧ ∀ t, RefRun.ovl V0 b a t = best (RefRun.ovl V0 b a) → RefRun.arg V0 b a ≤ t := by
  refine RefRun.arg_best V0 b a (lt_of_lt_of_le ?_ h)
  rw [half_eq]
  exact EReal.bot_lt_coe _
/-- The positive anchors agree. -/
theorem posv_same (b : Fin 4) (a : Fin 20000) : posv (RefRun.ovl V0 b a) = posv (over m c b a) := by
  rw [← ovl_same s]
  exact posv_term _ (ovl_ge s b a) (ovl_pad s b a)
/-- The counts of positive anchors agree. -/
theorem total_same : ∑ b : Fin 4, max (∑ a : Fin 20000, posv (RefRun.ovl V0 b a)) 1 = total m c := by
  unfold total
  exact Finset.sum_congr rfl fun b _ => congrArg (max · 1) (Finset.sum_congr rfl fun a _ => posv_same s b a)
/-- The focal losses of one anchor agree. -/
theorem focal_same_at (b : Fin 4) (a : Fin 20000) :
    ∑ l : Fin 80, RefRun.focal (if half ≤ best (RefRun.ovl V0 b a) then RefRun.rY V0 (ix3 b (RefRun.arg V0 b a) l) else 0) (RefRun.rL V0 (ix3 b a l))
        * RefRun.seen (RefRun.ovl V0 b a)
      = (∑ l : Fin 80, clsv (over m c b a) (classes m c b) (logits m c b a) l) + backv (over m c b a) (logits m c b a) := by
  have h := focal_term (RefRun.ovl V0 b a) (ovl_ge s b a) (ovl_pad s b a) (fun t l => aY m c (ix3 b t l))
    (fun t => classes_one_hot _ _ _ _ _ s.ok b t) (logits m c b a) (fun l => logits_below _ _ _ _ _ s.ok b a l)
    (RefRun.arg V0 b a) (arg_spec s b a)
  rw [ovl_same s] at h
  rw [s.eY, s.eL]
  exact h
/-- The sums of the focal losses agree. -/
theorem focal_same :
    ∑ b : Fin 4, ∑ a : Fin 20000, ∑ l : Fin 80, RefRun.focal (if half ≤ best (RefRun.ovl V0 b a) then RefRun.rY V0 (ix3 b (RefRun.arg V0 b a) l) else 0) (RefRun.rL V0 (ix3 b a l))
        * RefRun.seen (RefRun.ovl V0 b a) = Cert.KernelIdeal.Val.focal m c := by
  refine (Finset.sum_congr rfl fun b _ => Finset.sum_congr rfl fun a _ => focal_same_at s b a).trans ?_
  exact exchange 4 20000 80 (fun b a l => clsv (over m c b a) (classes m c b) (logits m c b a) l) fun b a => backv (over m c b a) (logits m c b a)
/-- The box losses of one anchor agree. -/
theorem boxes_same_at (b : Fin 4) (a : Fin 20000) :
    ∑ k : Fin 4, smooth (abv (RefRun.rP V0 (ix3 b a k) - if half ≤ best (RefRun.ovl V0 b a) then RefRun.target (RefRun.box V0 a) (RefRun.tru V0 b (RefRun.arg V0 b a)) k else 0))
        * posv (RefRun.ovl V0 b a)
      = boxv (anchorBox m c a) (trueBox m c b) (boxPred m c b a) := by
  have h := box_term (RefRun.box V0 a) (RefRun.tru V0 b) (fun k => RefRun.rP V0 (ix3 b a k)) (RefRun.arg V0 b a) (RefRun.ovl V0 b a)
    (fun t => rfl) (tru_pad s b) (arg_spec s b a)
  refine h.trans ?_
  rw [box_same s, show (fun t => RefRun.tru V0 b (first t)) = trueBox m c b from funext fun t => tru_same s b t,
    show (fun k => RefRun.rP V0 (ix3 b a k)) = boxPred m c b a from funext fun k => congrFun s.eP (ix3 b a k)]
/-- The sums of the box losses agree. -/
theorem boxes_same :
    ∑ b : Fin 4, ∑ a : Fin 20000, ∑ k : Fin 4, smooth (abv (RefRun.rP V0 (ix3 b a k) - if half ≤ best (RefRun.ovl V0 b a) then RefRun.target (RefRun.box V0 a) (RefRun.tru V0 b (RefRun.arg V0 b a)) k else 0))
        * posv (RefRun.ovl V0 b a) = boxes m c := by
  exact Finset.sum_congr rfl fun b _ => Finset.sum_congr rfl fun a _ => boxes_same_at s b a
/-- The reference's focal loss is the kernel's. -/
theorem v213_same : (RefRun.res_main_v213 V0 : FVec Ideal Cert.ReferenceIdeal.S_ .f32) ix0 = Ideal.div (Cert.KernelIdeal.Val.focal m c) (total m c) := by
  exact (RefRun.v213_apply V0).trans (congrArg₂ Ideal.div (focal_same s) (total_same s))
/-- The reference's box loss is the kernel's. -/
theorem v227_same : (RefRun.res_main_v227 V0 : FVec Ideal Cert.ReferenceIdeal.S_ .f32) ix0 = Ideal.div (boxes m c) (total m c) := by
  exact (RefRun.v227_apply V0).trans (congrArg₂ Ideal.div (boxes_same s) (total_same s))
end Cert.Eq
-- ==== Proof.Eq.Result.lean ====
/-
The reference's result is the kernel's.
-/
module

public import proofs.«01_k».proof.Proof.Eq.Sums

@[expose] public section
noncomputable section
open Idealize.ShloMosaic Idealize.ShloMosaic.TcCoe Idealize.SL.Sem
open scoped BigOperators
namespace Cert.Eq
open Cert.Loss Cert.KernelIdeal.Val Cert.ReferenceIdeal Cert.ReferenceIdeal.Gen

/-- A loss with what is not finite replaced by zero. -/
theorem guard_read (v : FVec Ideal S_ .f32) (j : S_.Idx) :
    (select (ori (cmpf .une v v) (cmpf .oeq (Host.absf v) (constant S_ .f32 0x7F800000#32))) (id (constant S_ .f32 0x00000000#32)) v : FVec Ideal S_ .f32) j
      = KernelIdeal.Val.guard (v ix0) := by
  have hj : j = ix0 := funext fun k => k.elim0
  subst hj
  rw [ValueIdx.select_apply]
  unfold KernelIdeal.Val.guard
  rw [← inf_eq, ← zero_eq]
  rfl

/-- The two losses side by side. -/
theorem pair_read (u v : FVec Ideal S_ .f32) :
    (concatenate S2 0 [⟨S1, (broadcastInDim S1 ![] bcast_S_S1 (select (ori (cmpf .une u u) (cmpf .oeq (Host.absf u) (constant S_ .f32 0x7F800000#32))) (id (constant S_ .f32 0x00000000#32)) u))⟩,
        ⟨S1, (broadcastInDim S1 ![] bcast_S_S1 (select (ori (cmpf .une v v) (cmpf .oeq (Host.absf v) (constant S_ .f32 0x7F800000#32))) (id (constant S_ .f32 0x00000000#32)) v))⟩]
      concatenates_S1_S1_S2_d0 : FVec Ideal S2 .f32)
    = fun i => if (i 0).val = 0 then KernelIdeal.Val.guard (u ix0) else KernelIdeal.Val.guard (v ix0) := by
  funext i
  rw [concatenate_pair_apply]
  by_cases h : (i 0).val = 0
  · rw [if_pos h, dif_pos (by show (i 0).val < 1; omega)]
    exact guard_read u _
  · rw [if_neg h, dif_neg (by show ¬ (i 0).val < 1; omega)]
    exact guard_read v _

/-- The reference's result is the kernel's. -/
theorem result_same [Cert.Pre_inputs_ok.Facts] {m : (ℓ : Loc Cert.KernelIdeal.nD Cert.KernelIdeal.τ Cert.KernelIdeal.sig) → Buf (Elt Ideal) ℓ}
    {c : Dev Cert.KernelIdeal.nD} {V0 : RefRun.Vals Ideal} (s : Same m c V0) :
    (concatenate S2 0 [⟨S1, (broadcastInDim S1 ![] bcast_S_S1 (select (ori (cmpf .une (RefRun.res_main_v213 V0) (RefRun.res_main_v213 V0)) (cmpf .oeq (Host.absf (RefRun.res_main_v213 V0)) (constant S_ .f32 0x7F800000#32))) (id (constant S_ .f32 0x00000000#32)) (RefRun.res_main_v213 V0)))⟩,
        ⟨S1, (broadcastInDim S1 ![] bcast_S_S1 (select (ori (cmpf .une (RefRun.res_main_v227 V0) (RefRun.res_main_v227 V0)) (cmpf .oeq (Host.absf (RefRun.res_main_v227 V0)) (constant S_ .f32 0x7F800000#32))) (id (constant S_ .f32 0x00000000#32)) (RefRun.res_main_v227 V0)))⟩]
      concatenates_S1_S1_S2_d0 : FVec Ideal S2 .f32) = result m c := by
  refine (pair_read (RefRun.res_main_v213 V0) (RefRun.res_main_v227 V0)).trans ?_
  funext i
  unfold result
  rw [v213_same s, v227_same s]
end Cert.Eq
-- ==== Proof.lean ====
/-
The claims of `proof/Defs.lean`: the kernel, its ideal form and the ideal reference each run to their end, leave their
arguments as they were and every semaphore counter at zero; idealizing rewrote nothing; and over the extended reals the
kernel's two losses are the reference's, for arguments that meet the precondition.
-/
module

public import proofs.«01_k».proof.Defs
public import proofs.«01_k».proof.Proof.Gen.Kernel.Frame
public import proofs.«01_k».proof.Proof.Gen.KernelIdeal.Frame
public import proofs.«01_k».proof.Proof.Eq.Result

@[expose] public section

noncomputable section

namespace Cert.Proof

open Idealize.ShloMosaic Idealize.SL.Sem

attribute [local instance] Cert.Kernel.Gen.facts Cert.KernelIdeal.Gen.facts Cert.ReferenceIdeal.Gen.facts Cert.Eq.pre_facts

/-- The reference leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.RefRun.run m ρ)

/-- From equal arguments that meet the precondition, the kernel and the reference end with equal results. -/
theorem value : Cert.algebraic_KernelIdeal_ReferenceIdeal_pre_inputs_ok := fun m g m' g' hok h =>
  ⟨Cert.KernelIdeal.Val.result m, Cert.KernelIdeal.Val.run_kernel m g,
    (θ_run Cert.ReferenceIdeal.defs _ _).mono (fun _ hr c => ⟨(hr c).1.trans (Cert.Eq.result_same
      { eY := (h c).1, eG := (h c).2.1, eL := (h c).2.2.1, eP := (h c).2.2.2.1, eA := (h c).2.2.2.2, ok := hok c }), (hr c).2⟩)
      (Cert.RefRun.run m' g')⟩

/-- Every claim of the certificate. -/
theorem claim : Cert.Claim :=
  ⟨Cert.Kernel.Gen.facts, Cert.KernelIdeal.Gen.facts, Cert.ReferenceIdeal.Gen.facts, Cert.Eq.pre_facts,
   fun m ρ _ => Cert.Kernel.Gen.frame m ρ, fun m ρ _ => Cert.KernelIdeal.Gen.frame m ρ, fun m ρ _ => Cert.KernelIdeal.Gen.frame m ρ,
   frame_reference, fun m ρ _ => frame_reference m ρ trivial, trivial, value⟩

end Cert.Proof

end
